-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Kernel.lean ====
abbrev S4x2048x4096 : Shape := ⟨3, ![4, 2048, 4096]⟩
abbrev S2x4x2048 : Shape := ⟨3, ![2, 4, 2048]⟩
abbrev S2x2048 : Shape := ⟨2, ![2, 2048]⟩
abbrev S2x2x8x256x256 : Shape := ⟨5, ![2, 2, 8, 256, 256]⟩
abbrev S2x2x2048 : Shape := ⟨3, ![2, 2, 2048]⟩
abbrev S2x4096x11008 : Shape := ⟨3, ![2, 4096, 11008]⟩
abbrev S1x4x2048 : Shape := ⟨3, ![1, 4, 2048]⟩
abbrev S4x2048 : Shape := ⟨2, ![4, 2048]⟩
abbrev S1x2048 : Shape := ⟨2, ![1, 2048]⟩
abbrev S2048 : Shape := ⟨1, ![2048]⟩
abbrev S1x2x8x256x256 : Shape := ⟨5, ![1, 2, 8, 256, 256]⟩
abbrev S2x8x256x256 : Shape := ⟨4, ![2, 8, 256, 256]⟩
abbrev S1x2x2048 : Shape := ⟨3, ![1, 2, 2048]⟩
abbrev S4x2048x2048 : Shape := ⟨3, ![4, 2048, 2048]⟩
abbrev S4096x11264 : Shape := ⟨2, ![4096, 11264]⟩
abbrev S1x2048x256 : Shape := ⟨3, ![1, 2048, 256]⟩
abbrev S4x256 : Shape := ⟨2, ![4, 256]⟩
abbrev S1x256 : Shape := ⟨2, ![1, 256]⟩
abbrev S2x1x256x256 : Shape := ⟨4, ![2, 1, 256, 256]⟩
abbrev S2x256 : Shape := ⟨2, ![2, 256]⟩
abbrev S1x4096x256 : Shape := ⟨3, ![1, 4096, 256]⟩
abbrev S4096x512 : Shape := ⟨2, ![4096, 512]⟩
abbrev S2048x256 : Shape := ⟨2, ![2048, 256]⟩
abbrev S2048x1 : Shape := ⟨2, ![2048, 1]⟩
abbrev S8x256 : Shape := ⟨2, ![8, 256]⟩
abbrev S1x1x256x256 : Shape := ⟨4, ![1, 1, 256, 256]⟩
abbrev S256x256 : Shape := ⟨2, ![256, 256]⟩
abbrev S4096x256 : Shape := ⟨2, ![4096, 256]⟩

abbrev nBuf : Space → Nat
  | .hbm => 28
  | .vmem => 29
  | .smem => 0
  | _ => 0

abbrev bufTy : (tb : Table) → Fin (tcTables nBuf tb) → BufTy
  | .hbm, ⟨0, _⟩ => ⟨S4x2048x4096, .f32⟩
  | .hbm, ⟨1, _⟩ => ⟨S2x4x2048, .f32⟩
  | .hbm, ⟨2, _⟩ => ⟨S2x2048, .f32⟩
  | .hbm, ⟨3, _⟩ => ⟨S2x2x8x256x256, .f32⟩
  | .hbm, ⟨4, _⟩ => ⟨S2x2x2048, .f32⟩
  | .hbm, ⟨5, _⟩ => ⟨S2x2x8x256x256, .f32⟩
  | .hbm, ⟨6, _⟩ => ⟨S2x2x2048, .f32⟩
  | .hbm, ⟨7, _⟩ => ⟨S2x2x2048, .f32⟩
  | .hbm, ⟨8, _⟩ => ⟨S2x4096x11008, .f32⟩
  | .hbm, ⟨9, _⟩ => ⟨S1x4x2048, .f32⟩
  | .hbm, ⟨10, _⟩ => ⟨S4x2048, .f32⟩
  | .hbm, ⟨11, _⟩ => ⟨S1x2048, .f32⟩
  | .hbm, ⟨12, _⟩ => ⟨S2048, .f32⟩
  | .hbm, ⟨13, _⟩ => ⟨S1x2x8x256x256, .f32⟩
  | .hbm, ⟨14, _⟩ => ⟨S2x8x256x256, .f32⟩
  | .hbm, ⟨15, _⟩ => ⟨S1x2x2048, .f32⟩
  | .hbm, ⟨16, _⟩ => ⟨S2x2048, .f32⟩
  | .hbm, ⟨17, _⟩ => ⟨S1x2x8x256x256, .f32⟩
  | .hbm, ⟨18, _⟩ => ⟨S2x8x256x256, .f32⟩
  | .hbm, ⟨19, _⟩ => ⟨S1x2x2048, .f32⟩
  | .hbm, ⟨20, _⟩ => ⟨S2x2048, .f32⟩
  | .hbm, ⟨21, _⟩ => ⟨S1x2x2048, .f32⟩
  | .hbm, ⟨22, _⟩ => ⟨S2x2048, .f32⟩
  | .hbm, ⟨23, _⟩ => ⟨S1x2048, .f32⟩
  | .hbm, ⟨24, _⟩ => ⟨S2x8x256x256, .bf16⟩
  | .hbm, ⟨25, _⟩ => ⟨S2x8x256x256, .bf16⟩
  | .hbm, ⟨26, _⟩ => ⟨S4x2048x2048, .bf16⟩
  | .hbm, ⟨27, _⟩ => ⟨S4096x11264, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2x1x256x256, .bf16⟩
  | .local _ .vmem, ⟨9, _⟩ => ⟨S2x1x256x256, .bf16⟩
  | .local _ .vmem, ⟨10, _⟩ => ⟨S2x1x256x256, .bf16⟩
  | .local _ .vmem, ⟨11, _⟩ => ⟨S2x1x256x256, .bf16⟩
  | .local _ .vmem, ⟨12, _⟩ => ⟨S2x256, .f32⟩
  | .local _ .vmem, ⟨13, _⟩ => ⟨S2x256, .f32⟩
  | .local _ .vmem, ⟨14, _⟩ => ⟨S2x256, .f32⟩
  | .local _ .vmem, ⟨15, _⟩ => ⟨S2x256, .f32⟩
  | .local _ .vmem, ⟨16, _⟩ => ⟨S2x256, .f32⟩
  | .local _ .vmem, ⟨17, _⟩ => ⟨S2x256, .f32⟩
  | .local _ .vmem, ⟨18, _⟩ => ⟨S1x4096x256, .f32⟩
  | .local _ .vmem, ⟨19, _⟩ => ⟨S1x4096x256, .f32⟩
  | .local _ .vmem, ⟨20, _⟩ => ⟨S1x4096x256, .f32⟩
  | .local _ .vmem, ⟨21, _⟩ => ⟨S1x4096x256, .f32⟩
  | .local _ .vmem, ⟨22, _⟩ => ⟨S1x2048x256, .bf16⟩
  | .local _ .vmem, ⟨23, _⟩ => ⟨S1x2048x256, .bf16⟩
  | .local _ .vmem, ⟨24, _⟩ => ⟨S4096x512, .bf16⟩
  | .local _ .vmem, ⟨25, _⟩ => ⟨S4096x512, .bf16⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c256_i32 : BitVec 32 := 256#32
  let v102 : BitVec 32 := Scalar.addi c0_i32 c256_i32
  let c1_i32_38 : BitVec 32 := 1#32
  ⟨c0_i32, v102, c1_i32_38⟩
def k0_mult1 (k0_t1 : Fin k0_t1_loop.trips) : BitVec 32 :=
  let c0_i32 : BitVec 32 := 0#32
  let c1_i32_38 : BitVec 32 := 1#32
  let arg18 : BitVec 32 := Scf.iv c0_i32 c1_i32_38 k0_t1
  let c8_i32_83 : BitVec 32 := 8#32
  let v187 : BitVec 32 := Scalar.muli arg18 c8_i32_83
  v187
def k0_off1 (k0_t1 : Fin k0_t1_loop.trips) : Fin 2 → Nat :=
  let c0_i32 : BitVec 32 := 0#32
  let c1_i32_38 : BitVec 32 := 1#32
  let arg18 : BitVec 32 := Scf.iv c0_i32 c1_i32_38 k0_t1
  let c8_i32_83 : BitVec 32 := 8#32
  let v187 : BitVec 32 := Scalar.muli arg18 c8_i32_83
  let v188 : BitVec 32 := v187
  let v189 : Index := Scalar.indexCast v188
  let c0_84 : Index := 0#32
  ![v189.toNat, 0]
@[reducible] def k0_t2_loop : Scf.Loop 32 :=
  let c0_i32_66 : BitVec 32 := 0#32
  let c256_i32_67 : BitVec 32 := 256#32
  let v159 : BitVec 32 := Scalar.addi c0_i32_66 c256_i32_67
  let c1_i32_68 : BitVec 32 := 1#32
  ⟨c0_i32_66, v159, c1_i32_68⟩
def k0_mult2 (k0_t2 : Fin k0_t2_loop.trips) : BitVec 32 :=
  let c255_i32 : BitVec 32 := 255#32
  let c0_i32_66 : BitVec 32 := 0#32
  let c1_i32_68 : BitVec 32 := 1#32
  let arg18 : BitVec 32 := Scf.iv c0_i32_66 c1_i32_68 k0_t2
  let v187 : BitVec 32 := Scalar.subi c255_i32 arg18
  let c8_i32_83 : BitVec 32 := 8#32
  let v188 : BitVec 32 := Scalar.muli v187 c8_i32_83
  v188
def k0_off2 (k0_t2 : Fin k0_t2_loop.trips) : Fin 2 → Nat :=
  let c255_i32 : BitVec 32 := 255#32
  let c0_i32_66 : BitVec 32 := 0#32
  let c1_i32_68 : BitVec 32 := 1#32
  let arg18 : BitVec 32 := Scf.iv c0_i32_66 c1_i32_68 k0_t2
  let v187 : BitVec 32 := Scalar.subi c255_i32 arg18
  let c8_i32_83 : BitVec 32 := 8#32
  let v188 : BitVec 32 := Scalar.muli v187 c8_i32_83
  let v189 : BitVec 32 := v188
  let v190 : Index := Scalar.indexCast v189
  let c0_84 : Index := 0#32
  ![v190.toNat, 0]
def k0_cond1 (i : grid0.Coords) : BitVec 1 :=
  let arg0 : BitVec 32 := BitVec.ofNat 32 (i 0).val
  let c8_i32 : BitVec 32 := 8#32
  let v182 : BitVec 32 := Scalar.muli arg0 c8_i32
  let arg1 : BitVec 32 := BitVec.ofNat 32 (i 1).val
  let v183 : BitVec 32 := Scalar.addi v182 arg1
  let c22_i32 : BitVec 32 := 22#32
  let v184 : BitVec 1 := Scalar.cmpi .slt v183 c22_i32
  let v185 : BitVec 32 := Scalar.extui v184
  let c0_i32_82 : BitVec 32 := 0#32
  let v186 : BitVec 1 := Scalar.cmpi .ne v185 c0_i32_82
  v186

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c21_i32 : BitVec 32 := 21#32
  let v2 : BitVec 32 := Scalar.minsi v1 c21_i32
  let c2_i32 : BitVec 32 := 2#32
  let v3 : BitVec 32 := Scalar.muli v2 c2_i32
  let c0_i32 : BitVec 32 := 0#32
  let v4 : BitVec 32 := Scalar.addi v3 c0_i32
  let c42_i32 : BitVec 32 := 42#32
  let v5 : BitVec 32 := Scalar.minsi v4 c42_i32
  let c0_i32_0 : BitVec 32 := 0#32
  let c0_i32_1 : BitVec 32 := 0#32
  let c0_i32_2 : BitVec 32 := 0#32
  ![c0_i32_0.toNat, c0_i32_1.toNat, v5.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c21_i32 : BitVec 32 := 21#32
  let v2 : BitVec 32 := Scalar.minsi v1 c21_i32
  let c2_i32 : BitVec 32 := 2#32
  let v3 : BitVec 32 := Scalar.muli v2 c2_i32
  let c1_i32 : BitVec 32 := 1#32
  let v4 : BitVec 32 := Scalar.addi v3 c1_i32
  let c42_i32 : BitVec 32 := 42#32
  let v5 : BitVec 32 := Scalar.minsi v4 c42_i32
  let c0_i32 : BitVec 32 := 0#32
  let c0_i32_0 : BitVec 32 := 0#32
  let c0_i32_1 : BitVec 32 := 0#32
  ![c0_i32.toNat, c0_i32_0.toNat, v5.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![c0_i32.toNat, v2.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x2048x4096 : Shape := ⟨3, ![4, 2048, 4096]⟩
abbrev S2x4x2048 : Shape := ⟨3, ![2, 4, 2048]⟩
abbrev S2x2048 : Shape := ⟨2, ![2, 2048]⟩
abbrev S2x2x8x256x256 : Shape := ⟨5, ![2, 2, 8, 256, 256]⟩
abbrev S2x2x2048 : Shape := ⟨3, ![2, 2, 2048]⟩
abbrev S2x4096x11008 : Shape := ⟨3, ![2, 4096, 11008]⟩
abbrev S4x2048x2048 : Shape := ⟨3, ![4, 2048, 2048]⟩
abbrev S1x4x2048 : Shape := ⟨3, ![1, 4, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4x2051x2048 : Shape := ⟨3, ![4, 2051, 2048]⟩
abbrev S1x1x2048 : Shape := ⟨3, ![1, 1, 2048]⟩
abbrev S1x1x8x256x256 : Shape := ⟨5, ![1, 1, 8, 256, 256]⟩
abbrev S8x256x256 : Shape := ⟨3, ![8, 256, 256]⟩
abbrev S4x2048x8x256 : Shape := ⟨4, ![4, 2048, 8, 256]⟩
abbrev S8x256x4x2048 : Shape := ⟨4, ![8, 256, 4, 2048]⟩
abbrev S4x1x2048 : Shape := ⟨3, ![4, 1, 2048]⟩
abbrev S1x4096x11008 : Shape := ⟨3, ![1, 4096, 11008]⟩
abbrev S4096x11008 : Shape := ⟨2, ![4096, 11008]⟩
abbrev S4096x11264 : Shape := ⟨2, ![4096, 11264]⟩

abbrev nBuf : Space → Nat
  | .hbm => 258
  | .vmem => 0
  | .smem => 0
  | _ => 0

abbrev hbmTy0_0 (i : Nat) : BufTy := match i % 128 with
  | 0 => ⟨S4x2048x4096, .f32⟩
  | 1 => ⟨S2x4x2048, .f32⟩
  | 2 => ⟨S2x2048, .f32⟩
  | 3 => ⟨S2x2x8x256x256, .f32⟩
  | 4 => ⟨S2x2x2048, .f32⟩
  | 5 => ⟨S2x2x8x256x256, .f32⟩
  | 6 => ⟨S2x2x2048, .f32⟩
  | 7 => ⟨S2x2x2048, .f32⟩
  | 8 => ⟨S2x4096x11008, .f32⟩
  | 9 => ⟨S4x2048x2048, .f32⟩
  | 10 => ⟨S1x4x2048, .f32⟩
  | 11 => ⟨S4x2048, .f32⟩
  | 12 => ⟨S1x2048, .f32⟩
  | 13 => ⟨S2048, .f32⟩
  | 14 => ⟨S_, .i32⟩
  | 15 => ⟨S_, .f32⟩
  | 16 => ⟨S4x2051x2048, .f32⟩
  | 17 => ⟨S4x2048x2048, .f32⟩
  | 18 => ⟨S1x2048, .f32⟩
  | 19 => ⟨S2048, .f32⟩
  | 20 => ⟨S1x1x2048, .f32⟩
  | 21 => ⟨S4x2048x2048, .f32⟩
  | 22 => ⟨S4x2048x2048, .f32⟩
  | 23 => ⟨S4x2048x2048, .f32⟩
  | 24 => ⟨S1x2048, .f32⟩
  | 25 => ⟨S2048, .f32⟩
  | 26 => ⟨S1x1x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S1x2048, .f32⟩
  | 32 => ⟨S2048, .f32⟩
  | 33 => ⟨S1x1x2048, .f32⟩
  | 34 => ⟨S4x2048x2048, .f32⟩
  | 35 => ⟨S4x2048x2048, .f32⟩
  | 36 => ⟨S4x2048x2048, .f32⟩
  | 37 => ⟨S4x2048x2048, .f32⟩
  | 38 => ⟨S1x2048, .f32⟩
  | 39 => ⟨S2048, .f32⟩
  | 40 => ⟨S1x1x2048, .f32⟩
  | 41 => ⟨S4x2048x2048, .f32⟩
  | 42 => ⟨S4x2048x2048, .f32⟩
  | 43 => ⟨S4x2048x2048, .f32⟩
  | 44 => ⟨S1x1x2048, .f32⟩
  | 45 => ⟨S4x2048x2048, .f32⟩
  | 46 => ⟨S4x2048x2048, .f32⟩
  | 47 => ⟨S1x1x8x256x256, .f32⟩
  | 48 => ⟨S8x256x256, .f32⟩
  | 49 => ⟨S1x1x2048, .f32⟩
  | 50 => ⟨S2048, .f32⟩
  | 51 => ⟨S1x1x8x256x256, .f32⟩
  | 52 => ⟨S8x256x256, .f32⟩
  | 53 => ⟨S1x1x2048, .f32⟩
  | 54 => ⟨S2048, .f32⟩
  | 55 => ⟨S1x1x2048, .f32⟩
  | 56 => ⟨S2048, .f32⟩
  | 57 => ⟨S4x2048x8x256, .f32⟩
  | 58 => ⟨S8x256x4x2048, .f32⟩
  | 59 => ⟨S4x2048x8x256, .f32⟩
  | 60 => ⟨S4x2048x2048, .f32⟩
  | 61 => ⟨S1x1x2048, .f32⟩
  | 62 => ⟨S4x2048x2048, .f32⟩
  | 63 => ⟨S4x2048x2048, .f32⟩
  | 64 => ⟨S4x2048x2048, .f32⟩
  | 65 => ⟨S4x2048x2048, .f32⟩
  | 66 => ⟨S_, .f32⟩
  | 67 => ⟨S4x2048x2048, .f32⟩
  | 68 => ⟨S4x2048x2048, .f32⟩
  | 69 => ⟨S_, .f32⟩
  | 70 => ⟨S4x2048x2048, .f32⟩
  | 71 => ⟨S4x2048x2048, .f32⟩
  | 72 => ⟨S8x256x4x2048, .f32⟩
  | 73 => ⟨S4x2048x8x256, .f32⟩
  | 74 => ⟨S4x2048x2048, .f32⟩
  | 75 => ⟨S1x1x2048, .f32⟩
  | 76 => ⟨S4x2048x2048, .f32⟩
  | 77 => ⟨S4x2048x2048, .f32⟩
  | 78 => ⟨S4x2048x2048, .f32⟩
  | 79 => ⟨S4x2048x2048, .f32⟩
  | 80 => ⟨S_, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .f32⟩
  | 86 => ⟨S_, .f32⟩
  | 87 => ⟨S4x2048x2048, .f32⟩
  | 88 => ⟨S4x2048x2048, .f32⟩
  | 89 => ⟨S2048, .f32⟩
  | 90 => ⟨S_, .f32⟩
  | 91 => ⟨S2048, .f32⟩
  | 92 => ⟨S2048, .f32⟩
  | 93 => ⟨S2048, .f32⟩
  | 94 => ⟨S2048, .f32⟩
  | 95 => ⟨S2048, .i1⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S1x1x2048, .f32⟩
  | 105 => ⟨S4x2048x2048, .f32⟩
  | 106 => ⟨S4x2048x2048, .f32⟩
  | 107 => ⟨S4x2048x2048, .f32⟩
  | 108 => ⟨S_, .f32⟩
  | 109 => ⟨S4x2048x2048, .f32⟩
  | 110 => ⟨S4x2048x2048, .f32⟩
  | 111 => ⟨S4x2048x2048, .f32⟩
  | 112 => ⟨S4x2048x2048, .f32⟩
  | 113 => ⟨S4x2048x2048, .f32⟩
  | 114 => ⟨S4x2048x2048, .f32⟩
  | 115 => ⟨S4x2048x2048, .f32⟩
  | 116 => ⟨S1x1x8x256x256, .f32⟩
  | 117 => ⟨S8x256x256, .f32⟩
  | 118 => ⟨S1x1x2048, .f32⟩
  | 119 => ⟨S2048, .f32⟩
  | 120 => ⟨S1x1x8x256x256, .f32⟩
  | 121 => ⟨S8x256x256, .f32⟩
  | 122 => ⟨S1x1x2048, .f32⟩
  | 123 => ⟨S2048, .f32⟩
  | 124 => ⟨S1x1x2048, .f32⟩
  | 125 => ⟨S2048, .f32⟩
  | 126 => ⟨S4x2048x8x256, .f32⟩
  | 127 => ⟨S8x256x4x2048, .f32⟩
  | _ => ⟨S4x2048x4096, .f32⟩

abbrev hbmTy0_1 (i : Nat) : BufTy := match i % 128 with
  | 0 => ⟨S4x2048x8x256, .f32⟩
  | 1 => ⟨S4x2048x2048, .f32⟩
  | 2 => ⟨S1x1x2048, .f32⟩
  | 3 => ⟨S4x2048x2048, .f32⟩
  | 4 => ⟨S4x2048x2048, .f32⟩
  | 5 => ⟨S4x2048x2048, .f32⟩
  | 6 => ⟨S4x2048x2048, .f32⟩
  | 7 => ⟨S_, .f32⟩
  | 8 => ⟨S4x2048x2048, .f32⟩
  | 9 => ⟨S4x2048x2048, .f32⟩
  | 10 => ⟨S_, .f32⟩
  | 11 => ⟨S4x2048x2048, .f32⟩
  | 12 => ⟨S4x2048x2048, .f32⟩
  | 13 => ⟨S8x256x4x2048, .f32⟩
  | 14 => ⟨S4x2048x8x256, .f32⟩
  | 15 => ⟨S4x2048x2048, .f32⟩
  | 16 => ⟨S1x1x2048, .f32⟩
  | 17 => ⟨S4x2048x2048, .f32⟩
  | 18 => ⟨S4x2048x2048, .f32⟩
  | 19 => ⟨S4x2048x2048, .f32⟩
  | 20 => ⟨S4x2048x2048, .f32⟩
  | 21 => ⟨S_, .f32⟩
  | 22 => ⟨S4x2048x2048, .f32⟩
  | 23 => ⟨S4x2048x2048, .f32⟩
  | 24 => ⟨S_, .f32⟩
  | 25 => ⟨S4x2048x2048, .f32⟩
  | 26 => ⟨S4x2048x2048, .f32⟩
  | 27 => ⟨S_, .f32⟩
  | 28 => ⟨S4x2048x2048, .f32⟩
  | 29 => ⟨S4x2048x2048, .f32⟩
  | 30 => ⟨S2048, .f32⟩
  | 31 => ⟨S_, .f32⟩
  | 32 => ⟨S2048, .f32⟩
  | 33 => ⟨S2048, .f32⟩
  | 34 => ⟨S2048, .f32⟩
  | 35 => ⟨S2048, .f32⟩
  | 36 => ⟨S2048, .i1⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S1x1x2048, .f32⟩
  | 46 => ⟨S4x2048x2048, .f32⟩
  | 47 => ⟨S4x2048x2048, .f32⟩
  | 48 => ⟨S4x2048x2048, .f32⟩
  | 49 => ⟨S_, .f32⟩
  | 50 => ⟨S4x2048x2048, .f32⟩
  | 51 => ⟨S4x2048x2048, .f32⟩
  | 52 => ⟨S4x2048x2048, .f32⟩
  | 53 => ⟨S4x2048x2048, .f32⟩
  | 54 => ⟨S4x2048x2048, .f32⟩
  | 55 => ⟨S4x2048x2048, .f32⟩
  | 56 => ⟨S4x2048x2048, .f32⟩
  | 57 => ⟨S_, .f32⟩
  | 58 => ⟨S4x1x2048, .f32⟩
  | 59 => ⟨S_, .f32⟩
  | 60 => ⟨S4x2048x2048, .f32⟩
  | 61 => ⟨S_, .i32⟩
  | 62 => ⟨S_, .i32⟩
  | 63 => ⟨S4x2048x2048, .f32⟩
  | 64 => ⟨S4x2048x2048, .f32⟩
  | 65 => ⟨S4x2048x2048, .f32⟩
  | 66 => ⟨S4x2048x2048, .f32⟩
  | 67 => ⟨S_, .i32⟩
  | 68 => ⟨S_, .i32⟩
  | 69 => ⟨S4x1x2048, .f32⟩
  | 70 => ⟨S4x1x2048, .f32⟩
  | 71 => ⟨S4x2048x2048, .f32⟩
  | 72 => ⟨S4x2048x2048, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S4x1x2048, .f32⟩
  | 82 => ⟨S4x1x2048, .f32⟩
  | 83 => ⟨S_, .i32⟩
  | 84 => ⟨S_, .i32⟩
  | 85 => ⟨S4x1x2048, .f32⟩
  | 86 => ⟨S4x1x2048, .f32⟩
  | 87 => ⟨S_, .i32⟩
  | 88 => ⟨S_, .i32⟩
  | 89 => ⟨S4x1x2048, .f32⟩
  | 90 => ⟨S4x1x2048, .f32⟩
  | 91 => ⟨S_, .i32⟩
  | 92 => ⟨S_, .i32⟩
  | 93 => ⟨S4x1x2048, .f32⟩
  | 94 => ⟨S4x1x2048, .f32⟩
  | 95 => ⟨S_, .i32⟩
  | 96 => ⟨S_, .i32⟩
  | 97 => ⟨S4x2048x2048, .f32⟩
  | 98 => ⟨S_, .i32⟩
  | 99 => ⟨S_, .i32⟩
  | 100 => ⟨S4x2048x2048, .f32⟩
  | 101 => ⟨S_, .i32⟩
  | 102 => ⟨S_, .i32⟩
  | 103 => ⟨S4x2048x2048, .f32⟩
  | 104 => ⟨S4x2048x2048, .f32⟩
  | 105 => ⟨S4x2048x2048, .f32⟩
  | 106 => ⟨S4x2048x2048, .f32⟩
  | 107 => ⟨S_, .f32⟩
  | 108 => ⟨S4x2048x2048, .f32⟩
  | 109 => ⟨S4x2048x2048, .f32⟩
  | 110 => ⟨S4x2048x2048, .f32⟩
  | 111 => ⟨S_, .f32⟩
  | 112 => ⟨S4x2048x2048, .f32⟩
  | 113 => ⟨S4x2048x2048, .f32⟩
  | 114 => ⟨S4x2048x2048, .f32⟩
  | 115 => ⟨S_, .f32⟩
  | 116 => ⟨S4x2048x2048, .f32⟩
  | 117 => ⟨S4x2048x2048, .f32⟩
  | 118 => ⟨S_, .f32⟩
  | 119 => ⟨S4x2048x2048, .f32⟩
  | 120 => ⟨S4x2048x2048, .f32⟩
  | 121 => ⟨S4x2048x2048, .f32⟩
  | 122 => ⟨S4x2048x2048, .f32⟩
  | 123 => ⟨S4x2048x2048, .bf16⟩
  | 124 => ⟨S1x4096x11008, .f32⟩
  | 125 => ⟨S4096x11008, .f32⟩
  | 126 => ⟨S4096x11008, .bf16⟩
  | 127 => ⟨S_, .i32⟩
  | _ => ⟨S4x2048x4096, .f32⟩

abbrev hbmTy0_2 (i : Nat) : BufTy := match i % 128 with
  | 0 => ⟨S_, .bf16⟩
  | 1 => ⟨S4096x11264, .bf16⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst : Ref sig .tc := ⟨.hbm, 66, rfl⟩
abbrev main_v55 : Ref sig .tc := ⟨.hbm, 67, rfl⟩
abbrev main_v56 : Ref sig .tc := ⟨.hbm, 68, rfl⟩
abbrev main_cst_0 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_1 : Ref sig .tc := ⟨.hbm, 80, rfl⟩
abbrev main_v67 : Ref sig .tc := ⟨.hbm, 81, rfl⟩
abbrev main_v68 : Ref sig .tc := ⟨.hbm, 82, rfl⟩
abbrev main_cst_2 : Ref sig .tc := ⟨.hbm, 83, rfl⟩
abbrev main_v69 : Ref sig .tc := ⟨.hbm, 84, rfl⟩
abbrev main_v70 : Ref sig .tc := ⟨.hbm, 85, rfl⟩
abbrev main_cst_3 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_4 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_5 : Ref sig .tc := ⟨.hbm, 135, rfl⟩
abbrev main_v105 : Ref sig .tc := ⟨.hbm, 136, rfl⟩
abbrev main_v106 : Ref sig .tc := ⟨.hbm, 137, rfl⟩
abbrev main_cst_6 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_7 : Ref sig .tc := ⟨.hbm, 149, rfl⟩
abbrev main_v117 : Ref sig .tc := ⟨.hbm, 150, rfl⟩
abbrev main_v118 : Ref sig .tc := ⟨.hbm, 151, rfl⟩
abbrev main_cst_8 : Ref sig .tc := ⟨.hbm, 152, rfl⟩
abbrev main_v119 : Ref sig .tc := ⟨.hbm, 153, rfl⟩
abbrev main_v120 : Ref sig .tc := ⟨.hbm, 154, rfl⟩
abbrev main_cst_9 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_v8 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_10 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_11 : Ref sig .tc := ⟨.hbm, 185, rfl⟩
abbrev main_v136 : Ref sig .tc := ⟨.hbm, 186, rfl⟩
abbrev main_cst_12 : Ref sig .tc := ⟨.hbm, 187, rfl⟩
abbrev main_v137 : Ref sig .tc := ⟨.hbm, 188, rfl⟩
abbrev main_c_13 : Ref sig .tc := ⟨.hbm, 189, rfl⟩
abbrev main_c_14 : Ref sig .tc := ⟨.hbm, 190, rfl⟩
abbrev main_v138_0 : Ref sig .tc := ⟨.hbm, 191, rfl⟩
abbrev main_v138_1 : Ref sig .tc := ⟨.hbm, 192, rfl⟩
abbrev main_v138_2 : Ref sig .tc := ⟨.hbm, 193, rfl⟩
abbrev main_v138_3 : Ref sig .tc := ⟨.hbm, 194, rfl⟩
abbrev main_v138_4 : Ref sig .tc := ⟨.hbm, 195, rfl⟩
abbrev main_v138_5 : Ref sig .tc := ⟨.hbm, 196, rfl⟩
abbrev main_v138_6 : Ref sig .tc := ⟨.hbm, 197, rfl⟩
abbrev main_v138_7 : Ref sig .tc := ⟨.hbm, 198, rfl⟩
abbrev main_v138_8 : Ref sig .tc := ⟨.hbm, 199, rfl⟩
abbrev main_v138_9 : Ref sig .tc := ⟨.hbm, 200, rfl⟩
abbrev main_while0c_c_29 : Ref sig .tc := ⟨.hbm, 201, rfl⟩
abbrev main_while0c_v160 : Ref sig .tc := ⟨.hbm, 202, rfl⟩
abbrev main_while0b_c_29 : Ref sig .tc := ⟨.hbm, 203, rfl⟩
abbrev main_while0b_v160 : Ref sig .tc := ⟨.hbm, 204, rfl⟩
abbrev main_while0b_c_30 : Ref sig .tc := ⟨.hbm, 205, rfl⟩
abbrev main_while0b_v161 : Ref sig .tc := ⟨.hbm, 206, rfl⟩
abbrev main_while0b_c_31 : Ref sig .tc := ⟨.hbm, 207, rfl⟩
abbrev main_while0b_c_32 : Ref sig .tc := ⟨.hbm, 208, rfl⟩
abbrev main_while0b_v162 : Ref sig .tc := ⟨.hbm, 209, rfl⟩
abbrev main_while0b_v163 : Ref sig .tc := ⟨.hbm, 210, rfl⟩
abbrev main_while0b_c_33 : Ref sig .tc := ⟨.hbm, 211, rfl⟩
abbrev main_while0b_c_34 : Ref sig .tc := ⟨.hbm, 212, rfl⟩
abbrev main_while0b_v164 : Ref sig .tc := ⟨.hbm, 213, rfl⟩
abbrev main_while0b_v165 : Ref sig .tc := ⟨.hbm, 214, rfl⟩
abbrev main_while0b_c_35 : Ref sig .tc := ⟨.hbm, 215, rfl⟩
abbrev main_while0b_c_36 : Ref sig .tc := ⟨.hbm, 216, rfl⟩
abbrev main_while0b_v166 : Ref sig .tc := ⟨.hbm, 217, rfl⟩
abbrev main_while0b_v167 : Ref sig .tc := ⟨.hbm, 218, rfl⟩
abbrev main_while0b_c_37 : Ref sig .tc := ⟨.hbm, 219, rfl⟩
abbrev main_while0b_c_38 : Ref sig .tc := ⟨.hbm, 220, rfl⟩
abbrev main_while0b_v168 : Ref sig .tc := ⟨.hbm, 221, rfl⟩
abbrev main_while0b_v169 : Ref sig .tc := ⟨.hbm, 222, rfl⟩
abbrev main_while0b_c_39 : Ref sig .tc := ⟨.hbm, 223, rfl⟩
abbrev main_while0b_c_40 : Ref sig .tc := ⟨.hbm, 224, rfl⟩
abbrev main_while0b_v170 : Ref sig .tc := ⟨.hbm, 225, rfl⟩
abbrev main_while0b_c_41 : Ref sig .tc := ⟨.hbm, 226, rfl⟩
abbrev main_while0b_c_42 : Ref sig .tc := ⟨.hbm, 227, rfl⟩
abbrev main_while0b_v171 : Ref sig .tc := ⟨.hbm, 228, rfl⟩
abbrev main_while0b_c_43 : Ref sig .tc := ⟨.hbm, 229, rfl⟩
abbrev main_while0b_v172 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_cst_15 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_cst_16 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_cst_17 : Ref sig .tc := ⟨.hbm, 243, rfl⟩
abbrev main_v149 : Ref sig .tc := ⟨.hbm, 244, rfl⟩
abbrev main_v150 : Ref sig .tc := ⟨.hbm, 245, rfl⟩
abbrev main_cst_18 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_c_19 : Ref sig .tc := ⟨.hbm, 255, rfl⟩
abbrev main_call3_v0 : Ref sig .tc := ⟨.hbm, 256, rfl⟩
abbrev main_v159 : Ref sig .tc := ⟨.hbm, 257, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8192x4096 : Shape := ⟨2, ![8192, 4096]⟩
abbrev S4096x16384 : Shape := ⟨2, ![4096, 16384]⟩
abbrev S2x12288 : Shape := ⟨2, ![2, 12288]⟩
abbrev S1x12288 : Shape := ⟨2, ![1, 12288]⟩
abbrev S12288 : Shape := ⟨1, ![12288]⟩
abbrev S8192x12288 : Shape := ⟨2, ![8192, 12288]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S2x12288, .f32⟩
  | .hbm, ⟨3, _⟩ => ⟨S1x12288, .f32⟩
  | .hbm, ⟨4, _⟩ => ⟨S12288, .f32⟩
  | .hbm, ⟨5, _⟩ => ⟨S1x12288, .f32⟩
  | .hbm, ⟨6, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S4096x16384 : Shape := ⟨2, ![4096, 16384]⟩
abbrev S2x12288 : Shape := ⟨2, ![2, 12288]⟩
abbrev S4096x12288 : Shape := ⟨2, ![4096, 12288]⟩
abbrev S8192x12288 : Shape := ⟨2, ![8192, 12288]⟩
abbrev S1x12288 : Shape := ⟨2, ![1, 12288]⟩
abbrev S12288 : Shape := ⟨1, ![12288]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S2x12288, .f32⟩
  | .hbm, ⟨3, _⟩ => ⟨S8192x4096, .f32⟩
  | .hbm, ⟨4, _⟩ => ⟨S4096x12288, .bf16⟩
  | .hbm, ⟨5, _⟩ => ⟨S4096x12288, .f32⟩
  | .hbm, ⟨6, _⟩ => ⟨S8192x12288, .f32⟩
  | .hbm, ⟨7, _⟩ => ⟨S1x12288, .f32⟩
  | .hbm, ⟨8, _⟩ => ⟨S12288, .f32⟩
  | .hbm, ⟨9, _⟩ => ⟨S1x12288, .f32⟩
  | .hbm, ⟨10, _⟩ => ⟨S8192x12288, .f32⟩
  | .hbm, ⟨11, _⟩ => ⟨S8192x12288, .f32⟩
  | .hbm, ⟨12, _⟩ => ⟨S8192x12288, .f32⟩
  | .hbm, ⟨13, _⟩ => ⟨S8192x12288, .f32⟩
  | .hbm, ⟨14, _⟩ => ⟨S_, .f32⟩
  | .hbm, ⟨15, _⟩ => ⟨S8192x12288, .f32⟩
  | .hbm, ⟨16, _⟩ => ⟨S8192x12288, .f32⟩
  | .hbm, ⟨17, _⟩ => ⟨S_, .f32⟩
  | .hbm, ⟨18, _⟩ => ⟨S8192x12288, .f32⟩
  | .hbm, ⟨19, _⟩ => ⟨S8192x12288, .f32⟩
  | .hbm, ⟨20, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel3.lean ====
abbrev S8192x4096 : Shape := ⟨2, ![8192, 4096]⟩
abbrev S4096x11264 : Shape := ⟨2, ![4096, 11264]⟩
abbrev S2x11008x4096 : Shape := ⟨3, ![2, 11008, 4096]⟩
abbrev S8192x11264 : Shape := ⟨2, ![8192, 11264]⟩
abbrev S11264x4096 : Shape := ⟨2, ![11264, 4096]⟩
abbrev S1024x4096 : Shape := ⟨2, ![1024, 4096]⟩
abbrev S4096x512 : Shape := ⟨2, ![4096, 512]⟩
abbrev S1x128x4096 : Shape := ⟨3, ![1, 128, 4096]⟩
abbrev S1024x512 : Shape := ⟨2, ![1024, 512]⟩
abbrev S128x4096 : Shape := ⟨2, ![128, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x11264, .bf16⟩
  | .hbm, ⟨2, _⟩ => ⟨S4096x11264, .bf16⟩
  | .hbm, ⟨3, _⟩ => ⟨S2x11008x4096, .f32⟩
  | .hbm, ⟨4, _⟩ => ⟨S8192x11264, .bf16⟩
  | .hbm, ⟨5, _⟩ => ⟨S11264x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x128x4096, .f32⟩
  | .local _ .vmem, ⟨7, _⟩ => ⟨S1x128x4096, .f32⟩
  | .local _ .vmem, ⟨8, _⟩ => ⟨S1024x512, .bf16⟩
  | .local _ .vmem, ⟨9, _⟩ => ⟨S1024x512, .bf16⟩
  | .local _ .vmem, ⟨10, _⟩ => ⟨S128x4096, .bf16⟩
  | .local _ .vmem, ⟨11, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg0 : BitVec 32 := BitVec.ofNat 32 (i 0).val
  let c22_i32 : BitVec 32 := 22#32
  let v10 : BitVec 32 := Scalar.muli arg0 c22_i32
  let arg1 : BitVec 32 := BitVec.ofNat 32 (i 1).val
  let v11 : BitVec 32 := Scalar.addi v10 arg1
  let c88_i32 : BitVec 32 := 88#32
  let v12 : BitVec 1 := Scalar.cmpi .slt v11 c88_i32
  let v13 : BitVec 32 := Scalar.extui v12
  let c0_i32 : BitVec 32 := 0#32
  let v14 : BitVec 1 := Scalar.cmpi .ne v13 c0_i32
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c87_i32 : BitVec 32 := 87#32
  let v2 : BitVec 32 := Scalar.minsi v1 c87_i32
  let c1_i32 : BitVec 32 := 1#32
  let v3 : BitVec 32 := Scalar.muli v2 c1_i32
  let c0_i32 : BitVec 32 := 0#32
  let v4 : BitVec 32 := Scalar.addi v3 c0_i32
  let c85_i32 : BitVec 32 := 85#32
  let v5 : BitVec 32 := Scalar.minsi v4 c85_i32
  let c0_i32_0 : BitVec 32 := 0#32
  let c0_i32_1 : BitVec 32 := 0#32
  let c0_i32_2 : BitVec 32 := 0#32
  ![c0_i32_0.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x4096 : Shape := ⟨2, ![8192, 4096]⟩
abbrev S4096x11264 : Shape := ⟨2, ![4096, 11264]⟩
abbrev S2x11008x4096 : Shape := ⟨3, ![2, 11008, 4096]⟩
abbrev S8192x11264 : Shape := ⟨2, ![8192, 11264]⟩
abbrev S_ : Shape := ⟨0, ![]⟩
abbrev S1x11008x4096 : Shape := ⟨3, ![1, 11008, 4096]⟩
abbrev S11008x4096 : Shape := ⟨2, ![11008, 4096]⟩
abbrev S11264x4096 : Shape := ⟨2, ![11264, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11264, .bf16⟩
  | .hbm, ⟨2, _⟩ => ⟨S4096x11264, .bf16⟩
  | .hbm, ⟨3, _⟩ => ⟨S2x11008x4096, .f32⟩
  | .hbm, ⟨4, _⟩ => ⟨S8192x4096, .f32⟩
  | .hbm, ⟨5, _⟩ => ⟨S4096x11264, .f32⟩
  | .hbm, ⟨6, _⟩ => ⟨S8192x11264, .f32⟩
  | .hbm, ⟨7, _⟩ => ⟨S8192x11264, .f32⟩
  | .hbm, ⟨8, _⟩ => ⟨S8192x11264, .f32⟩
  | .hbm, ⟨9, _⟩ => ⟨S_, .f32⟩
  | .hbm, ⟨10, _⟩ => ⟨S8192x11264, .f32⟩
  | .hbm, ⟨11, _⟩ => ⟨S8192x11264, .f32⟩
  | .hbm, ⟨12, _⟩ => ⟨S_, .f32⟩
  | .hbm, ⟨13, _⟩ => ⟨S8192x11264, .f32⟩
  | .hbm, ⟨14, _⟩ => ⟨S8192x11264, .f32⟩
  | .hbm, ⟨15, _⟩ => ⟨S8192x11264, .f32⟩
  | .hbm, ⟨16, _⟩ => ⟨S4096x11264, .f32⟩
  | .hbm, ⟨17, _⟩ => ⟨S8192x11264, .f32⟩
  | .hbm, ⟨18, _⟩ => ⟨S8192x11264, .f32⟩
  | .hbm, ⟨19, _⟩ => ⟨S8192x11264, .bf16⟩
  | .hbm, ⟨20, _⟩ => ⟨S1x11008x4096, .f32⟩
  | .hbm, ⟨21, _⟩ => ⟨S11008x4096, .f32⟩
  | .hbm, ⟨22, _⟩ => ⟨S11008x4096, .bf16⟩
  | .hbm, ⟨23, _⟩ => ⟨S_, .i32⟩
  | .hbm, ⟨24, _⟩ => ⟨S_, .bf16⟩
  | .hbm, ⟨25, _⟩ => ⟨S11264x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call1_v0 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Kernel4.lean ====
abbrev S8192x11264 : Shape := ⟨2, ![8192, 11264]⟩
abbrev S11264x4096 : Shape := ⟨2, ![11264, 4096]⟩
abbrev S8192x4096 : Shape := ⟨2, ![8192, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x11264, .bf16⟩
  | .hbm, ⟨1, _⟩ => ⟨S11264x4096, .bf16⟩
  | .hbm, ⟨2, _⟩ => ⟨S8192x4096, .f32⟩
  | .hbm, ⟨3, _⟩ => ⟨S8192x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x11264 : Shape := ⟨2, ![8192, 11264]⟩
abbrev S11264x4096 : Shape := ⟨2, ![11264, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S11264x4096, .bf16⟩
  | .hbm, ⟨2, _⟩ => ⟨S8192x4096, .f32⟩
  | .hbm, ⟨3, _⟩ => ⟨S8192x11264, .f32⟩
  | .hbm, ⟨4, _⟩ => ⟨S11264x4096, .f32⟩
  | .hbm, ⟨5, _⟩ => ⟨S8192x4096, .f32⟩
  | .hbm, ⟨6, _⟩ => ⟨S8192x4096, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S2048x4096 : Shape := ⟨2, ![2048, 4096]⟩
abbrev S8192x12288 : Shape := ⟨2, ![8192, 12288]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2048x4096, .bf16⟩
  | .hbm, ⟨4, _⟩ => ⟨S2048x4096, .bf16⟩
  | .hbm, ⟨5, _⟩ => ⟨S2048x4096, .bf16⟩
  | .hbm, ⟨6, _⟩ => ⟨S8192x12288, .bf16⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8192x2048 : Shape := ⟨2, ![8192, 2048]⟩
abbrev S2048x4096 : Shape := ⟨2, ![2048, 4096]⟩
abbrev S8192x12288 : Shape := ⟨2, ![8192, 12288]⟩
abbrev S8192x3x4096 : Shape := ⟨3, ![8192, 3, 4096]⟩
abbrev S8192x1x4096 : Shape := ⟨3, ![8192, 1, 4096]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S2048x4096, .bf16⟩
  | .hbm, ⟨4, _⟩ => ⟨S2048x4096, .bf16⟩
  | .hbm, ⟨5, _⟩ => ⟨S2048x4096, .bf16⟩
  | .hbm, ⟨6, _⟩ => ⟨S8192x12288, .bf16⟩
  | .hbm, ⟨7, _⟩ => ⟨S8192x12288, .f32⟩
  | .hbm, ⟨8, _⟩ => ⟨S8192x3x4096, .f32⟩
  | .hbm, ⟨9, _⟩ => ⟨S8192x1x4096, .f32⟩
  | .hbm, ⟨10, _⟩ => ⟨S8192x4096, .f32⟩
  | .hbm, ⟨11, _⟩ => ⟨S8192x2048, .f32⟩
  | .hbm, ⟨12, _⟩ => ⟨S2048x4096, .f32⟩
  | .hbm, ⟨13, _⟩ => ⟨S8192x4096, .f32⟩
  | .hbm, ⟨14, _⟩ => ⟨S8192x4096, .f32⟩
  | .hbm, ⟨15, _⟩ => ⟨S8192x1x4096, .f32⟩
  | .hbm, ⟨16, _⟩ => ⟨S8192x4096, .f32⟩
  | .hbm, ⟨17, _⟩ => ⟨S8192x2048, .f32⟩
  | .hbm, ⟨18, _⟩ => ⟨S2048x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x1x4096, .f32⟩
  | .hbm, ⟨23, _⟩ => ⟨S8192x4096, .f32⟩
  | .hbm, ⟨24, _⟩ => ⟨S8192x2048, .f32⟩
  | .hbm, ⟨25, _⟩ => ⟨S2048x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel6.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S8192x4096 : Shape := ⟨2, ![8192, 4096]⟩
abbrev S4096x12288 : Shape := ⟨2, ![4096, 12288]⟩
abbrev S8192x6144 : Shape := ⟨2, ![8192, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S4096x12288 : Shape := ⟨2, ![4096, 12288]⟩
abbrev S4096x6144 : Shape := ⟨2, ![4096, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x4096, .f32⟩
  | .hbm, ⟨3, _⟩ => ⟨S4096x6144, .bf16⟩
  | .hbm, ⟨4, _⟩ => ⟨S4096x6144, .f32⟩
  | .hbm, ⟨5, _⟩ => ⟨S8192x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x4096 : Shape := ⟨2, ![8192, 4096]⟩
abbrev S4096x12288 : Shape := ⟨2, ![4096, 12288]⟩
abbrev S8192x6144 : Shape := ⟨2, ![8192, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x4096 : Shape := ⟨2, ![8192, 4096]⟩
abbrev S4096x12288 : Shape := ⟨2, ![4096, 12288]⟩
abbrev S4096x6144 : Shape := ⟨2, ![4096, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x4096, .f32⟩
  | .hbm, ⟨3, _⟩ => ⟨S4096x6144, .bf16⟩
  | .hbm, ⟨4, _⟩ => ⟨S4096x6144, .f32⟩
  | .hbm, ⟨5, _⟩ => ⟨S8192x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x4096 : Shape := ⟨2, ![8192, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x4096 : Shape := ⟨2, ![8192, 4096]⟩
abbrev S4096x16384 : Shape := ⟨2, ![4096, 16384]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .bf16⟩
  | .hbm, ⟨2, _⟩ => ⟨S8192x4096, .f32⟩
  | .hbm, ⟨3, _⟩ => ⟨S4096x4096, .bf16⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x4096 : Shape := ⟨2, ![8192, 4096]⟩
abbrev S2x4096 : Shape := ⟨2, ![2, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel12.lean ====
abbrev S8192x4096 : Shape := ⟨2, ![8192, 4096]⟩
abbrev S4096x32 : Shape := ⟨2, ![4096, 32]⟩
abbrev S8192x32 : Shape := ⟨2, ![8192, 32]⟩
abbrev S1024x4096 : Shape := ⟨2, ![1024, 4096]⟩
abbrev S1024x32 : Shape := ⟨2, ![1024, 32]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x32, .bf16⟩
  | .hbm, ⟨2, _⟩ => ⟨S8192x32, .f32⟩
  | .local _ .vmem, ⟨0, _⟩ => ⟨S1024x4096, .bf16⟩
  | .local _ .vmem, ⟨1, _⟩ => ⟨S1024x4096, .bf16⟩
  | .local _ .vmem, ⟨2, _⟩ => ⟨S4096x32, .bf16⟩
  | .local _ .vmem, ⟨3, _⟩ => ⟨S1024x32, .f32⟩
  | .local _ .vmem, ⟨4, _⟩ => ⟨S1024x32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x4096 : Shape := ⟨2, ![8192, 4096]⟩
abbrev S4096x32 : Shape := ⟨2, ![4096, 32]⟩
abbrev S8192x32 : Shape := ⟨2, ![8192, 32]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x32, .bf16⟩
  | .hbm, ⟨2, _⟩ => ⟨S8192x4096, .f32⟩
  | .hbm, ⟨3, _⟩ => ⟨S4096x32, .f32⟩
  | .hbm, ⟨4, _⟩ => ⟨S8192x32, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2x4096x28704 : Shape := ⟨3, ![2, 4096, 28704]⟩
abbrev S2x28704x4096 : Shape := ⟨3, ![2, 28704, 4096]⟩
abbrev S4096x12288 : Shape := ⟨2, ![4096, 12288]⟩
abbrev S1x256x4096 : Shape := ⟨3, ![1, 256, 4096]⟩
abbrev S4096x256 : Shape := ⟨2, ![4096, 256]⟩
abbrev S256x4096 : Shape := ⟨2, ![256, 4096]⟩

abbrev nBuf : Space → Nat
  | .hbm => 3
  | .vmem => 4
  | .smem => 0
  | _ => 0

abbrev bufTy : (tb : Table) → Fin (tcTables nBuf tb) → BufTy
  | .hbm, ⟨0, _⟩ => ⟨S2x4096x28704, .f32⟩
  | .hbm, ⟨1, _⟩ => ⟨S2x28704x4096, .f32⟩
  | .hbm, ⟨2, _⟩ => ⟨S4096x12288, .bf16⟩
  | .local _ .vmem, ⟨0, _⟩ => ⟨S1x256x4096, .f32⟩
  | .local _ .vmem, ⟨1, _⟩ => ⟨S1x256x4096, .f32⟩
  | .local _ .vmem, ⟨2, _⟩ => ⟨S4096x256, .bf16⟩
  | .local _ .vmem, ⟨3, _⟩ => ⟨S4096x256, .bf16⟩
  | _, _ => ⟨S2x4096x28704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S2x4096x28704 : Shape := ⟨3, ![2, 4096, 28704]⟩
abbrev S1x4096x12288 : Shape := ⟨3, ![1, 4096, 12288]⟩
abbrev S4096x12288 : Shape := ⟨2, ![4096, 12288]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x28704, .f32⟩
  | .hbm, ⟨1, _⟩ => ⟨S1x4096x12288, .f32⟩
  | .hbm, ⟨2, _⟩ => ⟨S4096x12288, .f32⟩
  | .hbm, ⟨3, _⟩ => ⟨S4096x12288, .bf16⟩
  | _, _ => ⟨S2x4096x28704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel14.lean ====
abbrev S2x4096x28704 : Shape := ⟨3, ![2, 4096, 28704]⟩
abbrev S2x28704x4096 : Shape := ⟨3, ![2, 28704, 4096]⟩
abbrev S4096x32 : Shape := ⟨2, ![4096, 32]⟩
abbrev S1x32x4096 : Shape := ⟨3, ![1, 32, 4096]⟩
abbrev S32x4096 : Shape := ⟨2, ![32, 4096]⟩

abbrev nBuf : Space → Nat
  | .hbm => 3
  | .vmem => 2
  | .smem => 0
  | _ => 0

abbrev bufTy : (tb : Table) → Fin (tcTables nBuf tb) → BufTy
  | .hbm, ⟨0, _⟩ => ⟨S2x4096x28704, .f32⟩
  | .hbm, ⟨1, _⟩ => ⟨S2x28704x4096, .f32⟩
  | .hbm, ⟨2, _⟩ => ⟨S4096x32, .bf16⟩
  | .local _ .vmem, ⟨0, _⟩ => ⟨S1x32x4096, .f32⟩
  | .local _ .vmem, ⟨1, _⟩ => ⟨S4096x32, .bf16⟩
  | _, _ => ⟨S2x4096x28704, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference14Ideal.lean ====
abbrev S2x4096x28704 : Shape := ⟨3, ![2, 4096, 28704]⟩
abbrev S1x4096x32 : Shape := ⟨3, ![1, 4096, 32]⟩
abbrev S4096x32 : Shape := ⟨2, ![4096, 32]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x28704, .f32⟩
  | .hbm, ⟨1, _⟩ => ⟨S1x4096x32, .f32⟩
  | .hbm, ⟨2, _⟩ => ⟨S4096x32, .f32⟩
  | .hbm, ⟨3, _⟩ => ⟨S4096x32, .bf16⟩
  | _, _ => ⟨S2x4096x28704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel15.lean ====
abbrev S2x4096x28704 : Shape := ⟨3, ![2, 4096, 28704]⟩
abbrev S2x28704x4096 : Shape := ⟨3, ![2, 28704, 4096]⟩
abbrev S4096x16384 : Shape := ⟨2, ![4096, 16384]⟩
abbrev S1x256x4096 : Shape := ⟨3, ![1, 256, 4096]⟩
abbrev S1x32x4096 : Shape := ⟨3, ![1, 32, 4096]⟩
abbrev S4096x256 : Shape := ⟨2, ![4096, 256]⟩
abbrev S1x224x4096 : Shape := ⟨3, ![1, 224, 4096]⟩
abbrev S224x4096 : Shape := ⟨2, ![224, 4096]⟩
abbrev S32x4096 : Shape := ⟨2, ![32, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x28704, .f32⟩
  | .hbm, ⟨1, _⟩ => ⟨S2x28704x4096, .f32⟩
  | .hbm, ⟨2, _⟩ => ⟨S4096x16384, .bf16⟩
  | .local _ .vmem, ⟨0, _⟩ => ⟨S1x256x4096, .f32⟩
  | .local _ .vmem, ⟨1, _⟩ => ⟨S1x256x4096, .f32⟩
  | .local _ .vmem, ⟨2, _⟩ => ⟨S1x32x4096, .f32⟩
  | .local _ .vmem, ⟨3, _⟩ => ⟨S1x32x4096, .f32⟩
  | .local _ .vmem, ⟨4, _⟩ => ⟨S4096x256, .bf16⟩
  | .local _ .vmem, ⟨5, _⟩ => ⟨S4096x256, .bf16⟩
  | _, _ => ⟨S2x4096x28704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c12288_i32 : BitVec 32 := 12288#32
  let v2 : BitVec 32 := Scalar.addi c12288_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  let c0_i32_7 : BitVec 32 := 0#32
  ![c0_i32_5.toNat, v19.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S2x4096x28704 : Shape := ⟨3, ![2, 4096, 28704]⟩
abbrev S1x4096x16384 : Shape := ⟨3, ![1, 4096, 16384]⟩
abbrev S4096x16384 : Shape := ⟨2, ![4096, 16384]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x28704, .f32⟩
  | .hbm, ⟨1, _⟩ => ⟨S1x4096x16384, .f32⟩
  | .hbm, ⟨2, _⟩ => ⟨S4096x16384, .f32⟩
  | .hbm, ⟨3, _⟩ => ⟨S4096x16384, .bf16⟩
  | _, _ => ⟨S2x4096x28704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel16.lean ====
abbrev S2x2048x4096 : Shape := ⟨3, ![2, 2048, 4096]⟩
abbrev S2048x4096 : Shape := ⟨2, ![2048, 4096]⟩
abbrev S1x256x4096 : Shape := ⟨3, ![1, 256, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x4096, .f32⟩
  | .hbm, ⟨1, _⟩ => ⟨S2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S256x4096, .bf16⟩
  | .local _ .vmem, ⟨3, _⟩ => ⟨S256x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let v1 : BitVec 32 := Scalar.minsi arg1 c0_i32
  let c0_i32_0 : BitVec 32 := 0#32
  let v2 : BitVec 32 := Scalar.addi c0_i32_0 v1
  let c0_i32_1 : BitVec 32 := 0#32
  let c0_i32_2 : BitVec 32 := 0#32
  ![c0_i32_1.toNat, v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference16Ideal.lean ====
abbrev S2x2048x4096 : Shape := ⟨3, ![2, 2048, 4096]⟩
abbrev S1x2048x4096 : Shape := ⟨3, ![1, 2048, 4096]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1x2048x4096, .f32⟩
  | .hbm, ⟨2, _⟩ => ⟨S2048x4096, .f32⟩
  | .hbm, ⟨3, _⟩ => ⟨S2048x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel17.lean ====
abbrev S2x4096x4096 : Shape := ⟨3, ![2, 4096, 4096]⟩
abbrev S4096x4096 : Shape := ⟨2, ![4096, 4096]⟩
abbrev S1x256x4096 : Shape := ⟨3, ![1, 256, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S256x4096, .bf16⟩
  | .local _ .vmem, ⟨3, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let v1 : BitVec 32 := Scalar.minsi arg1 c0_i32
  let c0_i32_0 : BitVec 32 := 0#32
  let v2 : BitVec 32 := Scalar.addi c0_i32_0 v1
  let c0_i32_1 : BitVec 32 := 0#32
  let c0_i32_2 : BitVec 32 := 0#32
  ![c0_i32_1.toNat, v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference17Ideal.lean ====
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .f32⟩
  | .hbm, ⟨2, _⟩ => ⟨S4096x4096, .f32⟩
  | .hbm, ⟨3, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Steps.lean ====
module

public import proofs.«01_k».proof.Proof.Gen.KernelIdeal.Frame
public import proofs.«01_k».proof.Proof.Gen.KernelIdeal.Loops

/-! What one trip of each of the two sweeps of the recurrence adds to the loop's state: the generated state, with its trip
   written out in the operations of the body. -/

@[expose] public section

set_option maxRecDepth 16384

noncomputable section

namespace Cert.RglruProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The rows of a `2048 × 256` array that trip `k` of the forward sweep reads: rows `8 k … 8 k + 7`. -/
abbrev rect1 (k : Fin k0_t1_loop.trips) : Rect S2048x256 := Rect.unit (s := S2048x256) (k0_off1 k) S8x256.size (k0_off1_inb k)

/-- The rows that trip `k` of the backward sweep reads: rows `2040 - 8 k … 2047 - 8 k`. -/
abbrev rect2 (k : Fin k0_t2_loop.trips) : Rect S2048x256 := Rect.unit (s := S2048x256) (k0_off2 k) S8x256.size (k0_off2_inb k)

variable {F : FTy → Type} [FloatOps F]

/-- The row numbers of a block of eight rows. -/
abbrev rowIx : IVec S8x256 32 := iota .tc S8x256 32 [0] iota_S8x256_d0_w32

/-- One trip of the forward sweep, as the loop's own state: the new carried row and the block stored. -/
theorem st1_succ (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256x256 .bf16) (harg7 : arg7.IsWhole) (arg8 : Memref sig .tc .vmem S2x256 .f32) (harg8 : arg8.IsWhole) (arg9 : Memref sig .tc .vmem S2x256 .f32) (harg9 : arg9.IsWhole) (arg10 : Memref sig .tc .vmem S2x256 .f32) (harg10 : arg10.IsWhole) (arg11 : Memref sig .tc .vmem S1x4096x256 .f32) (harg11 : arg11.IsWhole) (arg12 : Memref sig .tc .vmem S1x4096x256 .f32) (harg12 : arg12.IsWhole) (arg13 : Memref sig .tc .vmem S1x2048x256 .bf16) (harg13 : arg13.IsWhole) (arg14 : Memref sig .tc .vmem S4096x512 .bf16) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .f32) (harg17 : arg17.IsWhole) (v44 : FVec F S2048x256 .f32) (v45 : FVec F S2048x256 .bf16) (v46 : IVec S8x256 32) (v62 : FVec F S2048x256 .f32) (v64 : FVec F S2048x256 .f32) (v73 : IVec S1x256 1) (v75 : FVec F S1x256 .f32) (v81 : FVec F S1x256 .f32) (X15 : BufTy.Contents (Elt F) arg15.view.ty) (X16 : BufTy.Contents (Elt F) arg16.view.ty) (init : FVec F S1x256 .f32) (k : Fin k0_t1_loop.trips) :
    st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 v46 v62 v64 v73 v75 v81 X15 X16 init (k.val + 1)
      = (k0_pay36 (k0_pay11 v46 (arg15.view.readAt (Elt F) (rect1 k).toLoadRect X15) (arg16.view.readAt (Elt F) (rect1 k).toLoadRect X16))
            (k0_pay12 v46 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 v46 v62 v64 v73 v75 v81 X15 X16 init k.val).1 (arg15.view.readAt (Elt F) (rect1 k).toLoadRect X15)),
         ⟨rect1 k, k0_pay35 (k0_pay11 v46 (arg15.view.readAt (Elt F) (rect1 k).toLoadRect X15) (arg16.view.readAt (Elt F) (rect1 k).toLoadRect X16))
            (k0_pay12 v46 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 v46 v62 v64 v73 v75 v81 X15 X16 init k.val).1 (arg15.view.readAt (Elt F) (rect1 k).toLoadRect X15))⟩
          :: (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 v46 v62 v64 v73 v75 v81 X15 X16 init k.val).2) := by
  rw [st_k0_t1_succ]
  unfold tripR_k0_t1 tripL_k0_t1 trip_k0_t1
  rfl

/-- One trip of the backward sweep: the new carried row, and the block stored on top of what the forward sweep left. -/
theorem st2_succ (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256x256 .bf16) (harg7 : arg7.IsWhole) (arg8 : Memref sig .tc .vmem S2x256 .f32) (harg8 : arg8.IsWhole) (arg9 : Memref sig .tc .vmem S2x256 .f32) (harg9 : arg9.IsWhole) (arg10 : Memref sig .tc .vmem S2x256 .f32) (harg10 : arg10.IsWhole) (arg11 : Memref sig .tc .vmem S1x4096x256 .f32) (harg11 : arg11.IsWhole) (arg12 : Memref sig .tc .vmem S1x4096x256 .f32) (harg12 : arg12.IsWhole) (arg13 : Memref sig .tc .vmem S1x2048x256 .bf16) (harg13 : arg13.IsWhole) (arg14 : Memref sig .tc .vmem S4096x512 .bf16) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .f32) (harg17 : arg17.IsWhole) (v46 : IVec S8x256 32) (z : BitVec 32) (X15 : BufTy.Contents (Elt F) arg15.view.ty) (X16 : BufTy.Contents (Elt F) arg16.view.ty) (G : BufTy.Contents (Elt F) arg17.view.ty) (init : FVec F S1x256 .f32) (k : Fin k0_t2_loop.trips) :
    st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 z X15 X16 G init (k.val + 1)
      = (k0_pay3 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 z X15 X16 G init k.val).1
            (k0_pay18 v46 (arg15.view.readAt (Elt F) (rect2 k).toLoadRect X15) (arg16.view.readAt (Elt F) (rect2 k).toLoadRect X16))
            (k0_pay19 v46 (arg15.view.readAt (Elt F) (rect2 k).toLoadRect X15)),
         ⟨rect2 k, k0_pay2 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 z X15 X16 G init k.val).1
            (k0_pay18 v46 (arg15.view.readAt (Elt F) (rect2 k).toLoadRect X15) (arg16.view.readAt (Elt F) (rect2 k).toLoadRect X16))
            (k0_pay19 v46 (arg15.view.readAt (Elt F) (rect2 k).toLoadRect X15))
            (arg17.view.readAt (Elt F) (rect2 k).toLoadRect (arg17.view.writes (Elt F) G (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 z X15 X16 G init k.val).2))⟩
          :: (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 z X15 X16 G init k.val).2) := by
  rw [st_k0_t2_succ]
  unfold tripR_k0_t2 tripL_k0_t2 trip_k0_t2
  rfl

end Cert.RglruProof

end
-- ==== Proof.Sweep.lean ====
module

public import proofs.«01_k».proof.Proof.Gen.KernelIdeal.Frame
public import proofs.«01_k».proof.Proof.Gen.KernelIdeal.Loops
public import proofs.«01_k».proof.Proof.Steps
public import Idealize.ShloMosaic.Lib.WritesUnit
public import Idealize.ShloMosaic.Lib.Pointwise
public import Idealize.ShloMosaic.Lib.Pipeline.Value

/-! The two sweeps of the recurrence as arrays: the row each trip carries, the block each trip makes, and what the buffer
   they share holds after all of them. -/

@[expose] public section

set_option maxRecDepth 16384

noncomputable section

namespace Cert.RglruProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The row that the forward sweep carries into trip `k`, of the coefficients `a` and `b`. -/
def fcar (a b : Vec F S2048x256 .f32) : ℕ → FVec F S1x256 .f32
  | 0 => k0_pay33
  | k + 1 => if h : k < k0_t1_loop.trips then
      k0_pay36 (k0_pay11 rowIx (View.ld a (rect1 ⟨k, h⟩)) (View.ld b (rect1 ⟨k, h⟩))) (k0_pay12 rowIx (fcar a b k) (View.ld a (rect1 ⟨k, h⟩)))
    else fcar a b k

/-- The block of eight rows that trip `k` of the forward sweep stores. -/
def fblk (a b : Vec F S2048x256 .f32) (k : Fin k0_t1_loop.trips) : FVec F S8x256 .f32 :=
  k0_pay35 (k0_pay11 rowIx (View.ld a (rect1 k)) (View.ld b (rect1 k))) (k0_pay12 rowIx (fcar a b k.val) (View.ld a (rect1 k)))

theorem fcar_succ (a b : Vec F S2048x256 .f32) (k : Fin k0_t1_loop.trips) :
    fcar a b (k.val + 1) = k0_pay36 (k0_pay11 rowIx (View.ld a (rect1 k)) (View.ld b (rect1 k))) (k0_pay12 rowIx (fcar a b k.val) (View.ld a (rect1 k))) := by
  show (if h : k.val < k0_t1_loop.trips then _ else _) = _
  rw [dif_pos k.isLt]

/-- The row that the backward sweep carries into trip `k`. -/
def bcar (a b : Vec F S2048x256 .f32) : ℕ → FVec F S1x256 .f32
  | 0 => k0_pay42
  | k + 1 => if h : k < k0_t2_loop.trips then
      k0_pay3 (bcar a b k) (k0_pay18 rowIx (View.ld a (rect2 ⟨k, h⟩)) (View.ld b (rect2 ⟨k, h⟩))) (k0_pay19 rowIx (View.ld a (rect2 ⟨k, h⟩)))
    else bcar a b k

/-- The block of eight rows that trip `k` of the backward sweep adds. -/
def bblk (a b : Vec F S2048x256 .f32) (k : Fin k0_t2_loop.trips) : FVec F S8x256 .f32 :=
  k0_pay1 (bcar a b k.val) (k0_pay18 rowIx (View.ld a (rect2 k)) (View.ld b (rect2 k))) (k0_pay19 rowIx (View.ld a (rect2 k)))

theorem bcar_succ (a b : Vec F S2048x256 .f32) (k : Fin k0_t2_loop.trips) :
    bcar a b (k.val + 1) = k0_pay3 (bcar a b k.val) (k0_pay18 rowIx (View.ld a (rect2 k)) (View.ld b (rect2 k))) (k0_pay19 rowIx (View.ld a (rect2 k))) := by
  show (if h : k.val < k0_t2_loop.trips then _ else _) = _
  rw [dif_pos k.isLt]

theorem trips1 : k0_t1_loop.trips = 256 := by decide +kernel

theorem trips2 : k0_t2_loop.trips = 256 := by decide +kernel

/-- The place of row `r` inside its block of eight. -/
abbrev inBlk (y : S2048x256.Idx) : S8x256.Idx := ix2 (⟨(y (0 : Fin 2)).val % 8, Nat.mod_lt _ (by decide)⟩ : Fin 8) (y (1 : Fin 2))

theorem row_lt (y : S2048x256.Idx) : (y (0 : Fin 2)).val < 2048 := (y (0 : Fin 2)).isLt

/-- The forward sweep's result: row `r` is row `r % 8` of block `r / 8`. -/
def hfwd (a b : Vec F S2048x256 .f32) : Vec F S2048x256 .f32 := fun y =>
  fblk a b ⟨(y (0 : Fin 2)).val / 8, by rw [trips1]; have := row_lt y; omega⟩ (inBlk y)

/-- The backward sweep's result: row `r` is row `r % 8` of the block that trip `255 - r / 8` makes. -/
def hbwd (a b : Vec F S2048x256 .f32) : Vec F S2048x256 .f32 := fun y =>
  bblk a b ⟨255 - (y (0 : Fin 2)).val / 8, by rw [trips2]; omega⟩ (inBlk y)

section Reading

variable {sg : RefSig} {κ : Kind} {sp : Space} (v : View sg κ sp S2048x256 .f32) (G : v.ty.Contents (Elt F))

/-- What the forward sweep leaves: before trip `k` the carried row, and the first `8 k` rows of the buffer. -/
theorem sweep1 (a b : Vec F S2048x256 .f32) (S : ℕ → FVec F S1x256 .f32 × List (View.Piece (Elt F) S2048x256 .f32))
    (h0 : S 0 = (k0_pay33, []))
    (hs : ∀ k : Fin k0_t1_loop.trips, S (k.val + 1)
      = (k0_pay36 (k0_pay11 rowIx (View.ld a (rect1 k)) (View.ld b (rect1 k))) (k0_pay12 rowIx (S k.val).1 (View.ld a (rect1 k))),
         ⟨rect1 k, k0_pay35 (k0_pay11 rowIx (View.ld a (rect1 k)) (View.ld b (rect1 k))) (k0_pay12 rowIx (S k.val).1 (View.ld a (rect1 k)))⟩ :: (S k.val).2)) :
    ∀ k, k ≤ 256 → (S k).1 = fcar a b k ∧ ∀ y : S2048x256.Idx, (y (0 : Fin 2)).val < 8 * k → v.read (Elt F) (v.writes (Elt F) G (S k).2) y = hfwd a b y := by
  intro k
  induction k with
  | zero => intro _; rw [h0]; exact ⟨rfl, fun y hy => absurd hy (by omega)⟩
  | succ k ih =>
    intro hk
    obtain ⟨ih1, ih2⟩ := ih (by omega)
    have hlt : k < k0_t1_loop.trips := by rw [trips1]; omega
    have e := hs ⟨k, hlt⟩
    dsimp only at e
    rw [e]
    dsimp only
    rw [ih1]
    refine ⟨(fcar_succ a b ⟨k, hlt⟩).symm, fun y hy => ?_⟩
    by_cases hlow : (y (0 : Fin 2)).val < 8 * k
    · refine (View.read_writes_cons_rows_of_not_mem (d := ![2048, 256]) v G _ _ _ y (o := 8 * k) (W := 8) (k0_off1_eq ⟨k, hlt⟩) rfl (Or.inl hlow)).trans ?_
      exact ih2 y hlow
    · have hd : (y (0 : Fin 2)).val / 8 = k := by omega
      refine (View.read_writes_cons_rows_of_mem (d := ![2048, 256]) v G _ _ _ y (inBlk y) (o := 8 * k) (k0_off1_eq ⟨k, hlt⟩)
        (by show (y (0 : Fin 2)).val = 8 * k + (y (0 : Fin 2)).val % 8; omega) rfl).trans ?_
      show fblk a b ⟨k, hlt⟩ (inBlk y) = fblk a b ⟨(y (0 : Fin 2)).val / 8, _⟩ (inBlk y)
      exact congrArg (fun q => fblk a b q (inBlk y)) (Fin.ext hd.symm)

/-- What the backward sweep leaves: before trip `k` the carried row, the last `8 k` rows added to, and the other rows as they were. -/
theorem sweep2 (a b p : Vec F S2048x256 .f32) (hG : ∀ y, v.read (Elt F) G y = p y) (S : ℕ → FVec F S1x256 .f32 × List (View.Piece (Elt F) S2048x256 .f32))
    (h0 : S 0 = (k0_pay42, []))
    (hs : ∀ k : Fin k0_t2_loop.trips, S (k.val + 1)
      = (k0_pay3 (S k.val).1 (k0_pay18 rowIx (View.ld a (rect2 k)) (View.ld b (rect2 k))) (k0_pay19 rowIx (View.ld a (rect2 k))),
         ⟨rect2 k, k0_pay2 (S k.val).1 (k0_pay18 rowIx (View.ld a (rect2 k)) (View.ld b (rect2 k))) (k0_pay19 rowIx (View.ld a (rect2 k)))
            (v.readAt (Elt F) (rect2 k).toLoadRect (v.writes (Elt F) G (S k.val).2))⟩ :: (S k.val).2)) :
    ∀ k, k ≤ 256 → (S k).1 = bcar a b k
      ∧ (∀ y : S2048x256.Idx, (y (0 : Fin 2)).val < 2048 - 8 * k → v.read (Elt F) (v.writes (Elt F) G (S k).2) y = p y)
      ∧ ∀ y : S2048x256.Idx, 2048 - 8 * k ≤ (y (0 : Fin 2)).val → v.read (Elt F) (v.writes (Elt F) G (S k).2) y = addf p (hbwd a b) y := by
  intro k
  induction k with
  | zero => intro _; rw [h0]; exact ⟨rfl, fun y _ => hG y, fun y hy => absurd hy (by have := row_lt y; omega)⟩
  | succ k ih =>
    intro hk
    obtain ⟨ih1, ih2, ih3⟩ := ih (by omega)
    have hlt : k < k0_t2_loop.trips := by rw [trips2]; omega
    have e := hs ⟨k, hlt⟩
    dsimp only at e
    rw [e]
    dsimp only
    rw [ih1]
    refine ⟨(bcar_succ a b ⟨k, hlt⟩).symm, fun y hy => ?_, fun y hy => ?_⟩
    · refine (View.read_writes_cons_rows_of_not_mem (d := ![2048, 256]) v G _ _ _ y (o := 2040 - 8 * k) (W := 8) (k0_off2_eq ⟨k, hlt⟩) rfl (Or.inl (by omega))).trans ?_
      exact ih2 y (by omega)
    · by_cases hhi : 2048 - 8 * k ≤ (y (0 : Fin 2)).val
      · refine (View.read_writes_cons_rows_of_not_mem (d := ![2048, 256]) v G _ _ _ y (o := 2040 - 8 * k) (W := 8) (k0_off2_eq ⟨k, hlt⟩) rfl (Or.inr (by omega))).trans ?_
        exact ih3 y hhi
      · have hd : 255 - (y (0 : Fin 2)).val / 8 = k := by omega
        refine (View.read_writes_cons_rows_of_mem (d := ![2048, 256]) v G _ _ _ y (inBlk y) (o := 2040 - 8 * k) (k0_off2_eq ⟨k, hlt⟩)
          (by show (y (0 : Fin 2)).val = 2040 - 8 * k + (y (0 : Fin 2)).val % 8; omega) rfl).trans ?_
        unfold k0_pay2
        rw [shapeCast_self]
        have hi : (rect2 ⟨k, hlt⟩).toLoadRect.idx (inBlk y) = y := by
          funext x
          apply Fin.ext
          have hoff := congrFun (k0_off2_eq ⟨k, hlt⟩) x
          match x, hoff with
          | ⟨0, _⟩, hoff =>
            show k0_off2 ⟨k, hlt⟩ (0 : Fin 2) + 1 * ((y (0 : Fin 2)).val % 8) = (y (0 : Fin 2)).val
            rw [show k0_off2 ⟨k, hlt⟩ (0 : Fin 2) = 2040 - 8 * k from hoff]; omega
          | ⟨1, _⟩, hoff =>
            show k0_off2 ⟨k, hlt⟩ (1 : Fin 2) + 1 * (y (1 : Fin 2)).val = (y (1 : Fin 2)).val
            rw [show k0_off2 ⟨k, hlt⟩ (1 : Fin 2) = 0 from hoff]; omega
        show FloatOps.addf (v.read (Elt F) (v.writes (Elt F) G (S k).2) ((rect2 ⟨k, hlt⟩).toLoadRect.idx (inBlk y))) (bblk a b ⟨k, hlt⟩ (inBlk y))
          = FloatOps.addf (p y) (bblk a b ⟨255 - (y (0 : Fin 2)).val / 8, _⟩ (inBlk y))
        rw [hi, ih2 y (by omega)]
        exact congrArg (fun q => FloatOps.addf (p y) (bblk a b q (inBlk y))) (Fin.ext hd.symm)

end Reading

end Cert.RglruProof

end
-- ==== Proof.SweepRead.lean ====
module

public import proofs.«01_k».proof.Proof.Gen.KernelIdeal.Frame
public import proofs.«01_k».proof.Proof.Gen.KernelIdeal.Loops
public import proofs.«01_k».proof.Proof.Sweep

/-! What the buffer that the two sweeps share reads after both of them. -/

@[expose] public section

set_option maxRecDepth 16384

noncomputable section

namespace Cert.RglruProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- What the buffer shared by the two sweeps reads after both: their results added. -/
theorem read_sweeps (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256x256 .bf16) (harg7 : arg7.IsWhole) (arg8 : Memref sig .tc .vmem S2x256 .f32) (harg8 : arg8.IsWhole) (arg9 : Memref sig .tc .vmem S2x256 .f32) (harg9 : arg9.IsWhole) (arg10 : Memref sig .tc .vmem S2x256 .f32) (harg10 : arg10.IsWhole) (arg11 : Memref sig .tc .vmem S1x4096x256 .f32) (harg11 : arg11.IsWhole) (arg12 : Memref sig .tc .vmem S1x4096x256 .f32) (harg12 : arg12.IsWhole) (arg13 : Memref sig .tc .vmem S1x2048x256 .bf16) (harg13 : arg13.IsWhole) (arg14 : Memref sig .tc .vmem S4096x512 .bf16) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .f32) (harg17 : arg17.IsWhole) (v44 : FVec F S2048x256 .f32) (v45 : FVec F S2048x256 .bf16) (v62 : FVec F S2048x256 .f32) (v64 : FVec F S2048x256 .f32) (v73 : IVec S1x256 1) (v75 : FVec F S1x256 .f32) (v81 : FVec F S1x256 .f32)
    (X15 Y15 : BufTy.Contents (Elt F) arg15.view.ty) (X16 Y16 : BufTy.Contents (Elt F) arg16.view.ty) (G : BufTy.Contents (Elt F) arg17.view.ty)
    (a b a' b' : Vec F S2048x256 .f32) (ha : arg15.view.read (Elt F) X15 = a) (hb : arg16.view.read (Elt F) X16 = b)
    (ha' : arg15.view.read (Elt F) Y15 = a') (hb' : arg16.view.read (Elt F) Y16 = b') :
    arg17.view.read (Elt F) (arg17.view.writes (Elt F) G ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rowIx 0#32 Y15 Y16 (arg17.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 rowIx v62 v64 v73 v75 v81 X15 X16 k0_pay33 (Scf.trips k0_t1_loop.lb k0_t1_loop.ub k0_t1_loop.st)).2) k0_pay42 (Scf.trips k0_t2_loop.lb k0_t2_loop.ub k0_t2_loop.st)).2 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 rowIx v62 v64 v73 v75 v81 X15 X16 k0_pay33 (Scf.trips k0_t1_loop.lb k0_t1_loop.ub k0_t1_loop.st)).2)) = addf (hfwd a b) (hbwd a' b') := by
  subst ha hb ha' hb'
  have e1 : (Scf.trips k0_t1_loop.lb k0_t1_loop.ub k0_t1_loop.st) = 256 := trips1
  rw [e1, View.writes_append]
  have h1 := sweep1 arg17.view G (arg15.view.read (Elt F) X15) (arg16.view.read (Elt F) X16) (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 rowIx v62 v64 v73 v75 v81 X15 X16 k0_pay33) rfl
    (fun k => st1_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 rowIx v62 v64 v73 v75 v81 X15 X16 k0_pay33 k) 256 le_rfl
  have h2 := sweep2 arg17.view (arg17.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 rowIx v62 v64 v73 v75 v81 X15 X16 k0_pay33 256).2) (arg15.view.read (Elt F) Y15) (arg16.view.read (Elt F) Y16)
    (hfwd (arg15.view.read (Elt F) X15) (arg16.view.read (Elt F) X16)) (fun y => h1.2 y (row_lt y)) (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rowIx 0#32 Y15 Y16 (arg17.view.writes (Elt F) G (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v45 rowIx v62 v64 v73 v75 v81 X15 X16 k0_pay33 256).2) k0_pay42) rfl
    (fun k => st2_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rowIx 0#32 Y15 Y16 _ k0_pay42 k) 256 le_rfl
  funext y
  exact h2.2.2 y (Nat.zero_le _)

end Cert.RglruProof

end
-- ==== Proof.Body.lean ====
module

public import proofs.«01_k».proof.Proof.Gen.KernelIdeal.Frame
public import proofs.«01_k».proof.Proof.Gen.KernelIdeal.Loops
public import proofs.«01_k».proof.Proof.SweepRead

/-! What one grid point computes, and the run of its body: from the blocks of the inputs to the blocks of the two results. -/

@[expose] public section

set_option maxRecDepth 16384

noncomputable section

namespace Cert.RglruProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What one grid point computes -/

/-- Direction `d`'s page of a gate's weight block. -/
abbrev page0 (w : Vec F S2x1x256x256 .bf16) : Vec F S1x1x256x256 .bf16 := View.ld w (Rect.unit (s := S2x1x256x256) ![0, 0, 0, 0] S1x1x256x256.size inb_S2x1x256x256_S1x1x256x256_0_0_0_0)
abbrev page1 (w : Vec F S2x1x256x256 .bf16) : Vec F S1x1x256x256 .bf16 := View.ld w (Rect.unit (s := S2x1x256x256) ![1, 0, 0, 0] S1x1x256x256.size inb_S2x1x256x256_S1x1x256x256_1_0_0_0)
/-- Direction `d`'s row of a two-row array. -/
abbrev line0 (w : Vec F S2x256 .f32) : Vec F S1x256 .f32 := View.ld w (Rect.unit (s := S2x256) ![0, 0] S1x256.size inb_S2x256_S1x256_0_0)
abbrev line1 (w : Vec F S2x256 .f32) : Vec F S1x256 .f32 := View.ld w (Rect.unit (s := S2x256) ![1, 0] S1x256.size inb_S2x256_S1x256_1_0)

/-- The forward decay, of the block's inputs. -/
def decay0 (x0 : Vec F S1x2048x256 .f32) (x2 : Vec F S4x256 .f32) (x3 : Vec F S1x256 .f32) (x4 : Vec F S2x1x256x256 .bf16) (x6 x8 : Vec F S2x256 .f32) : Vec F S2048x256 .f32 :=
  k0_pay31 (k0_pay24 (k0_pay20 x0 x2) x3 (page0 x4) (line0 x6)) (k0_pay27 (line0 x8)) (k0_pay28 (line0 x8)) (k0_pay29 (line0 x8))

/-- The forward input term. -/
def drive0 (x0 : Vec F S1x2048x256 .f32) (x2 : Vec F S4x256 .f32) (x3 : Vec F S1x256 .f32) (x4 x5 : Vec F S2x1x256x256 .bf16) (x6 x7 x8 : Vec F S2x256 .f32) : Vec F S2048x256 .f32 :=
  k0_pay32 (k0_pay21 (k0_pay20 x0 x2) x3) (k0_pay23 (k0_pay20 x0 x2) x3 (page0 x5) (line0 x7)) (k0_pay24 (k0_pay20 x0 x2) x3 (page0 x4) (line0 x6)) (k0_pay27 (line0 x8)) (k0_pay28 (line0 x8)) (k0_pay29 (line0 x8))

/-- The backward decay. -/
def decay1 (x0 : Vec F S1x2048x256 .f32) (x2 : Vec F S4x256 .f32) (x3 : Vec F S1x256 .f32) (x4 : Vec F S2x1x256x256 .bf16) (x6 x8 : Vec F S2x256 .f32) : Vec F S2048x256 .f32 :=
  k0_pay40 (k0_pay37 (k0_pay22 (k0_pay20 x0 x2) x3) (page1 x4) (line1 x6)) (line1 x8)

/-- The backward input term. -/
def drive1 (x0 : Vec F S1x2048x256 .f32) (x2 : Vec F S4x256 .f32) (x3 : Vec F S1x256 .f32) (x4 x5 : Vec F S2x1x256x256 .bf16) (x6 x7 x8 : Vec F S2x256 .f32) : Vec F S2048x256 .f32 :=
  k0_pay41 (k0_pay21 (k0_pay20 x0 x2) x3) (k0_pay37 (k0_pay22 (k0_pay20 x0 x2) x3) (page1 x4) (line1 x6)) (k0_pay38 (k0_pay22 (k0_pay20 x0 x2) x3) (page1 x5)) (line1 x7) (line1 x8)

/-- The block of the first result: the two sweeps added, gated. -/
def out11 (x0 x1 : Vec F S1x2048x256 .f32) (x2 : Vec F S4x256 .f32) (x3 : Vec F S1x256 .f32) (x4 x5 : Vec F S2x1x256x256 .bf16) (x6 x7 x8 : Vec F S2x256 .f32) : Vec F S1x2048x256 .bf16 :=
  k0_pay4 (addf (hfwd (decay0 x0 x2 x3 x4 x6 x8) (drive0 x0 x2 x3 x4 x5 x6 x7 x8)) (hbwd (decay1 x0 x2 x3 x4 x6 x8) (drive1 x0 x2 x3 x4 x5 x6 x7 x8))) x1

open Classical in
/-- The block of the second result: the cast weights at the points that cast, what the buffer held at the others. -/
def out12 (i : grid0.Coords) (x9 x10 : Vec F S1x4096x256 .f32) (y : Vec F S4096x512 .bf16) : Vec F S4096x512 .bf16 :=
  if k0_cond1 i = 1#1 then k0_pay5 (BitVec.ofNat 32 (i 0).val) (BitVec.ofNat 32 (i 1).val) x9 x10 else y

theorem hz2 : (![0, 0] : Fin 2 → Nat) = fun _ => 0 := funext fun a => by fin_cases a <;> rfl

theorem hz3 : (![0, 0, 0] : Fin 3 → Nat) = fun _ => 0 := funext fun a => by fin_cases a <;> rfl

section Whole

variable {sg : RefSig} {κ : Kind} {sp : Space} {s : Shape} {e : EltTy}

/-- A store of the whole buffer is what the buffer reads afterwards, whatever was stored before. -/
theorem read_store_whole (v : View sg κ sp s e) (G : v.ty.Contents (Elt F)) {off : Fin s.rank → ℕ} (hz : off = fun _ => 0)
    (inb : ∀ a, off a + s.size a ≤ s.size a) (w : s.Idx → Elt F e) (L : List (View.Piece (Elt F) s e)) :
    v.read (Elt F) (v.writes (Elt F) G ((⟨Rect.unit off s.size inb, w⟩ : View.Piece (Elt F) s e) :: L)) = w := by
  funext y
  exact View.read_writes_cons_unit_of_mem v G inb w L y y hz fun a => (Nat.zero_add _).symm

end Whole

set_option maxHeartbeats 2000000 in
/-- The body of one grid point: from the blocks of the eleven inputs it leaves the two result blocks. -/
theorem bodyRun (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2x1x256x256 .bf16) (harg6 : arg6.IsWhole) (arg7 : Memref sig .tc .vmem S2x1x256x256 .bf16) (harg7 : arg7.IsWhole) (arg8 : Memref sig .tc .vmem S2x256 .f32) (harg8 : arg8.IsWhole) (arg9 : Memref sig .tc .vmem S2x256 .f32) (harg9 : arg9.IsWhole) (arg10 : Memref sig .tc .vmem S2x256 .f32) (harg10 : arg10.IsWhole) (arg11 : Memref sig .tc .vmem S1x4096x256 .f32) (harg11 : arg11.IsWhole) (arg12 : Memref sig .tc .vmem S1x4096x256 .f32) (harg12 : arg12.IsWhole) (arg13 : Memref sig .tc .vmem S1x2048x256 .bf16) (harg13 : arg13.IsWhole) (arg14 : Memref sig .tc .vmem S4096x512 .bf16) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .f32) (harg17 : arg17.IsWhole)
    (x0 : Vec F S1x2048x256 .f32) (x1 : Vec F S1x2048x256 .f32) (x2 : Vec F S4x256 .f32) (x3 : Vec F S1x256 .f32) (x4 : Vec F S2x1x256x256 .bf16) (x5 : Vec F S2x1x256x256 .bf16) (x6 : Vec F S2x256 .f32) (x7 : Vec F S2x256 .f32) (x8 : Vec F S2x256 .f32) (x9 : Vec F S1x4096x256 .f32) (x10 : Vec F S1x4096x256 .f32) (y12 : Vec F S4096x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare y12 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out11 x0 x1 x2 x3 x4 x5 x6 x7 x8) ∗ owns (c : Thread nD τ) arg14 fullShare (out12 i x9 x10 y12) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_rglru_eq_skeleton]; unfold cc0_rglru_skel
  simp only [k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    clear hf0 hf1 hf2 hf3 hf4 hf5 hf6 hf7 hf8 hf9 hf10 hf12
    sl_unfold_words
    rw [read_store_whole _ _ hz3]
    unfold out11
    refine congrArg₂ k0_pay4 ?_ ?_
    · rw [View.readAt_eq_ld, View.ld_unit_zero (S := S2048x256) hz2]
      refine read_sweeps c i _ harg2 _ harg3 _ harg4 _ harg5 _ harg6 _ harg7 _ harg8 _ harg9 _ harg10 _ harg11 _ harg12 _ harg13 _ harg14 _ harg15 _ harg16 _ harg17 _ _ _ _ _ _ _ _ _ _ _ _ _ _ _ _ ?_ ?_ ?_ ?_
      · rw [read_store_whole _ _ hz2]
        simp only [decay0, View.readAt_eq_ld, harg2.read_unread, harg4.read_unread, harg5.read_unread, harg6.read_unread, harg8.read_unread, harg10.read_unread, View.ld_unit_zero (S := S1x2048x256) hz3, View.ld_unit_zero (S := S4x256) hz2, View.ld_unit_zero (S := S1x256) hz2]
      · rw [read_store_whole _ _ hz2]
        simp only [drive0, View.readAt_eq_ld, harg2.read_unread, harg4.read_unread, harg5.read_unread, harg6.read_unread, harg7.read_unread, harg8.read_unread, harg9.read_unread, harg10.read_unread, View.ld_unit_zero (S := S1x2048x256) hz3, View.ld_unit_zero (S := S4x256) hz2, View.ld_unit_zero (S := S1x256) hz2]
      · rw [read_store_whole _ _ hz2]
        simp only [decay1, View.readAt_eq_ld, harg2.read_unread, harg4.read_unread, harg5.read_unread, harg6.read_unread, harg8.read_unread, harg10.read_unread, View.ld_unit_zero (S := S1x2048x256) hz3, View.ld_unit_zero (S := S4x256) hz2, View.ld_unit_zero (S := S1x256) hz2]
      · rw [read_store_whole _ _ hz2]
        simp only [drive1, View.readAt_eq_ld, harg2.read_unread, harg4.read_unread, harg5.read_unread, harg6.read_unread, harg7.read_unread, harg8.read_unread, harg9.read_unread, harg10.read_unread, View.ld_unit_zero (S := S1x2048x256) hz3, View.ld_unit_zero (S := S4x256) hz2, View.ld_unit_zero (S := S1x256) hz2]
    · rw [View.readAt_eq_ld, harg3.read_unread, View.ld_unit_zero (S := S1x2048x256) hz3]
  isplitl [H12]
  · iexists _; isplitr; swap; · iexact H12
    ipureintro
    clear hf0 hf1 hf2 hf3 hf4 hf5 hf6 hf7 hf8 hf9 hf10
    unfold out12
    by_cases hc : k0_cond1 i = 1#1
    · rw [dif_pos hc, if_pos hc, read_store_whole _ _ hz2]
      simp only [View.readAt_eq_ld, harg11.read_unread, harg12.read_unread, View.ld_unit_zero (S := S1x4096x256) hz3]
    · rw [dif_neg hc, if_neg hc, hf12]
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.RglruProof

end
-- ==== Proof.Launch.lean ====
module

public import proofs.«01_k».proof.Proof.Body
public import Idealize.ShloMosaic.Lib.Pipeline.TableIdle
public import Idealize.ShloMosaic.Lib.Claim

/-! The launch: what every window's buffer holds after each grid point, the body's obligation there, and the run of the whole program. -/

@[expose] public section

set_option maxRecDepth 16384

noncomputable section

namespace Cert.RglruProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The body casts a block of the weight at the first 22 points only. -/
theorem casts_iff : ∀ t : Fin cfg0.N, k0_cond1 (grid0.coords t) = 1#1 ↔ t.val < 22 :=
  (by decide +kernel : ∀ t : Fin grid0.N, k0_cond1 (grid0.coords t) = 1#1 ↔ t.val < 22)

/-- The weight's result is written back where its block changes: at the first 21 points and at the last. -/
theorem flush12_iff : ∀ t : Fin cfg0.N, (cfg0.win 12).flush t = (decide (t.val < 21) || decide (t.val = 31)) := by
  have h : ∀ t : Fin grid0.N, Pipeline.Window.flushF win0_12 t = (decide (t.val < 21) || decide (t.val = 31)) := by decide +kernel
  intro t
  exact (Pipeline.Window.flush_eq_flushF _ t).trans (h t)

theorem idle12_iff : ∀ t : Fin cfg0.N, cfg0.idle 12 (grid0.coords t) = decide (22 ≤ t.val) :=
  (by decide +kernel : ∀ t : Fin grid0.N, idle0 12 (grid0.coords t) = decide (22 ≤ t.val))

/-- The buffer of the weight's result holds no stored block before point 22. -/
theorem fresh12 : ∀ n, n ≤ cfg0.N → cfg0.fresh 12 n = decide (n ≤ 21 ∨ n = 32) :=
  cfg0.fresh_tab 12 (fun n => decide (n ≤ 21 ∨ n = 32)) rfl fun t => by
    rw [flush12_iff, idle12_iff]
    have hN : t.val < 32 := lt_of_lt_of_eq t.isLt (show cfg0.N = 32 from N_0)
    rw [Bool.eq_iff_iff]
    simp only [Bool.or_eq_true, Bool.and_eq_true, decide_eq_true_eq]
    omega

theorem clip12 : ∀ (i : cfg0.grid.Coords) a, (cfg0.win 12).clip i a = none := fun _ _ => rfl

/-! ## The proof data -/

/-- The point that last cast a block of the weight, at or before point `t`. -/
def lastCast (t : Fin cfg0.N) : Fin cfg0.N := ⟨min t.val 21, lt_of_le_of_lt (Nat.min_le_left _ _) t.isLt⟩

/-- The block of the cast weight that point `t` leaves. -/
def castBlk (c : Dev nD) (t : Fin cfg0.N) : Vec F S4096x512 .bf16 :=
  k0_pay5 (BitVec.ofNat 32 (grid0.coords (lastCast t) 0).val) (BitVec.ofNat 32 (grid0.coords (lastCast t) 1).val) (iblk m c 9 (lastCast t)) (iblk m c 10 (lastCast t))

/-- The block of the mixed result that point `t` leaves. -/
def mixBlk (c : Dev nD) (t : Fin cfg0.N) : Vec F S1x2048x256 .bf16 :=
  out11 (iblk m c 0 t) (iblk m c 1 t) (iblk m c 2 t) (iblk m c 3 t) (iblk m c 4 t) (iblk m c 5 t) (iblk m c 6 t) (iblk m c 7 t) (iblk m c 8 t)

/-- The proof data of the pipeline on core `c`: each input's buffer at its block, the results' at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => mixBlk m c t
    | ⟨12, _⟩ => castBlk m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = mixBlk m c t := by dsimp only [dats]
theorem after12 (c : Dev nD) (t : Fin cfg0.N) : (dats m 0 c).after 12 t = castBlk m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d

theorem castBlk_pred (c : Dev nD) (t : Fin cfg0.N) (h : 22 ≤ t.val) (h' : t.val - 1 < cfg0.N) : castBlk m c ⟨t.val - 1, h'⟩ = castBlk m c t := by
  have e : lastCast ⟨t.val - 1, h'⟩ = lastCast t := Fin.ext (by show min (t.val - 1) 21 = min t.val 21; omega)
  unfold castBlk; rw [e]

/-- After the last cast the buffer keeps the block. -/
theorem before12 (c : Dev nD) (t : Fin cfg0.N) (h : 22 ≤ t.val) (d) : (dats m 0 c).before 12 t d = castBlk m c t := by
  rw [(dats m 0 c).before_out_traj 12 rfl clip12 (fun t' h0 hi hf => ?_) t.val t rfl d, fresh12 _ t.isLt.le, if_neg (by have hN : t.val < 32 := lt_of_lt_of_eq t.isLt (show cfg0.N = 32 from N_0); simp only [decide_eq_true_eq]; omega), after12, castBlk_pred m c t h]
  rw [idle12_iff, decide_eq_true_eq] at hi
  rw [after12, after12, castBlk_pred m c t' hi]

theorem lastCast_of_lt (t : Fin cfg0.N) (h : t.val < 22) : lastCast t = t := Fin.ext (by show min t.val 21 = t.val; omega)

/-- What the body leaves in the buffer of the weight's result. -/
theorem out12_eq (c : Dev nD) (t : Fin cfg0.N) (d) : out12 (grid0.coords t) (iblk m c 9 t) (iblk m c 10 t) ((dats m 0 c).before 12 t d) = castBlk m c t := by
  unfold out12
  by_cases h : t.val < 22
  · rw [if_pos ((casts_iff t).mpr h)]
    unfold castBlk; rw [lastCast_of_lt t h]
  · rw [if_neg (fun h' => h ((casts_iff t).mp h')), before12 m c t (by omega)]

/-! ## The body obligation -/

abbrev ms0 (t : Fin cfg0.N) : Memref sig .tc .vmem S1x2048x256 .f32 := win0_0.stage (cfg0.slots t 0)
abbrev ms1 (t : Fin cfg0.N) : Memref sig .tc .vmem S1x2048x256 .f32 := win0_1.stage (cfg0.slots t 1)
abbrev ms2 (t : Fin cfg0.N) : Memref sig .tc .vmem S4x256 .f32 := win0_2.stage (cfg0.slots t 2)
abbrev ms3 (t : Fin cfg0.N) : Memref sig .tc .vmem S1x256 .f32 := win0_3.stage (cfg0.slots t 3)
abbrev ms4 (t : Fin cfg0.N) : Memref sig .tc .vmem S2x1x256x256 .bf16 := win0_4.stage (cfg0.slots t 4)
abbrev ms5 (t : Fin cfg0.N) : Memref sig .tc .vmem S2x1x256x256 .bf16 := win0_5.stage (cfg0.slots t 5)
abbrev ms6 (t : Fin cfg0.N) : Memref sig .tc .vmem S2x256 .f32 := win0_6.stage (cfg0.slots t 6)
abbrev ms7 (t : Fin cfg0.N) : Memref sig .tc .vmem S2x256 .f32 := win0_7.stage (cfg0.slots t 7)
abbrev ms8 (t : Fin cfg0.N) : Memref sig .tc .vmem S2x256 .f32 := win0_8.stage (cfg0.slots t 8)
abbrev ms9 (t : Fin cfg0.N) : Memref sig .tc .vmem S1x4096x256 .f32 := win0_9.stage (cfg0.slots t 9)
abbrev ms10 (t : Fin cfg0.N) : Memref sig .tc .vmem S1x4096x256 .f32 := win0_10.stage (cfg0.slots t 10)
abbrev ms11 (t : Fin cfg0.N) : Memref sig .tc .vmem S1x2048x256 .bf16 := win0_11.stage (cfg0.slots t 11)
abbrev ms12 (t : Fin cfg0.N) : Memref sig .tc .vmem S4096x512 .bf16 := win0_12.stage (cfg0.slots t 12)

/-- The region's own buffers, each owned at some contents, and the generator register. -/
theorem PhiA_eq (c : Dev nD) :
    (Pipeline.ΦA spec0 c : sProp 𝕄)
      = iprop(iprop((∃ d, owns (c : Thread nD τ) (Memref.whole cc0_scratch0 : Memref sig .tc .vmem S2048x256 .f32) fullShare d) ∗ (∃ d, owns (c : Thread nD τ) (Memref.whole cc0_scratch1 : Memref sig .tc .vmem S2048x256 .f32) fullShare d) ∗ (∃ d, owns (c : Thread nD τ) (Memref.whole cc0_scratch2 : Memref sig .tc .vmem S2048x256 .f32) fullShare d)) ∗ (∃ r, prngReg c r)) := by
  unfold Pipeline.ΦA; rw [scopedRest0_eq]; simp only [owns_whole]; try rfl

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after10]
theorem leaves11 (c : Dev nD) (t : Fin cfg0.N) : (dats m 0 c).leavesExact 11 t = owns (c : Thread nD τ) (ms11 t) fullShare (mixBlk m c t) := by
  unfold Dat.leavesExact; rw [show cfg0.idle 11 (cfg0.grid.coords t) = false from rfl, after11]

/-- The buffer of the weight's result at the cast block is what is asked of it, in all three cases of the point. -/
theorem leaves12 (c : Dev nD) (t : Fin cfg0.N) :
    owns (c : Thread nD τ) (ms12 t) fullShare (castBlk m c t) ⊢ ((dats m 0 c).leavesExact 12 t : sProp 𝕄) := by
  by_cases h : t.val < 22
  · unfold Dat.leavesExact
    rw [show cfg0.idle 12 (cfg0.grid.coords t) = false from (idle12_iff t).trans (by simp only [decide_eq_false_iff_not]; omega), after12]
  · by_cases h1 : t.val = 31
    · unfold Dat.leavesExact
      rw [show cfg0.idle 12 (cfg0.grid.coords t) = true from (idle12_iff t).trans (by simp only [decide_eq_true_eq]; omega), show (cfg0.win 12).flush t = true from (flush12_iff t).trans (by simp [h1]), after12]
    · rw [(dats m 0 c).leavesExact_idle 12 t ((idle12_iff t).trans (by simp only [decide_eq_true_eq]; omega)) ((flush12_iff t).trans (by simp only [Bool.or_eq_false_iff, decide_eq_false_iff_not]; omega))]
      iintro H
      iexists (castBlk m c t)
      rw [before12 m c t (by omega)]
      iexact H

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, leaves0, leaves1, leaves2, leaves3, leaves4, leaves5, leaves6, leaves7, leaves8, leaves9, leaves10, leaves11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · unfold mixBlk; iexact H11
  rw [out12_eq m c t]
  iapply (leaves12 m c t)
  iexact H12

theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch terminates with every array at its final contents and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.RglruProof

end
-- ==== Proof.ScanMath.lean ====
module

public import Idealize.ShloMosaic.PureOps.Ideal
public import Mathlib.Data.EReal.Inv
public import Mathlib.Tactic.IntervalCases

/-! The linear recurrence `h ← a h + b` over the extended reals, and the three doubling steps that run eight of its steps at once.

The affine maps `c ↦ B + A c` compose associatively when each factor `A` is nonnegative and not `∞`: such a factor is multiplied
through a sum. -/

@[expose] public section

noncomputable section

namespace Cert.RglruProof

/-- A factor that may be multiplied through any sum. -/
def Good (x : EReal) : Prop := 0 ≤ x ∧ x ≠ ⊤

theorem Good.mul {x y : EReal} (hx : Good x) (hy : Good y) : Good (x * y) := by
  obtain ⟨hx0, hx1⟩ := hx
  obtain ⟨hy0, hy1⟩ := hy
  lift x to ℝ using ⟨hx1, (lt_of_lt_of_le EReal.bot_lt_zero hx0).ne'⟩
  lift y to ℝ using ⟨hy1, (lt_of_lt_of_le EReal.bot_lt_zero hy0).ne'⟩
  rw [EReal.coe_nonneg] at hx0 hy0
  rw [← EReal.coe_mul]
  exact ⟨EReal.coe_nonneg.mpr (mul_nonneg hx0 hy0), EReal.coe_ne_top _⟩

theorem Good.distrib {x : EReal} (hx : Good x) (y z : EReal) : x * (y + z) = x * y + x * z :=
  EReal.left_distrib_of_nonneg_of_ne_top hx.1 hx.2 y z

/-- The affine map of a pair. -/
def ap (P : EReal × EReal) (c : EReal) : EReal := P.2 + P.1 * c

/-- The pair of the composition. -/
def comp (P Q : EReal × EReal) : EReal × EReal := (P.1 * Q.1, P.1 * Q.2 + P.2)

theorem ap_comp {P : EReal × EReal} (hP : Good P.1) (Q : EReal × EReal) (c : EReal) : ap (comp P Q) c = ap P (ap Q c) := by
  simp only [ap, comp]
  rw [hP.distrib, mul_assoc, add_comm (P.1 * Q.2) P.2, add_assoc]

/-- One doubling step over the rows: a row takes in the row `s` above it. -/
def hs (s : ℕ) (P : ℕ → EReal × EReal) (r : ℕ) : EReal × EReal := if s ≤ r then comp (P r) (P (r - s)) else P r

/-- The recurrence from `c`, over the rows. -/
def go (P : ℕ → EReal × EReal) (c : EReal) : ℕ → EReal
  | 0 => c
  | r + 1 => ap (P r) (go P c r)

theorem comp_good {P Q : EReal × EReal} (hP : Good P.1) (hQ : Good Q.1) : Good (comp P Q).1 := hP.mul hQ

/-- After the steps 1, 2 and 4 each of eight rows holds the composition of itself with every row before it. -/
theorem scan8 (P : ℕ → EReal × EReal) (hP : ∀ r, r < 8 → Good (P r).1) (c : EReal) (r : ℕ) (hr : r < 8) :
    ap (hs 4 (hs 2 (hs 1 P)) r) c = go P c (r + 1) := by
  have h0 := hP 0 (by omega)
  have h1 := hP 1 (by omega)
  have h2 := hP 2 (by omega)
  have h3 := hP 3 (by omega)
  have h4 := hP 4 (by omega)
  have h5 := hP 5 (by omega)
  have h6 := hP 6 (by omega)
  have h7 := hP 7 (by omega)
  interval_cases r <;> simp (maxDischargeDepth := 9) [hs, go, ap_comp, comp_good, h0, h1, h2, h3, h4, h5, h6, h7]

/-- The recurrence from zero with coefficients `a`, `b`. -/
def line (a b : ℕ → EReal) : ℕ → EReal
  | 0 => 0
  | t + 1 => b t + a t * line a b t

theorem line_add (a b : ℕ → EReal) (s : ℕ) : ∀ n, line a b (s + n) = go (fun r => (a (s + r), b (s + r))) (line a b s) n
  | 0 => rfl
  | n + 1 => by
    show b (s + n) + a (s + n) * line a b (s + n) = _
    rw [line_add a b s n]; rfl

theorem go_congr {P Q : ℕ → EReal × EReal} (c : EReal) : ∀ n, (∀ r, r < n → P r = Q r) → go P c n = go Q c n
  | 0, _ => rfl
  | n + 1, h => by
    show ap (P n) _ = ap (Q n) _
    rw [h n (by omega), go_congr c n fun r hr => h r (by omega)]

theorem line_congr {a b a' b' : ℕ → EReal} : ∀ n, (∀ t, t < n → a t = a' t) → (∀ t, t < n → b t = b' t) → line a b n = line a' b' n
  | 0, _, _ => rfl
  | n + 1, ha, hb => by
    show b n + a n * _ = b' n + a' n * _
    rw [ha n (by omega), hb n (by omega), line_congr n (fun t ht => ha t (by omega)) fun t ht => hb t (by omega)]

end Cert.RglruProof

end
-- ==== Proof.CoeffMath.lean ====
module

public import Idealize.ShloMosaic.PureOps.Ideal
public import proofs.«01_k».proof.Proof.ScanMath
public import Mathlib.Analysis.SpecialFunctions.Trigonometric.DerivHyp
public import Mathlib.Tactic.FieldSimp
public import Mathlib.Tactic.Ring

/-! The recurrence's coefficients over the extended reals: the decay is a good factor, and the two spellings of the input's
normalisation agree. -/

@[expose] public section

noncomputable section

namespace Cert.RglruProof

open Idealize.ShloMosaic

/-- The logarithm of a decay: a nonpositive extended real. -/
theorem exp_good {y : EReal} (hy : y ≤ 0) : Good (Ideal.exp y) := by
  induction y with
  | bot => exact ⟨le_of_eq rfl, EReal.zero_ne_top⟩
  | top => exact absurd hy (by simp)
  | coe r => exact ⟨EReal.coe_nonneg.mpr (Real.exp_pos r).le, EReal.coe_ne_top _⟩

theorem logistic_nonneg (x : EReal) : 0 ≤ Ideal.logistic x := by
  induction x with
  | bot => rw [Ideal.logistic_bot]
  | top => rw [Ideal.logistic_top]; exact zero_le_one
  | coe r => rw [Ideal.logistic_coe]; exact EReal.coe_nonneg.mpr (by positivity)

theorem log1p_nonneg {x : EReal} (hx : 0 ≤ x) : 0 ≤ Ideal.log1p x := by
  induction x with
  | bot => exact absurd hx (by simp)
  | top => unfold Ideal.log1p; rw [show (1 : EReal) + ⊤ = ⊤ from rfl]; exact le_top
  | coe r =>
    rw [EReal.coe_nonneg] at hx
    unfold Ideal.log1p
    rw [show (1 : EReal) + (r : EReal) = ((1 + r : ℝ) : EReal) from by push_cast; rfl, Ideal.log_coe, if_neg (by linarith)]
    exact EReal.coe_nonneg.mpr (Real.log_nonneg (by linarith))

theorem exp_nonneg (x : EReal) : 0 ≤ Ideal.exp x := by
  induction x with
  | bot => exact le_of_eq rfl
  | top => exact le_top
  | coe r => exact EReal.coe_nonneg.mpr (Real.exp_pos r).le

/-- `log(1 + e^z)`, as it is computed. -/
def softplus (z : EReal) : EReal := max z 0 + Ideal.log1p (Ideal.exp (-(max z (-z))))

theorem softplus_nonneg (z : EReal) : 0 ≤ softplus z :=
  add_nonneg (le_max_right _ _) (log1p_nonneg (exp_nonneg _))

/-- `tanh` and `expm1` spell the same normalisation. -/
theorem norm_eq {y : EReal} (hy : y ≤ 0) :
    Ideal.sqrt (Ideal.div (-2 * Ideal.tanh y) (1 - Ideal.tanh y)) = Ideal.sqrt (-(Ideal.exp (2 * y) - 1)) := by
  congr 1
  induction y with
  | top => exact absurd hy (by simp)
  | bot =>
    rw [EReal.mul_bot_of_pos (by norm_num), Ideal.tanh_bot, Ideal.exp_bot]
    rw [show (-2 : EReal) * -1 = ((2 : ℝ) : EReal) from by rw [neg_mul_neg, mul_one]; rfl, show (1 : EReal) - -1 = ((2 : ℝ) : EReal) from by rw [sub_eq_add_neg, neg_neg, one_add_one_eq_two]; rfl,
      Ideal.div_coe two_ne_zero, ← EReal.coe_mul]
    norm_num
  | coe r =>
    rw [Ideal.tanh_coe, show (2 : EReal) * (r : EReal) = ((2 * r : ℝ) : EReal) from by push_cast; rfl, Ideal.exp_coe]
    have hc : 0 < Real.cosh r := Real.cosh_pos r
    have ht : 1 - Real.tanh r ≠ 0 := (sub_pos.mpr (Real.tanh_lt_one r)).ne'
    rw [show (-2 : EReal) * ((Real.tanh r : ℝ) : EReal) = ((-2 * Real.tanh r : ℝ) : EReal) from by push_cast; rfl,
      show (1 : EReal) - ((Real.tanh r : ℝ) : EReal) = ((1 - Real.tanh r : ℝ) : EReal) from by push_cast; rfl,
      Ideal.div_coe ht, ← EReal.coe_mul,
      show -(((Real.exp (2 * r) : ℝ) : EReal) - 1) = ((-(Real.exp (2 * r) - 1) : ℝ) : EReal) from by push_cast; rfl]
    congr 1
    rw [mul_one_div, div_eq_iff ht, Real.tanh_eq_sinh_div_cosh, Real.sinh_eq, Real.cosh_eq]
    have he : Real.exp (2 * r) = Real.exp r * Real.exp r := by rw [← Real.exp_add]; ring_nf
    have hn : Real.exp (-r) = (Real.exp r)⁻¹ := Real.exp_neg r
    have hp : Real.exp r ≠ 0 := (Real.exp_pos r).ne'
    have hq : Real.exp r * Real.exp r + 1 ≠ 0 := by positivity
    rw [he, hn]
    field_simp
    ring

end Cert.RglruProof

end
-- ==== Proof.ScanRead.lean ====
module

public import proofs.«01_k».proof.Proof.Sweep
public import proofs.«01_k».proof.Proof.CoeffMath
public import Idealize.ShloMosaic.Lib.Pointwise
public import Idealize.ShloMosaic.Lib.IdealHost

/-! The eight-row block of either sweep, read at a row: the three doubling steps applied to the carried row. -/

@[expose] public section

set_option maxRecDepth 16384

noncomputable section

namespace Cert.RglruProof

open Idealize.ShloMosaic Idealize.ShloMosaic.TcCoe
open Cert.KernelIdeal Cert.KernelIdeal.Gen

theorem bits_zero : (FloatOps.ofBits (F := Ideal) .f32 0x00000000#32 : EReal) = 0 := by simp [Ideal.ofBits, Ideal.ieee]
theorem bits_one : (FloatOps.ofBits (F := Ideal) .f32 0x3F800000#32 : EReal) = 1 := Ideal.ofBits_one_f32

/-- Column `l` of eight rows, in the order `e` of the rows. -/
def rd (e : Fin 8 → Fin 8) (v : FVec Ideal S8x256 .f32) (l : Fin 256) (r : ℕ) : EReal := if h : r < 8 then v (ix2 (e ⟨r, h⟩) l) else 0

/-- One doubling step of the factors, and of the terms. -/
def stepA (s : BitVec 32) (c : IVec S8x256 1) (A : FVec Ideal S8x256 .f32) : FVec Ideal S8x256 .f32 :=
  mulf A (select c (dynamicRotate 0 s none A rotates_S8x256_d0) (broadcast S8x256 (Scalar.ofBits .f32 0x3F800000#32)))
def stepB (s : BitVec 32) (c : IVec S8x256 1) (A B : FVec Ideal S8x256 .f32) : FVec Ideal S8x256 .f32 :=
  addf (mulf A (select c (dynamicRotate 0 s none B rotates_S8x256_d0) (broadcast S8x256 (Scalar.ofBits .f32 0x00000000#32)))) B

theorem select_word (c : BitVec 1) (p : Prop) [Decidable p] (hc : c = if p then 1#1 else 0#1) (x y : EReal) :
    Scalar.select c x y = if p then x else y := by
  by_cases h : p
  · rw [hc, if_pos h, if_pos h]; rfl
  · rw [hc, if_neg h, if_neg h]; rfl

theorem select_rd (e : Fin 8 → Fin 8) (n : ℕ) (s : BitVec 32) (c : IVec S8x256 1) (l : Fin 256) (v : FVec Ideal S8x256 .f32) (z : EReal)
    (hc : ∀ r : Fin 8, c (ix2 (e r) l) = if n ≤ r.val then 1#1 else 0#1)
    (he : ∀ r : Fin 8, n ≤ r.val → ((e r).val + 8 - s.toNat % 8) % 8 = (e ⟨r.val - n, by omega⟩).val) (r : ℕ) (hr : r < 8) :
    rd e (select c (dynamicRotate 0 s none v rotates_S8x256_d0) (broadcast S8x256 z)) l r = if n ≤ r then rd e v l (r - n) else z := by
  unfold rd
  rw [dif_pos hr]
  pointwise
  rw [select_word _ _ (hc ⟨r, hr⟩)]
  by_cases h : n ≤ r
  · rw [if_pos h, if_pos h, dif_pos (by omega)]
    congr 2
    exact Fin.ext (he ⟨r, hr⟩ h)
  · rw [if_neg h, if_neg h]

theorem step_rd (e : Fin 8 → Fin 8) (n : ℕ) (s : BitVec 32) (c : IVec S8x256 1) (l : Fin 256)
    (hc : ∀ r : Fin 8, c (ix2 (e r) l) = if n ≤ r.val then 1#1 else 0#1)
    (he : ∀ r : Fin 8, n ≤ r.val → ((e r).val + 8 - s.toNat % 8) % 8 = (e ⟨r.val - n, by omega⟩).val)
    (A B : FVec Ideal S8x256 .f32) (P : ℕ → EReal × EReal) (hP : ∀ r, r < 8 → (rd e A l r, rd e B l r) = P r) (r : ℕ) (hr : r < 8) :
    (rd e (stepA s c A) l r, rd e (stepB s c A B) l r) = hs n P r := by
  have hA : rd e (stepA s c A) l r = rd e A l r * (if n ≤ r then rd e A l (r - n) else 1) := by
    rw [← bits_one, ← select_rd e n s c l A _ hc he r hr]
    unfold rd; simp only [dif_pos hr]; rfl
  have hB : rd e (stepB s c A B) l r = rd e A l r * (if n ≤ r then rd e B l (r - n) else 0) + rd e B l r := by
    rw [← bits_zero, ← select_rd e n s c l B _ hc he r hr]
    unfold rd; simp only [dif_pos hr]; rfl
  unfold hs
  rw [hA, hB, ← hP r hr]
  by_cases h : n ≤ r
  · rw [if_pos h, if_pos h, if_pos h, ← hP (r - n) (by omega)]; rfl
  · rw [if_neg h, if_neg h, if_neg h, mul_one, mul_zero, zero_add]

/-! ## Forward -/

theorem down_word (s : BitVec 32) (n : ℕ) (h : ∀ r : Fin 8, IntOp.cmpi .sge (BitVec.ofNat 32 r.val) s = if n ≤ r.val then 1#1 else 0#1) (l : Fin 256) (r : Fin 8) :
    cmpi .sge rowIx (broadcast S8x256 s) (ix2 (id r) l) = if n ≤ r.val then 1#1 else 0#1 := by
  rw [← h r]; pointwise [rowIx]; rfl

theorem fwd_pair (A B : FVec Ideal S8x256 .f32) (l : Fin 256) (r : ℕ) (hr : r < 8) :
    (rd id (stepA 4#32 (k0_pay10 rowIx) (k0_pay9 rowIx A)) l r, rd id (k0_pay11 rowIx A B) l r)
      = hs 4 (hs 2 (hs 1 fun r => (rd id A l r, rd id B l r))) r := by
  refine step_rd id 4 4#32 _ l (down_word 4#32 4 (by decide) l) (by decide) _ (stepB 2#32 (k0_pay8 rowIx) (k0_pay7 rowIx A) (stepB 1#32 (k0_pay6 rowIx) A B)) _ (fun r hr => ?_) r hr
  refine step_rd id 2 2#32 _ l (down_word 2#32 2 (by decide) l) (by decide) (k0_pay7 rowIx A) _ _ (fun r hr => ?_) r hr
  exact step_rd id 1 1#32 _ l (down_word 1#32 1 (by decide) l) (by decide) A B _ (fun r _ => rfl) r hr

/-- A row of the block that a trip of the forward sweep stores. -/
theorem fwd_row (A B : FVec Ideal S8x256 .f32) (C : FVec Ideal S1x256 .f32) (l : Fin 256) (hA : ∀ r, r < 8 → Good (rd id A l r)) (r : ℕ) (hr : r < 8) :
    k0_pay34 (k0_pay11 rowIx A B) (k0_pay12 rowIx C A) (ix2 ⟨r, hr⟩ l) = go (fun r => (rd id A l r, rd id B l r)) (C (ix2 0 l)) (r + 1) := by
  rw [← scan8 (fun r => (rd id A l r, rd id B l r)) hA (C (ix2 0 l)) r hr, ← fwd_pair A B l r hr]
  unfold ap rd
  simp only [dif_pos hr, id]
  have e : k0_pay12 rowIx C A = mulf (stepA 4#32 (k0_pay10 rowIx) (k0_pay9 rowIx A)) (broadcastTo S8x256 C broadcasts_S1x256_S8x256) := rfl
  rw [e]
  pointwise [k0_pay34]

/-! ## Backward -/

theorem up_word (s : BitVec 32) (n : ℕ) (h : ∀ r : Fin 8, IntOp.cmpi .slt (BitVec.ofNat 32 (Fin.rev r).val) s = if n ≤ r.val then 1#1 else 0#1) (l : Fin 256) (r : Fin 8) :
    cmpi .slt rowIx (broadcast S8x256 s) (ix2 (Fin.rev r) l) = if n ≤ r.val then 1#1 else 0#1 := by
  rw [← h r]; pointwise [rowIx]

theorem bwd_pair (A B : FVec Ideal S8x256 .f32) (l : Fin 256) (r : ℕ) (hr : r < 8) :
    (rd Fin.rev (k0_pay19 rowIx A) l r, rd Fin.rev (k0_pay18 rowIx A B) l r)
      = hs 4 (hs 2 (hs 1 fun r => (rd Fin.rev A l r, rd Fin.rev B l r))) r := by
  refine step_rd Fin.rev 4 4#32 (k0_pay17 rowIx) l (up_word 4#32 4 (by decide) l) (by decide) (k0_pay16 rowIx A) (stepB 6#32 (k0_pay15 rowIx) (k0_pay14 rowIx A) (stepB 7#32 (k0_pay13 rowIx) A B)) _ (fun r hr => ?_) r hr
  refine step_rd Fin.rev 2 6#32 _ l (up_word 6#32 2 (by decide) l) (by decide) (k0_pay14 rowIx A) _ _ (fun r hr => ?_) r hr
  exact step_rd Fin.rev 1 7#32 _ l (up_word 7#32 1 (by decide) l) (by decide) A B _ (fun r _ => rfl) r hr

/-- A row of the block that a trip of the backward sweep adds, the rows counted from the last. -/
theorem bwd_row (A B : FVec Ideal S8x256 .f32) (C : FVec Ideal S1x256 .f32) (l : Fin 256) (hA : ∀ r, r < 8 → Good (rd Fin.rev A l r)) (r : ℕ) (hr : r < 8) :
    k0_pay1 C (k0_pay18 rowIx A B) (k0_pay19 rowIx A) (ix2 (Fin.rev ⟨r, hr⟩) l) = go (fun r => (rd Fin.rev A l r, rd Fin.rev B l r)) (C (ix2 0 l)) (r + 1) := by
  rw [← scan8 (fun r => (rd Fin.rev A l r, rd Fin.rev B l r)) hA (C (ix2 0 l)) r hr, ← bwd_pair A B l r hr]
  unfold ap rd
  simp only [dif_pos hr]
  pointwise [k0_pay1]

end Cert.RglruProof

end
-- ==== Proof.SweepValue.lean ====
module

public import proofs.«01_k».proof.Proof.ScanRead

/-! The two sweeps are the linear recurrence, forward over the rows and backward over the rows. -/

@[expose] public section

set_option maxRecDepth 16384

noncomputable section

namespace Cert.RglruProof

open Idealize.ShloMosaic Idealize.ShloMosaic.TcCoe
open Cert.KernelIdeal Cert.KernelIdeal.Gen

/-- Column `l` of an array of 2048 rows, downward and upward. -/
def col (A : Vec Ideal S2048x256 .f32) (l : Fin 256) (t : ℕ) : EReal := if h : t < 2048 then A (ix2 ⟨t, h⟩ l) else 0
def rcol (A : Vec Ideal S2048x256 .f32) (l : Fin 256) (t : ℕ) : EReal := col A l (2047 - t)

theorem ld1 (A : Vec Ideal S2048x256 .f32) (k : Fin k0_t1_loop.trips) (l : Fin 256) (r : ℕ) (hr : r < 8) :
    rd id (View.ld A (rect1 k)) l r = col A l (8 * k.val + r) := by
  have hk := lt_of_lt_of_eq k.isLt trips1
  have ht : 8 * k.val + r < 2048 := by omega
  unfold rd col
  rw [dif_pos hr, dif_pos ht]
  show A ((rect1 k).toLoadRect.idx (ix2 ⟨r, hr⟩ l)) = A (ix2 ⟨8 * k.val + r, ht⟩ l)
  congr 1
  funext x
  apply Fin.ext
  have hoff := congrFun (k0_off1_eq k) x
  match x, hoff with
  | ⟨0, _⟩, hoff =>
    show k0_off1 k (0 : Fin 2) + 1 * r = 8 * k.val + r
    rw [show k0_off1 k (0 : Fin 2) = 8 * k.val from hoff]; omega
  | ⟨1, _⟩, hoff =>
    show k0_off1 k (1 : Fin 2) + 1 * l.val = l.val
    rw [show k0_off1 k (1 : Fin 2) = 0 from hoff]; omega

theorem ld2 (A : Vec Ideal S2048x256 .f32) (k : Fin k0_t2_loop.trips) (l : Fin 256) (r : ℕ) (hr : r < 8) :
    rd Fin.rev (View.ld A (rect2 k)) l r = rcol A l (8 * k.val + r) := by
  have hk := lt_of_lt_of_eq k.isLt trips2
  have ht : 2047 - (8 * k.val + r) < 2048 := by omega
  unfold rd rcol col
  rw [dif_pos hr, dif_pos ht]
  show A ((rect2 k).toLoadRect.idx (ix2 (Fin.rev ⟨r, hr⟩) l)) = A (ix2 ⟨2047 - (8 * k.val + r), ht⟩ l)
  congr 1
  funext x
  apply Fin.ext
  have hoff := congrFun (k0_off2_eq k) x
  match x, hoff with
  | ⟨0, _⟩, hoff =>
    show k0_off2 k (0 : Fin 2) + 1 * (8 - (r + 1)) = 2047 - (8 * k.val + r)
    rw [show k0_off2 k (0 : Fin 2) = 2040 - 8 * k.val from hoff]; omega
  | ⟨1, _⟩, hoff =>
    show k0_off2 k (1 : Fin 2) + 1 * l.val = l.val
    rw [show k0_off2 k (1 : Fin 2) = 0 from hoff]; omega

theorem pay36_row (X Y : FVec Ideal S8x256 .f32) (l : Fin 256) : k0_pay36 X Y (ix2 0 l) = k0_pay34 X Y (ix2 ⟨7, by omega⟩ l) := by
  pointwise [k0_pay36, k0_pay34]

theorem pay3_row (C : FVec Ideal S1x256 .f32) (X Y : FVec Ideal S8x256 .f32) (l : Fin 256) : k0_pay3 C X Y (ix2 0 l) = k0_pay1 C X Y (ix2 (Fin.rev ⟨7, by omega⟩) l) := by
  pointwise [k0_pay3, k0_pay1]
  rfl

/-- Eight steps of the recurrence, from the carried row. -/
theorem fwd_go (A B : Vec Ideal S2048x256 .f32) (l : Fin 256) (hA : ∀ t, Good (col A l t)) (k : Fin k0_t1_loop.trips) (C : FVec Ideal S1x256 .f32)
    (hC : C (ix2 0 l) = line (col A l) (col B l) (8 * k.val)) (r : ℕ) (hr : r < 8) :
    k0_pay34 (k0_pay11 rowIx (View.ld A (rect1 k)) (View.ld B (rect1 k))) (k0_pay12 rowIx C (View.ld A (rect1 k))) (ix2 ⟨r, hr⟩ l)
      = line (col A l) (col B l) (8 * k.val + (r + 1)) := by
  rw [fwd_row _ _ C l (fun r hr => by rw [ld1 A k l r hr]; exact hA _) r hr, line_add, hC]
  refine go_congr _ _ fun i hi => ?_
  rw [ld1 A k l i (by omega), ld1 B k l i (by omega)]

theorem fcar_line (A B : Vec Ideal S2048x256 .f32) (l : Fin 256) (hA : ∀ t, Good (col A l t)) :
    ∀ k, k ≤ 256 → (fcar A B k (ix2 0 l) : EReal) = line (col A l) (col B l) (8 * k) := by
  intro k
  induction k with
  | zero => intro _; exact bits_zero
  | succ k ih =>
    intro hk
    have hlt : k < k0_t1_loop.trips := by rw [trips1]; omega
    rw [fcar_succ A B ⟨k, hlt⟩, pay36_row, fwd_go A B l hA ⟨k, hlt⟩ (fcar A B k) (ih (by omega)) 7 (by omega)]
    rfl

/-- The forward sweep is the recurrence downward. -/
theorem hfwd_line (A B : Vec Ideal S2048x256 .f32) (l : Fin 256) (hA : ∀ t, Good (col A l t)) (t : Fin 2048) :
    (hfwd A B (ix2 t l) : EReal) = line (col A l) (col B l) (t.val + 1) := by
  have hk : t.val / 8 < k0_t1_loop.trips := by rw [trips1]; omega
  have := fwd_go A B l hA ⟨t.val / 8, hk⟩ (fcar A B (t.val / 8)) (fcar_line A B l hA _ (by omega)) (t.val % 8) (Nat.mod_lt _ (by decide))
  refine Eq.trans ?_ (this.trans ?_)
  · show fblk A B ⟨t.val / 8, _⟩ (ix2 ⟨t.val % 8, _⟩ l) = _
    unfold fblk k0_pay35
    rw [shapeCast_self]
  · show line _ _ (8 * (t.val / 8) + (t.val % 8 + 1)) = _
    congr 1; omega

theorem bwd_go (A B : Vec Ideal S2048x256 .f32) (l : Fin 256) (hA : ∀ t, Good (rcol A l t)) (k : Fin k0_t2_loop.trips) (C : FVec Ideal S1x256 .f32)
    (hC : C (ix2 0 l) = line (rcol A l) (rcol B l) (8 * k.val)) (r : ℕ) (hr : r < 8) :
    k0_pay1 C (k0_pay18 rowIx (View.ld A (rect2 k)) (View.ld B (rect2 k))) (k0_pay19 rowIx (View.ld A (rect2 k))) (ix2 (Fin.rev ⟨r, hr⟩) l)
      = line (rcol A l) (rcol B l) (8 * k.val + (r + 1)) := by
  rw [bwd_row _ _ C l (fun r hr => by rw [ld2 A k l r hr]; exact hA _) r hr, line_add, hC]
  refine go_congr _ _ fun i hi => ?_
  rw [ld2 A k l i (by omega), ld2 B k l i (by omega)]

theorem bcar_line (A B : Vec Ideal S2048x256 .f32) (l : Fin 256) (hA : ∀ t, Good (rcol A l t)) :
    ∀ k, k ≤ 256 → (bcar A B k (ix2 0 l) : EReal) = line (rcol A l) (rcol B l) (8 * k) := by
  intro k
  induction k with
  | zero => intro _; exact bits_zero
  | succ k ih =>
    intro hk
    have hlt : k < k0_t2_loop.trips := by rw [trips2]; omega
    rw [bcar_succ A B ⟨k, hlt⟩, pay3_row, bwd_go A B l hA ⟨k, hlt⟩ (bcar A B k) (ih (by omega)) 7 (by omega)]
    rfl

/-- The backward sweep is the recurrence upward. -/
theorem hbwd_line (A B : Vec Ideal S2048x256 .f32) (l : Fin 256) (hA : ∀ t, Good (rcol A l t)) (t : Fin 2048) :
    (hbwd A B (ix2 t l) : EReal) = line (rcol A l) (rcol B l) (2048 - t.val) := by
  have hk : 255 - t.val / 8 < k0_t2_loop.trips := by rw [trips2]; omega
  have := bwd_go A B l hA ⟨255 - t.val / 8, hk⟩ (bcar A B (255 - t.val / 8)) (bcar_line A B l hA _ (by omega)) (7 - t.val % 8) (by omega)
  refine Eq.trans ?_ (this.trans ?_)
  · show bblk A B ⟨255 - t.val / 8, _⟩ (ix2 ⟨t.val % 8, _⟩ l) = _
    unfold bblk
    congr 2
    apply Fin.ext
    show t.val % 8 = 8 - (7 - t.val % 8 + 1)
    omega
  · show line _ _ (8 * (255 - t.val / 8) + (7 - t.val % 8 + 1)) = _
    congr 1; omega

end Cert.RglruProof

end
-- ==== Proof.Spec.lean ====
module

public import proofs.«01_k».proof.Proof.ScanMath
public import proofs.«01_k».proof.Proof.CoeffMath

/-! The mixer of one batch entry and one head, over the extended reals: convolution, gates, decays, the two recurrences, the gating. -/

@[expose] public section

noncomputable section

namespace Cert.RglruProof

open Idealize.ShloMosaic

/-- What one batch entry and one head of 256 channels read: the two halves of the projection, the convolution, and for
    each of the two directions the gates' weights and biases and the decay's parameter. -/
structure Head where
  xs : Fin 2048 → Fin 256 → EReal
  ys : Fin 2048 → Fin 256 → EReal
  cw : Fin 4 → Fin 256 → EReal
  cb : Fin 256 → EReal
  wa : Fin 2 → Fin 256 → Fin 256 → EReal
  ba : Fin 2 → Fin 256 → EReal
  wx : Fin 2 → Fin 256 → Fin 256 → EReal
  bx : Fin 2 → Fin 256 → EReal
  lam : Fin 2 → Fin 256 → EReal

namespace Head

variable (H : Head)

/-- The convolution along time: two rows before, one row after. -/
def xc (t : Fin 2048) (l : Fin 256) : EReal :=
  (if h : t.val < 2 then 0 else H.xs ⟨t.val - 2, by omega⟩ l) * H.cw 0 l + (if h : t.val < 1 then 0 else H.xs ⟨t.val - 1, by omega⟩ l) * H.cw 1 l
    + H.xs t l * H.cw 2 l + (if h : t.val = 2047 then 0 else H.xs ⟨t.val + 1, by omega⟩ l) * H.cw 3 l + H.cb l

/-- The recurrence gate and the input gate of direction `d`. -/
def ga (d : Fin 2) (t : Fin 2048) (l : Fin 256) : EReal := Ideal.logistic ((∑ k, H.xc t k * H.wa d k l) + H.ba d l)
def gx (d : Fin 2) (t : Fin 2048) (l : Fin 256) : EReal := Ideal.logistic ((∑ k, H.xc t k * H.wx d k l) + H.bx d l)

/-- The logarithm of the decay: minus eight times the gate times the softplus of `-λ`. -/
def la (d : Fin 2) (t : Fin 2048) (l : Fin 256) : EReal := (Ideal.ofBits .f32 0xC1000000#32 * H.ga d t l) * softplus (-(H.lam d l))

/-- The decay, and the input term. -/
def dec (d : Fin 2) (t : Fin 2048) (l : Fin 256) : EReal := Ideal.exp (H.la d t l)
def drv (d : Fin 2) (t : Fin 2048) (l : Fin 256) : EReal := Ideal.sqrt (-(Ideal.exp (2 * H.la d t l) - 1)) * (H.gx d t l * H.xc t l)

/-- A column of a row function, downward and upward. -/
def down (f : Fin 2048 → Fin 256 → EReal) (l : Fin 256) (t : ℕ) : EReal := if h : t < 2048 then f ⟨t, h⟩ l else 0
def up (f : Fin 2048 → Fin 256 → EReal) (l : Fin 256) (t : ℕ) : EReal := down f l (2047 - t)

/-- The forward and the backward recurrence at row `t`. -/
def fwd (t : Fin 2048) (l : Fin 256) : EReal := line (down (H.dec 0) l) (down (H.drv 0) l) (t.val + 1)
def bwd (t : Fin 2048) (l : Fin 256) : EReal := line (up (H.dec 1) l) (up (H.drv 1) l) (2048 - t.val)

/-- The tangent form of the Gaussian gate. -/
def gel (y : EReal) : EReal :=
  y * (Ideal.ofBits .f32 0x3F000000#32 * (1 + Ideal.tanh (Ideal.ofBits .f32 0x3F4C422A#32 * (y + Ideal.ofBits .f32 0x3D372713#32 * (y * (y * y))))))

/-- The mixer's result. -/
def out (t : Fin 2048) (l : Fin 256) : EReal := (H.fwd t l + H.bwd t l) * gel (H.ys t l)

theorem neg_eight : Ideal.ofBits .f32 0xC1000000#32 ≤ (0 : EReal) := by
  have : (Ideal.ofBits .f32 0xC1000000#32 : EReal) = ((-8 : ℝ) : EReal) := by
    simp [Ideal.ofBits, Ideal.ieee, -EReal.coe_mul]; norm_num
  rw [this]
  exact_mod_cast (by norm_num : (-8 : ℝ) ≤ 0)

theorem la_nonpos (d : Fin 2) (t : Fin 2048) (l : Fin 256) : H.la d t l ≤ 0 :=
  EReal.mul_nonpos_iff.mpr (Or.inr ⟨EReal.mul_nonpos_iff.mpr (Or.inr ⟨neg_eight, logistic_nonneg _⟩), softplus_nonneg _⟩)

theorem dec_good (d : Fin 2) (t : Fin 2048) (l : Fin 256) : Good (H.dec d t l) := exp_good (H.la_nonpos d t l)

theorem zero_good : Good 0 := ⟨le_refl _, EReal.zero_ne_top⟩

theorem down_dec_good (d : Fin 2) (l : Fin 256) (t : ℕ) : Good (down (H.dec d) l t) := by
  unfold down; split
  · exact H.dec_good d _ l
  · exact zero_good

end Head

end Cert.RglruProof

end
-- ==== Proof.CoeffBlock.lean ====
module

public import proofs.«01_k».proof.Proof.Body
public import proofs.«01_k».proof.Proof.SweepValue
public import proofs.«01_k».proof.Proof.Spec

/-! The block that one grid point computes, read at a row and a channel: the mixer of its head. -/

@[expose] public section

set_option maxRecDepth 16384

noncomputable section

namespace Cert.RglruProof

open Idealize.ShloMosaic Idealize.ShloMosaic.TcCoe
open Cert.KernelIdeal Cert.KernelIdeal.Gen

/-- The head that the blocks of a grid point hold. -/
def headOf (x0 x1 : Vec Ideal S1x2048x256 .f32) (x2 : Vec Ideal S4x256 .f32) (x3 : Vec Ideal S1x256 .f32) (x4 x5 : Vec Ideal S2x1x256x256 .bf16) (x6 x7 x8 : Vec Ideal S2x256 .f32) : Head where
  xs t l := x0 (ix3 0 t l)
  ys t l := x1 (ix3 0 t l)
  cw j l := x2 (ix2 j l)
  cb l := x3 (ix2 0 l)
  wa d k l := x4 (ix4 d 0 k l)
  ba d l := x6 (ix2 d l)
  wx d k l := x5 (ix4 d 0 k l)
  bx d l := x7 (ix2 d l)
  lam d l := x8 (ix2 d l)

variable (x0 x1 : Vec Ideal S1x2048x256 .f32) (x2 : Vec Ideal S4x256 .f32) (x3 : Vec Ideal S1x256 .f32) (x4 x5 : Vec Ideal S2x1x256x256 .bf16) (x6 x7 x8 : Vec Ideal S2x256 .f32)

theorem slt2 : ∀ t : Fin 2048, IntOp.cmpi .slt (BitVec.ofNat 32 t.val) 2#32 = if t.val < 2 then 1#1 else 0#1 := by decide +kernel
theorem slt1 : ∀ t : Fin 2048, IntOp.cmpi .slt (BitVec.ofNat 32 t.val) 1#32 = if t.val < 1 then 1#1 else 0#1 := by decide +kernel
theorem eqlast : ∀ t : Fin 2048, IntOp.cmpi .eq (BitVec.ofNat 32 t.val) 2047#32 = if t.val = 2047 then 1#1 else 0#1 := by decide +kernel

theorem shifted (p : Prop) [Decidable p] (u w : EReal) (f : ¬p → EReal) (hf : ∀ h, u = f h) :
    (if p then 0 else u * w) = (if h : p then 0 else f h) * w := by
  by_cases h : p
  · rw [if_pos h, dif_pos h, zero_mul]
  · rw [if_neg h, dif_neg h, hf h]

theorem conv_read (t : Fin 2048) (l : Fin 256) :
    (k0_pay21 (k0_pay20 x0 x2) x3 (ix2 t l) : EReal) = (headOf x0 x1 x2 x3 x4 x5 x6 x7 x8).xc t l := by
  pointwise [k0_pay21, k0_pay20]
  rw [select_word _ _ (slt2 t), select_word _ _ (slt1 t), select_word _ _ (eqlast t)]
  unfold Head.xc headOf
  dsimp only
  congr 1
  congr 1
  · congr 1
    congr 1
    · refine shifted _ _ _ _ fun h => ?_
      congr 2
      exact Fin.ext (by show (t.val + 2048 - 2) % 2048 = t.val - 2; omega)
    · refine shifted _ _ _ _ fun h => ?_
      congr 2
      exact Fin.ext (by show (t.val + 2048 - 1) % 2048 = t.val - 1; omega)
  · refine shifted _ _ _ _ fun h => ?_
    congr 2
    exact Fin.ext (by show (t.val + 2048 - 2047) % 2048 = t.val + 1; omega)

theorem page0_read (w : Vec Ideal S2x1x256x256 .bf16) (k l : Fin 256) : page0 w (ix4 0 0 k l) = w (ix4 0 0 k l) := by pointwise [page0]
theorem page1_read (w : Vec Ideal S2x1x256x256 .bf16) (k l : Fin 256) : page1 w (ix4 0 0 k l) = w (ix4 1 0 k l) := by pointwise [page1]
theorem line0_read (w : Vec Ideal S2x256 .f32) (l : Fin 256) : line0 w (ix2 0 l) = w (ix2 0 l) := by pointwise [line0]
theorem line1_read (w : Vec Ideal S2x256 .f32) (l : Fin 256) : line1 w (ix2 0 l) = w (ix2 1 l) := by pointwise [line1]

theorem gate_x0 (t : Fin 2048) (l : Fin 256) :
    (k0_pay23 (k0_pay20 x0 x2) x3 (page0 x5) (line0 x7) (ix2 t l) : EReal) = (headOf x0 x1 x2 x3 x4 x5 x6 x7 x8).gx 0 t l := by
  unfold Head.gx
  simp only [← conv_read x0 x1 x2 x3 x4 x5 x6 x7 x8]
  pointwise [k0_pay23, k0_pay22]
  exact congrArg Ideal.logistic (congrArg₂ (· + ·) (Finset.sum_congr rfl fun k _ => congrArg (_ * ·) (page0_read x5 k l)) (line0_read x7 l))

theorem gate_a0 (t : Fin 2048) (l : Fin 256) :
    (k0_pay24 (k0_pay20 x0 x2) x3 (page0 x4) (line0 x6) (ix2 t l) : EReal) = Ideal.ofBits .f32 0xC1000000#32 * (headOf x0 x1 x2 x3 x4 x5 x6 x7 x8).ga 0 t l := by
  unfold Head.ga
  simp only [← conv_read x0 x1 x2 x3 x4 x5 x6 x7 x8]
  pointwise [k0_pay24, k0_pay22]
  exact congrArg (_ * ·) (congrArg Ideal.logistic (congrArg₂ (· + ·) (Finset.sum_congr rfl fun k _ => congrArg (_ * ·) (page0_read x4 k l)) (line0_read x6 l)))

theorem log0 (t : Fin 2048) (l : Fin 256) :
    (k0_pay30 (k0_pay24 (k0_pay20 x0 x2) x3 (page0 x4) (line0 x6)) (k0_pay27 (line0 x8)) (k0_pay28 (line0 x8)) (k0_pay29 (line0 x8)) (ix2 t l) : EReal)
      = (headOf x0 x1 x2 x3 x4 x5 x6 x7 x8).la 0 t l := by
  unfold Head.la
  rw [← gate_a0 x0 x1 x2 x3 x4 x5 x6 x7 x8]
  pointwise [k0_pay30, k0_pay29, k0_pay28, k0_pay27, k0_pay26, k0_pay25]
  rw [line0_read, if_neg (by simp), zero_sub, zero_sub]
  rfl

theorem gate_x1 (t : Fin 2048) (l : Fin 256) :
    (Ideal.logistic (k0_pay38 (k0_pay22 (k0_pay20 x0 x2) x3) (page1 x5) (ix2 t l) + line1 x7 (ix2 0 l)) : EReal) = (headOf x0 x1 x2 x3 x4 x5 x6 x7 x8).gx 1 t l := by
  unfold Head.gx
  simp only [← conv_read x0 x1 x2 x3 x4 x5 x6 x7 x8]
  pointwise [k0_pay38, k0_pay22]
  exact congrArg Ideal.logistic (congrArg₂ (· + ·) (Finset.sum_congr rfl fun k _ => congrArg (_ * ·) (page1_read x5 k l)) (line1_read x7 l))

theorem gate_a1 (t : Fin 2048) (l : Fin 256) :
    (k0_pay37 (k0_pay22 (k0_pay20 x0 x2) x3) (page1 x4) (line1 x6) (ix2 t l) : EReal) = (headOf x0 x1 x2 x3 x4 x5 x6 x7 x8).ga 1 t l := by
  unfold Head.ga
  simp only [← conv_read x0 x1 x2 x3 x4 x5 x6 x7 x8]
  pointwise [k0_pay37, k0_pay22]
  exact congrArg Ideal.logistic (congrArg₂ (· + ·) (Finset.sum_congr rfl fun k _ => congrArg (_ * ·) (page1_read x4 k l)) (line1_read x6 l))

theorem log1 (t : Fin 2048) (l : Fin 256) :
    (k0_pay39 (k0_pay37 (k0_pay22 (k0_pay20 x0 x2) x3) (page1 x4) (line1 x6)) (line1 x8) (ix2 t l) : EReal)
      = (headOf x0 x1 x2 x3 x4 x5 x6 x7 x8).la 1 t l := by
  unfold Head.la
  rw [← gate_a1 x0 x1 x2 x3 x4 x5 x6 x7 x8]
  pointwise [k0_pay39]
  rw [line1_read, if_neg (by simp), zero_sub, zero_sub]
  rfl

theorem minus_two : (Ideal.ofBits .f32 0xC0000000#32 : EReal) = -2 := by
  have h : (Ideal.ofBits .f32 0xC0000000#32 : EReal) = ((-2 : ℝ) : EReal) := by
    simp [Ideal.ofBits, Ideal.ieee, -EReal.coe_mul]; norm_num
  rw [h]; rfl

theorem decay0_read (t : Fin 2048) (l : Fin 256) : (decay0 x0 x2 x3 x4 x6 x8 (ix2 t l) : EReal) = (headOf x0 x1 x2 x3 x4 x5 x6 x7 x8).dec 0 t l := by
  unfold Head.dec
  rw [← log0 x0 x1 x2 x3 x4 x5 x6 x7 x8]
  pointwise [decay0, k0_pay31]

theorem decay1_read (t : Fin 2048) (l : Fin 256) : (decay1 x0 x2 x3 x4 x6 x8 (ix2 t l) : EReal) = (headOf x0 x1 x2 x3 x4 x5 x6 x7 x8).dec 1 t l := by
  unfold Head.dec
  rw [← log1 x0 x1 x2 x3 x4 x5 x6 x7 x8]
  pointwise [decay1, k0_pay40]

theorem drive0_read (t : Fin 2048) (l : Fin 256) : (drive0 x0 x2 x3 x4 x5 x6 x7 x8 (ix2 t l) : EReal) = (headOf x0 x1 x2 x3 x4 x5 x6 x7 x8).drv 0 t l := by
  unfold Head.drv
  rw [← norm_eq (Head.la_nonpos _ 0 t l), ← log0 x0 x1 x2 x3 x4 x5 x6 x7 x8, ← gate_x0 x0 x1 x2 x3 x4 x5 x6 x7 x8, ← conv_read x0 x1 x2 x3 x4 x5 x6 x7 x8]
  pointwise [drive0, k0_pay32]
  rw [minus_two]

theorem drive1_read (t : Fin 2048) (l : Fin 256) : (drive1 x0 x2 x3 x4 x5 x6 x7 x8 (ix2 t l) : EReal) = (headOf x0 x1 x2 x3 x4 x5 x6 x7 x8).drv 1 t l := by
  unfold Head.drv
  rw [← norm_eq (Head.la_nonpos _ 1 t l), ← log1 x0 x1 x2 x3 x4 x5 x6 x7 x8, ← gate_x1 x0 x1 x2 x3 x4 x5 x6 x7 x8, ← conv_read x0 x1 x2 x3 x4 x5 x6 x7 x8]
  pointwise [drive1, k0_pay41]
  rw [minus_two]

/-- The block of the first result is the mixer of its head. -/
theorem out11_read (t : Fin 2048) (l : Fin 256) : (out11 x0 x1 x2 x3 x4 x5 x6 x7 x8 (ix3 0 t l) : EReal) = (headOf x0 x1 x2 x3 x4 x5 x6 x7 x8).out t l := by
  have ha : ∀ t, col (decay0 x0 x2 x3 x4 x6 x8) l t = Head.down ((headOf x0 x1 x2 x3 x4 x5 x6 x7 x8).dec 0) l t := fun t => by
    unfold col Head.down; split
    · exact decay0_read x0 x1 x2 x3 x4 x5 x6 x7 x8 _ l
    · rfl
  have hb : ∀ t, col (drive0 x0 x2 x3 x4 x5 x6 x7 x8) l t = Head.down ((headOf x0 x1 x2 x3 x4 x5 x6 x7 x8).drv 0) l t := fun t => by
    unfold col Head.down; split
    · exact drive0_read x0 x1 x2 x3 x4 x5 x6 x7 x8 _ l
    · rfl
  have ha' : ∀ t, col (decay1 x0 x2 x3 x4 x6 x8) l t = Head.down ((headOf x0 x1 x2 x3 x4 x5 x6 x7 x8).dec 1) l t := fun t => by
    unfold col Head.down; split
    · exact decay1_read x0 x1 x2 x3 x4 x5 x6 x7 x8 _ l
    · rfl
  have hb' : ∀ t, col (drive1 x0 x2 x3 x4 x5 x6 x7 x8) l t = Head.down ((headOf x0 x1 x2 x3 x4 x5 x6 x7 x8).drv 1) l t := fun t => by
    unfold col Head.down; split
    · exact drive1_read x0 x1 x2 x3 x4 x5 x6 x7 x8 _ l
    · rfl
  have hf : (hfwd (decay0 x0 x2 x3 x4 x6 x8) (drive0 x0 x2 x3 x4 x5 x6 x7 x8) (ix2 t l) : EReal) = (headOf x0 x1 x2 x3 x4 x5 x6 x7 x8).fwd t l := by
    rw [hfwd_line _ _ l (fun t => by rw [ha]; exact Head.down_dec_good _ 0 l t) t]
    exact line_congr _ (fun t _ => ha t) fun t _ => hb t
  have hg : (hbwd (decay1 x0 x2 x3 x4 x6 x8) (drive1 x0 x2 x3 x4 x5 x6 x7 x8) (ix2 t l) : EReal) = (headOf x0 x1 x2 x3 x4 x5 x6 x7 x8).bwd t l := by
    rw [hbwd_line _ _ l (fun t => by unfold rcol; rw [ha']; exact Head.down_dec_good _ 1 l _) t]
    exact line_congr _ (fun t _ => ha' _) fun t _ => hb' _
  unfold Head.out
  rw [← hf, ← hg]
  pointwise [out11, k0_pay4]
  rfl

end Cert.RglruProof

end
-- ==== Proof.RefLoop.lean ====
module

public import proofs.«01_k».proof.Proof.Gen.ReferenceIdeal.Step
public import proofs.«01_k».proof.Proof.ScanMath
public import Idealize.ShloMosaic.Lib.Pointwise
public import Idealize.ShloMosaic.Lib.DynamicIndex
public import Idealize.ShloMosaic.Lib.Pipeline.Value
public import Idealize.ShloMosaic.Lib.IdealHost

/-! The reference's loop in closed form: after `n` trips the rows written so far hold the recurrence, forward and backward. -/

@[expose] public section

set_option maxRecDepth 16384

noncomputable section

namespace Cert.RglruRef

open Idealize.ShloMosaic Idealize.ShloMosaic.TcCoe
open Cert.ReferenceIdeal Cert.ReferenceIdeal.Gen
open Cert.ReferenceIdeal.Step (State step)
open Cert.RglruProof (line)

theorem row_read (x : FVec Ideal S4x2048x2048 .f32) (start : Fin 3 → Int) (h : S4x2048x2048.Slices (fun _ => 0) S4x1x2048) (p : ℕ) (hp : p < 2048)
    (h0 : start 0 = 0) (h1 : start 1 = p) (h2 : start 2 = 0) (b : Fin 4) (ch : Fin 2048) :
    Host.dynamicSlice S4x1x2048 x start h (ix3 b 0 ch) = x (ix3 b ⟨p, hp⟩ ch) := by
  have hoff : S4x2048x2048.Slices ![0, p, 0] S4x1x2048 := ⟨rfl, fun a => by
    match a with
    | ⟨0, _⟩ => show 0 + 4 ≤ 4; omega
    | ⟨1, _⟩ => show p + 1 ≤ 2048; omega
    | ⟨2, _⟩ => show 0 + 2048 ≤ 2048; omega⟩
  rw [Host.dynamicSlice_eq_extractStridedSlice S4x1x2048 x start ![0, p, 0] h hoff (fun a => by
    match a with
    | ⟨0, _⟩ => exact h0
    | ⟨1, _⟩ => exact h1
    | ⟨2, _⟩ => exact h2)]
  pointwise

theorem row_write (x : FVec Ideal S4x2048x2048 .f32) (u : FVec Ideal S4x1x2048 .f32) (start : Fin 3 → Int) (h : S4x2048x2048.Slices (fun _ => 0) S4x1x2048) (p : ℕ) (hp : p < 2048)
    (h0 : start 0 = 0) (h1 : start 1 = p) (h2 : start 2 = 0) (b : Fin 4) (t ch : Fin 2048) :
    Host.dynamicUpdateSlice x u start h (ix3 b t ch) = if t.val = p then u (ix3 b 0 ch) else x (ix3 b t ch) := by
  have hoff : S4x2048x2048.Slices ![0, p, 0] S4x1x2048 := ⟨rfl, fun a => by
    match a with
    | ⟨0, _⟩ => show 0 + 4 ≤ 4; omega
    | ⟨1, _⟩ => show p + 1 ≤ 2048; omega
    | ⟨2, _⟩ => show 0 + 2048 ≤ 2048; omega⟩
  rw [Host.dynamicUpdateSlice_eq_updateSlice x u start h ![0, p, 0] (fun a => by
    match a with
    | ⟨0, _⟩ => show (min (max (start 0) 0) ((4 - 4 : ℕ) : Int)).toNat = 0; rw [h0]; rfl
    | ⟨1, _⟩ => show (min (max (start 1) 0) ((2048 - 1 : ℕ) : Int)).toNat = p; rw [h1]; omega
    | ⟨2, _⟩ => show (min (max (start 2) 0) ((2048 - 2048 : ℕ) : Int)).toNat = 0; rw [h2]; rfl) hoff, updateSlice_apply]
  by_cases ht : t.val = p
  · rw [dif_pos (fun a => by
      match a with
      | ⟨0, _⟩ => exact ⟨Nat.zero_le _, by show b.val < 0 + 4; omega⟩
      | ⟨1, _⟩ => exact ⟨by show p ≤ t.val; omega, by show t.val < p + 1; omega⟩
      | ⟨2, _⟩ => exact ⟨Nat.zero_le _, by show ch.val < 0 + 2048; omega⟩), if_pos ht]
    congr 1
    funext a
    match a with
    | ⟨0, _⟩ => exact Fin.ext (by show b.val - 0 = b.val; omega)
    | ⟨1, _⟩ => exact Fin.ext (by show t.val - p = 0; omega)
    | ⟨2, _⟩ => exact Fin.ext (by show ch.val - 0 = ch.val; omega)
  · rw [dif_neg (fun hin => ht (by
      have := hin (1 : Fin 3)
      have h1 : p ≤ t.val := this.1
      have h2 : t.val < p + 1 := this.2
      omega)), if_neg ht]

theorem word_int (j : ℕ) (hj : j < 2048) : (BitVec.ofNat 32 j).toInt = (j : Int) := by
  have h : (BitVec.ofNat 32 j).toNat = j := by rw [BitVec.toNat_ofNat]; omega
  rw [BitVec.toInt_eq_toNat_of_lt (by rw [h]; omega), h]

theorem rev_int (j : ℕ) (hj : j < 2048) : (2047#32 - BitVec.ofNat 32 j).toInt = ((2047 - j : ℕ) : Int) := by
  have e : 2047#32 - BitVec.ofNat 32 j = BitVec.ofNat 32 (2047 - j) := by
    apply BitVec.eq_of_toNat_eq
    rw [BitVec.toNat_sub, BitVec.toNat_ofNat, BitVec.toNat_ofNat, BitVec.toNat_ofNat]
    omega
  rw [e, word_int _ (by omega)]

variable (s : State Ideal) (j : ℕ) (b : Fin 4) (ch : Fin 2048)

theorem b3_int (hj : j < 2048) (q : ℕ) (e : q = 2047 - j) : (Step.b3 j s (Shape.Idx.first h_S_)).toInt = (q : Int) := by
  rw [e, ← rev_int j hj]
  unfold Step.b3 Step.b2
  rfl

theorem b6_read (hj : j < 2048) : Step.b6 j s (ix3 b 0 ch) = s.main_v138_0 (ix3 b ⟨j, hj⟩ ch) := by
  unfold Step.b6
  exact row_read _ _ _ j hj rfl (word_int j hj) rfl b ch
theorem b10_read (hj : j < 2048) : Step.b10 j s (ix3 b 0 ch) = s.main_v138_1 (ix3 b ⟨j, hj⟩ ch) := by
  unfold Step.b10
  exact row_read _ _ _ j hj rfl (word_int j hj) rfl b ch
theorem b14_read (hj : j < 2048) (q : ℕ) (hq : q < 2048) (e : q = 2047 - j) : Step.b14 j s (ix3 b 0 ch) = s.main_v138_2 (ix3 b ⟨q, hq⟩ ch) := by
  unfold Step.b14
  have hw := b3_int s j hj q e
  generalize Step.b3 j s = w at hw ⊢
  exact row_read _ _ _ q hq rfl hw rfl b ch
theorem b18_read (hj : j < 2048) (q : ℕ) (hq : q < 2048) (e : q = 2047 - j) : Step.b18 j s (ix3 b 0 ch) = s.main_v138_3 (ix3 b ⟨q, hq⟩ ch) := by
  unfold Step.b18
  have hw := b3_int s j hj q e
  generalize Step.b3 j s = w at hw ⊢
  exact row_read _ _ _ q hq rfl hw rfl b ch

theorem step_h0 (hj : j < 2048) : (Step.b11 j s (ix3 b 0 ch) : EReal) = s.main_v138_1 (ix3 b ⟨j, hj⟩ ch) + s.main_v138_0 (ix3 b ⟨j, hj⟩ ch) * s.main_v138_6 (ix3 b 0 ch) := by
  rw [add_comm, ← b6_read s j b ch hj, ← b10_read s j b ch hj]
  rfl

theorem step_h1 (hj : j < 2048) (q : ℕ) (hq : q < 2048) (e : q = 2047 - j) : (Step.b19 j s (ix3 b 0 ch) : EReal) = s.main_v138_3 (ix3 b ⟨q, hq⟩ ch) + s.main_v138_2 (ix3 b ⟨q, hq⟩ ch) * s.main_v138_7 (ix3 b 0 ch) := by
  rw [add_comm, ← b14_read s j b ch hj q hq e, ← b18_read s j b ch hj q hq e]
  rfl

theorem step_o0 (hj : j < 2048) (t : Fin 2048) : (Step.b22 j s (ix3 b t ch) : EReal) = if t.val = j then Step.b11 j s (ix3 b 0 ch) else s.main_v138_8 (ix3 b t ch) := by
  unfold Step.b22
  exact row_write _ _ _ _ j hj rfl (word_int j hj) rfl b t ch

theorem step_o1 (hj : j < 2048) (q : ℕ) (hq : q < 2048) (e : q = 2047 - j) (t : Fin 2048) : (Step.b25 j s (ix3 b t ch) : EReal) = if t.val = q then Step.b19 j s (ix3 b 0 ch) else s.main_v138_9 (ix3 b t ch) := by
  unfold Step.b25
  have hw := b3_int s j hj q e
  generalize Step.b3 j s = w at hw ⊢
  exact row_write _ _ _ _ q hq rfl hw rfl b t ch

/-- A column of an array, downward and upward. -/
def dn (A : FVec Ideal S4x2048x2048 .f32) (b : Fin 4) (ch : Fin 2048) (t : ℕ) : EReal := if h : t < 2048 then A (ix3 b ⟨t, h⟩ ch) else 0
def upw (A : FVec Ideal S4x2048x2048 .f32) (b : Fin 4) (ch : Fin 2048) (t : ℕ) : EReal := dn A b ch (2047 - t)

/-- The states of the loop, from the first. -/
def states (s : State Ideal) : ℕ → State Ideal
  | 0 => s
  | n + 1 => step n (states s n)

theorem states_coeff (n : ℕ) : (states s n).main_v138_0 = s.main_v138_0 ∧ (states s n).main_v138_1 = s.main_v138_1 ∧ (states s n).main_v138_2 = s.main_v138_2 ∧ (states s n).main_v138_3 = s.main_v138_3 := by
  induction n with
  | zero => exact ⟨rfl, rfl, rfl, rfl⟩
  | succ n ih => exact ih

theorem states_rows (h6 : ∀ b ch, (s.main_v138_6 (ix3 b 0 ch) : EReal) = 0) (h7 : ∀ b ch, (s.main_v138_7 (ix3 b 0 ch) : EReal) = 0) (n : ℕ) (hn : n ≤ 2048) :
    ((states s n).main_v138_6 (ix3 b 0 ch) : EReal) = line (dn s.main_v138_0 b ch) (dn s.main_v138_1 b ch) n
    ∧ ((states s n).main_v138_7 (ix3 b 0 ch) : EReal) = line (upw s.main_v138_2 b ch) (upw s.main_v138_3 b ch) n
    ∧ (∀ t : Fin 2048, t.val < n → ((states s n).main_v138_8 (ix3 b t ch) : EReal) = line (dn s.main_v138_0 b ch) (dn s.main_v138_1 b ch) (t.val + 1))
    ∧ (∀ t : Fin 2048, 2048 - n ≤ t.val → ((states s n).main_v138_9 (ix3 b t ch) : EReal) = line (upw s.main_v138_2 b ch) (upw s.main_v138_3 b ch) (2048 - t.val)) := by
  induction n with
  | zero => exact ⟨h6 b ch, h7 b ch, fun t h => absurd h (by omega), fun t h => absurd h (by have := t.isLt; omega)⟩
  | succ n ih =>
    obtain ⟨i6, i7, i8, i9⟩ := ih (by omega)
    obtain ⟨c0, c1, c2, c3⟩ := states_coeff s n
    have hlt : n < 2048 := by omega
    have e6 : (Step.b11 n (states s n) (ix3 b 0 ch) : EReal) = line (dn s.main_v138_0 b ch) (dn s.main_v138_1 b ch) (n + 1) := by
      rw [step_h0 _ n b ch hlt, i6, c0, c1]
      show _ = dn s.main_v138_1 b ch n + dn s.main_v138_0 b ch n * _
      unfold dn
      rw [dif_pos hlt, dif_pos hlt]
    have e7 : (Step.b19 n (states s n) (ix3 b 0 ch) : EReal) = line (upw s.main_v138_2 b ch) (upw s.main_v138_3 b ch) (n + 1) := by
      rw [step_h1 _ n b ch hlt (2047 - n) (by omega) rfl, i7, c2, c3]
      show _ = upw s.main_v138_3 b ch n + upw s.main_v138_2 b ch n * _
      unfold upw dn
      rw [dif_pos (by omega), dif_pos (by omega)]
    refine ⟨e6, e7, fun t ht => ?_, fun t ht => ?_⟩
    · show (Step.b22 n (states s n) (ix3 b t ch) : EReal) = _
      rw [step_o0 _ n b ch hlt t]
      by_cases h : t.val = n
      · rw [if_pos h, e6, h]
      · rw [if_neg h, i8 t (by omega)]
    · show (Step.b25 n (states s n) (ix3 b t ch) : EReal) = _
      rw [step_o1 _ n b ch hlt (2047 - n) (by omega) rfl t]
      by_cases h : t.val = 2047 - n
      · rw [if_pos h, e7]
        congr 1; omega
      · rw [if_neg h, i9 t (by omega)]

end Cert.RglruRef

end
-- ==== Proof.RefCoeff.lean ====
module

public import proofs.«01_k».proof.Proof.RefLoop
public import proofs.«01_k».proof.Proof.Spec

/-! What the reference computes before its loop, read at a batch entry, a row and a channel: the convolution, the gates, the decays and the input terms of the channel's head. -/

@[expose] public section

set_option maxRecDepth 16384

noncomputable section

namespace Cert.RglruRef

open Idealize.ShloMosaic Idealize.ShloMosaic.TcCoe
open Cert.ReferenceIdeal Cert.ReferenceIdeal.Gen
open Cert.ReferenceIdeal.Step
open Cert.RglruProof

/-- Channel `l` of head `h`. -/
abbrev chan (h : Fin 8) (l : Fin 256) : Fin 2048 := ⟨256 * h.val + l.val, by omega⟩

variable (a0 : Vec Ideal S4x2048x4096 .f32) (a1 : Vec Ideal S2x4x2048 .f32) (a2 : Vec Ideal S2x2048 .f32) (a3 : Vec Ideal S2x2x8x256x256 .f32)
  (a4 : Vec Ideal S2x2x2048 .f32) (a5 : Vec Ideal S2x2x8x256x256 .f32) (a6 : Vec Ideal S2x2x2048 .f32) (a7 : Vec Ideal S2x2x2048 .f32)

/-- Batch entry `b` and head `h` of the arguments. -/
def headAt (b : Fin 4) (h : Fin 8) : Head where
  xs t l := a0 (ix3 b t ⟨256 * h.val + l.val, by omega⟩)
  ys t l := a0 (ix3 b t ⟨2048 + (256 * h.val + l.val), by omega⟩)
  cw j l := a1 (ix3 0 j (chan h l))
  cb l := a2 (ix2 0 (chan h l))
  wa d k l := a3 (ix5 0 d h k l)
  ba d l := a4 (ix3 0 d (chan h l))
  wx d k l := a5 (ix5 0 d h k l)
  bx d l := a6 (ix3 0 d (chan h l))
  lam d l := a7 (ix3 0 d (chan h l))

variable (b : Fin 4) (h : Fin 8) (t : Fin 2048) (l : Fin 256)

theorem int_zero : (FloatOps.sitofp (F := Ideal) FTy.f32 (0#32) : EReal) = 0 := by
  show (((0#32 : BitVec 32).toInt : ℝ) : EReal) = 0
  simp

theorem padded (p q : Prop) [Decidable p] [Decidable q] (hpq : p ↔ ¬q) (f : p → EReal) (g : ¬q → EReal) (hfg : ∀ hp hq, f hp = g hq) (z : EReal) (hz : z = 0) :
    (if h : p then f h else z) = if h : q then 0 else g h := by
  by_cases hq : q
  · rw [dif_neg (fun hp => hpq.mp hp hq), dif_pos hq, hz]
  · rw [dif_pos (hpq.mpr hq), dif_neg hq, hfg (hpq.mpr hq) hq]

theorem v6_read (ch : Fin 2048) : (A_main_v6 (F := Ideal) a0 a1 a2 a3 a4 a5 a6 a7 (ix3 b t ch) : EReal) = if hh : t.val < 2 then 0 else a0 (ix3 b ⟨t.val - 2, by omega⟩ ⟨ch.val, by omega⟩) := by
  pointwise [A_main_v6, A_main_v5, A_main_v0, K_main_call0_v0, K_main_c]
  refine padded _ _ (by omega) _ _ (fun hp hq => ?_) _ int_zero
  congr 2

theorem v12_read (ch : Fin 2048) : (A_main_v12 (F := Ideal) a0 a1 a2 a3 a4 a5 a6 a7 (ix3 b t ch) : EReal) = if hh : t.val < 1 then 0 else a0 (ix3 b ⟨t.val - 1, by omega⟩ ⟨ch.val, by omega⟩) := by
  pointwise [A_main_v12, A_main_v5, A_main_v0, K_main_call0_v0, K_main_c]
  refine padded _ _ (by omega) _ _ (fun hp hq => ?_) _ int_zero
  congr 2
  exact Fin.ext (by dsimp only; omega)

theorem v26_read (ch : Fin 2048) : (A_main_v26 (F := Ideal) a0 a1 a2 a3 a4 a5 a6 a7 (ix3 b t ch) : EReal) = if hh : t.val = 2047 then 0 else a0 (ix3 b ⟨t.val + 1, by omega⟩ ⟨ch.val, by omega⟩) := by
  pointwise [A_main_v26, A_main_v5, A_main_v0, K_main_call0_v0, K_main_c]
  refine padded _ _ (by omega) _ _ (fun hp hq => ?_) _ int_zero
  congr 2
  exact Fin.ext (by dsimp only; omega)

theorem v19_read (ch : Fin 2048) : (A_main_v19 (F := Ideal) a0 a1 a2 a3 a4 a5 a6 a7 (ix3 b t ch) : EReal) = a0 (ix3 b t ⟨ch.val, by omega⟩) := by
  pointwise [A_main_v19, A_main_v5, A_main_v0, K_main_call0_v0, K_main_c]

/-- The convolution. -/
theorem v35_read : (A_main_v35 (F := Ideal) a0 a1 a2 a3 a4 a5 a6 a7 (ix3 b t (chan h l)) : EReal) = (headAt a0 a1 a2 a3 a4 a5 a6 a7 b h).xc t l := by
  pointwise [A_main_v35, A_main_v34, A_main_v33, A_main_v32, A_main_v31, A_main_v30, A_main_v29, A_main_v28, A_main_v27, A_main_v25, A_main_v24, A_main_v23, A_main_v22, A_main_v21, A_main_v20, A_main_v18, A_main_v17, A_main_v16, A_main_v15, A_main_v14, A_main_v13, A_main_v11, A_main_v10, A_main_v9, A_main_v8, A_main_v7, A_main_v4, A_main_v3, A_main_v2, A_main_v1]
  rw [v6_read, v12_read, v19_read, v26_read]
  rfl

theorem v46_read (k : Fin 256) : (A_main_v46 (F := Ideal) a0 a1 a2 a3 a4 a5 a6 a7 (ix4 b t h k) : EReal) = (headAt a0 a1 a2 a3 a4 a5 a6 a7 b h).xc t k := by
  rw [← v35_read a0 a1 a2 a3 a4 a5 a6 a7 b h t k]
  pointwise [A_main_v46]
  congr 2
  exact Fin.ext (by dsimp only; omega)

theorem chan_div (hh : (256 * h.val + l.val) / 256 < 8) : (⟨(256 * h.val + l.val) / 256, hh⟩ : Fin 8) = h := Fin.ext (by dsimp only; omega)
theorem chan_mod (hh : (256 * h.val + l.val) % 256 < 256) : (⟨(256 * h.val + l.val) % 256, hh⟩ : Fin 256) = l := Fin.ext (by dsimp only; omega)

theorem two : (Ideal.ofBits .f32 0x40000000#32 : EReal) = 2 := by
  have h : (Ideal.ofBits .f32 0x40000000#32 : EReal) = ((2 : ℝ) : EReal) := by
    simp [Ideal.ofBits, Ideal.ieee, -EReal.coe_mul]; norm_num
  rw [h]; rfl

theorem v49_read : (A_main_v49 (F := Ideal) a0 a1 a2 a3 a4 a5 a6 a7 (ix3 b t (chan h l)) : EReal) = ∑ k, (headAt a0 a1 a2 a3 a4 a5 a6 a7 b h).xc t k * (headAt a0 a1 a2 a3 a4 a5 a6 a7 b h).wa 0 k l := by
  pointwise [A_main_v49, A_main_v48, A_main_v47, A_main_v37, A_main_v36]
  refine Finset.sum_congr rfl fun k _ => ?_
  rw [chan_div, chan_mod, v46_read, mul_comm]
  rfl

theorem v58_read : (A_main_v58 (F := Ideal) a0 a1 a2 a3 a4 a5 a6 a7 (ix3 b t (chan h l)) : EReal) = (headAt a0 a1 a2 a3 a4 a5 a6 a7 b h).ga 0 t l := by
  unfold Head.ga
  rw [← v49_read]
  pointwise [A_main_v58, A_main_v56, A_main_v54, A_main_v53, A_main_v52, A_main_v51, A_main_v50, A_main_v39, A_main_v38, K_main_v55, K_main_v57, K_main_cst, K_main_cst_0]
  rfl

theorem v61_read : (A_main_v61 (F := Ideal) a0 a1 a2 a3 a4 a5 a6 a7 (ix3 b t (chan h l)) : EReal) = ∑ k, (headAt a0 a1 a2 a3 a4 a5 a6 a7 b h).xc t k * (headAt a0 a1 a2 a3 a4 a5 a6 a7 b h).wx 0 k l := by
  pointwise [A_main_v61, A_main_v60, A_main_v59, A_main_v41, A_main_v40]
  refine Finset.sum_congr rfl fun k _ => ?_
  rw [chan_div, chan_mod, v46_read, mul_comm]
  rfl

theorem v70_read : (A_main_v70 (F := Ideal) a0 a1 a2 a3 a4 a5 a6 a7 (ix3 b t (chan h l)) : EReal) = (headAt a0 a1 a2 a3 a4 a5 a6 a7 b h).gx 0 t l := by
  unfold Head.gx
  rw [← v61_read]
  pointwise [A_main_v70, A_main_v68, A_main_v66, A_main_v65, A_main_v64, A_main_v63, A_main_v62, A_main_v43, A_main_v42, K_main_v67, K_main_v69, K_main_cst_1, K_main_cst_2]
  rfl

theorem v77_read : (A_main_v77 (F := Ideal) a0 a1 a2 a3 a4 a5 a6 a7 (ix3 b t (chan h l)) : EReal) = (headAt a0 a1 a2 a3 a4 a5 a6 a7 b h).la 0 t l := by
  unfold Head.la
  rw [← v58_read]
  pointwise [A_main_v77, A_main_v76, A_main_v75, A_main_v74, A_main_v73, A_main_v72, A_main_v45, A_main_v44, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst, K_main_v71, K_main_cst_3]
  rw [if_neg (by simp)]
  rfl

theorem v78_read : (A_main_v78 (F := Ideal) a0 a1 a2 a3 a4 a5 a6 a7 (ix3 b t (chan h l)) : EReal) = (headAt a0 a1 a2 a3 a4 a5 a6 a7 b h).dec 0 t l := by
  unfold Head.dec
  rw [← v77_read]
  pointwise [A_main_v78]

theorem v85_read : (A_main_v85 (F := Ideal) a0 a1 a2 a3 a4 a5 a6 a7 (ix3 b t (chan h l)) : EReal) = (headAt a0 a1 a2 a3 a4 a5 a6 a7 b h).drv 0 t l := by
  unfold Head.drv
  rw [← v77_read, ← v70_read, ← v35_read a0 a1 a2 a3 a4 a5 a6 a7 b h t l]
  pointwise [A_main_v85, A_main_v84, A_main_v83, A_main_v82, A_main_v81, A_main_v80, K_main_v79, K_main_cst_4]
  rw [two]

theorem v96_read (k : Fin 256) : (A_main_v96 (F := Ideal) a0 a1 a2 a3 a4 a5 a6 a7 (ix4 b t h k) : EReal) = (headAt a0 a1 a2 a3 a4 a5 a6 a7 b h).xc t k := v46_read a0 a1 a2 a3 a4 a5 a6 a7 b h t k

theorem v99_read : (A_main_v99 (F := Ideal) a0 a1 a2 a3 a4 a5 a6 a7 (ix3 b t (chan h l)) : EReal) = ∑ k, (headAt a0 a1 a2 a3 a4 a5 a6 a7 b h).xc t k * (headAt a0 a1 a2 a3 a4 a5 a6 a7 b h).wa 1 k l := by
  pointwise [A_main_v99, A_main_v98, A_main_v97, A_main_v87, A_main_v86]
  refine Finset.sum_congr rfl fun k _ => ?_
  rw [chan_div, chan_mod, v96_read, mul_comm]
  rfl

theorem v108_read : (A_main_v108 (F := Ideal) a0 a1 a2 a3 a4 a5 a6 a7 (ix3 b t (chan h l)) : EReal) = (headAt a0 a1 a2 a3 a4 a5 a6 a7 b h).ga 1 t l := by
  unfold Head.ga
  rw [← v99_read]
  pointwise [A_main_v108, A_main_v106, A_main_v104, A_main_v103, A_main_v102, A_main_v101, A_main_v100, A_main_v89, A_main_v88, K_main_v105, K_main_v107, K_main_cst_5, K_main_cst_6]
  rfl

theorem v111_read : (A_main_v111 (F := Ideal) a0 a1 a2 a3 a4 a5 a6 a7 (ix3 b t (chan h l)) : EReal) = ∑ k, (headAt a0 a1 a2 a3 a4 a5 a6 a7 b h).xc t k * (headAt a0 a1 a2 a3 a4 a5 a6 a7 b h).wx 1 k l := by
  pointwise [A_main_v111, A_main_v110, A_main_v109, A_main_v91, A_main_v90]
  refine Finset.sum_congr rfl fun k _ => ?_
  rw [chan_div, chan_mod, v96_read, mul_comm]
  rfl

theorem v120_read : (A_main_v120 (F := Ideal) a0 a1 a2 a3 a4 a5 a6 a7 (ix3 b t (chan h l)) : EReal) = (headAt a0 a1 a2 a3 a4 a5 a6 a7 b h).gx 1 t l := by
  unfold Head.gx
  rw [← v111_read]
  pointwise [A_main_v120, A_main_v118, A_main_v116, A_main_v115, A_main_v114, A_main_v113, A_main_v112, A_main_v93, A_main_v92, K_main_v117, K_main_v119, K_main_cst_7, K_main_cst_8]
  rfl

theorem v127_read : (A_main_v127 (F := Ideal) a0 a1 a2 a3 a4 a5 a6 a7 (ix3 b t (chan h l)) : EReal) = (headAt a0 a1 a2 a3 a4 a5 a6 a7 b h).la 1 t l := by
  unfold Head.la
  rw [← v108_read]
  pointwise [A_main_v127, A_main_v126, A_main_v125, A_main_v124, A_main_v123, A_main_v122, A_main_v95, A_main_v94, A_main_call2_v1, A_main_call2_v3, A_main_call2_v4, A_main_call2_v6, A_main_call2_v7, A_main_call2_v8, A_main_call2_v9, A_main_call2_v10, A_main_call2_v11, K_main_call2_v0, K_main_call2_v2, K_main_call2_v5, K_main_call2_cst, K_main_v121, K_main_cst_9]
  rw [if_neg (by simp)]
  rfl

theorem v128_read : (A_main_v128 (F := Ideal) a0 a1 a2 a3 a4 a5 a6 a7 (ix3 b t (chan h l)) : EReal) = (headAt a0 a1 a2 a3 a4 a5 a6 a7 b h).dec 1 t l := by
  unfold Head.dec
  rw [← v127_read]
  pointwise [A_main_v128]

theorem v135_read : (A_main_v135 (F := Ideal) a0 a1 a2 a3 a4 a5 a6 a7 (ix3 b t (chan h l)) : EReal) = (headAt a0 a1 a2 a3 a4 a5 a6 a7 b h).drv 1 t l := by
  unfold Head.drv
  rw [← v127_read, ← v120_read, ← v35_read a0 a1 a2 a3 a4 a5 a6 a7 b h t l]
  pointwise [A_main_v135, A_main_v134, A_main_v133, A_main_v132, A_main_v131, A_main_v130, K_main_v129, K_main_cst_10]
  rw [two]

end Cert.RglruRef

end
-- ==== Proof.Blocks.lean ====
module

public import proofs.«01_k».proof.Proof.Launch
public import proofs.«01_k».proof.Proof.CoeffBlock
public import proofs.«01_k».proof.Proof.RefCoeff
public import Idealize.ShloMosaic.Lib.Pointwise
public import Idealize.ShloMosaic.Lib.Pipeline.Value

/-! What each input window of the kernel holds at a grid point, as entries of the argument arrays. -/

@[expose] public section

set_option maxRecDepth 16384

noncomputable section

namespace Cert.RglruProof

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The arguments on core `c`. -/
abbrev arg0 : Vec Ideal S4x2048x4096 .f32 := m ((c : Thread nD τ).loc main_arg0)
abbrev arg1 : Vec Ideal S2x4x2048 .f32 := m ((c : Thread nD τ).loc main_arg1)
abbrev arg2 : Vec Ideal S2x2048 .f32 := m ((c : Thread nD τ).loc main_arg2)
abbrev arg3 : Vec Ideal S2x2x8x256x256 .f32 := m ((c : Thread nD τ).loc main_arg3)
abbrev arg4 : Vec Ideal S2x2x2048 .f32 := m ((c : Thread nD τ).loc main_arg4)
abbrev arg5 : Vec Ideal S2x2x8x256x256 .f32 := m ((c : Thread nD τ).loc main_arg5)
abbrev arg6 : Vec Ideal S2x2x2048 .f32 := m ((c : Thread nD τ).loc main_arg6)
abbrev arg7 : Vec Ideal S2x2x2048 .f32 := m ((c : Thread nD τ).loc main_arg7)
abbrev arg8 : Vec Ideal S2x4096x11008 .f32 := m ((c : Thread nD τ).loc main_arg8)

theorem V1_read (j : Fin 4) (ch : Fin 2048) : ((V m c main_v1 : Vec Ideal S4x2048 .f32) (ix2 j ch) : EReal) = arg1 m c (ix3 0 j ch) := by
  show StableHlo.after hostOps0 _ (Proc.devRef .tc main_v1) (ix2 j ch) = _
  after_results
  pointwise []

theorem V14_read (ch : Fin 2048) : ((V m c main_v14 : Vec Ideal S1x2048 .f32) (ix2 0 ch) : EReal) = arg2 m c (ix2 0 ch) := by
  show StableHlo.after hostOps0 _ (Proc.devRef .tc main_v14) (ix2 0 ch) = _
  after_results
  pointwise []

theorem V15_read (d : Fin 2) (h : Fin 8) (k l : Fin 256) : ((V m c main_v15 : Vec Ideal S2x8x256x256 .bf16) (ix4 d h k l) : EReal) = arg3 m c (ix5 0 d h k l) := by
  show StableHlo.after hostOps0 _ (Proc.devRef .tc main_v15) (ix4 d h k l) = _
  after_results
  pointwise []

theorem V16_read (d : Fin 2) (h : Fin 8) (k l : Fin 256) : ((V m c main_v16 : Vec Ideal S2x8x256x256 .bf16) (ix4 d h k l) : EReal) = arg5 m c (ix5 0 d h k l) := by
  show StableHlo.after hostOps0 _ (Proc.devRef .tc main_v16) (ix4 d h k l) = _
  after_results
  pointwise []

theorem V7_read (d : Fin 2) (ch : Fin 2048) : ((V m c main_v7 : Vec Ideal S2x2048 .f32) (ix2 d ch) : EReal) = arg4 m c (ix3 0 d ch) := by
  show StableHlo.after hostOps0 _ (Proc.devRef .tc main_v7) (ix2 d ch) = _
  after_results
  pointwise []

theorem V11_read (d : Fin 2) (ch : Fin 2048) : ((V m c main_v11 : Vec Ideal S2x2048 .f32) (ix2 d ch) : EReal) = arg6 m c (ix3 0 d ch) := by
  show StableHlo.after hostOps0 _ (Proc.devRef .tc main_v11) (ix2 d ch) = _
  after_results
  pointwise []

theorem V13_read (d : Fin 2) (ch : Fin 2048) : ((V m c main_v13 : Vec Ideal S2x2048 .f32) (ix2 d ch) : EReal) = arg7 m c (ix3 0 d ch) := by
  show StableHlo.after hostOps0 _ (Proc.devRef .tc main_v13) (ix2 d ch) = _
  after_results
  pointwise []

/-! ## The index maps -/

theorem idx0 : ∀ t : Fin grid0.N, win0_0.index t 0 = t.val / 8 ∧ win0_0.index t 1 = 0 ∧ win0_0.index t 2 = t.val % 8 := by decide +kernel
theorem idx1 : ∀ t : Fin grid0.N, win0_1.index t 0 = t.val / 8 ∧ win0_1.index t 1 = 0 ∧ win0_1.index t 2 = t.val % 8 + 8 := by decide +kernel
theorem idx2 : ∀ t : Fin grid0.N, win0_2.index t 0 = 0 ∧ win0_2.index t 1 = t.val % 8 := by decide +kernel
theorem idx3 : ∀ t : Fin grid0.N, win0_3.index t 0 = 0 ∧ win0_3.index t 1 = t.val % 8 := by decide +kernel
theorem idx4 : ∀ t : Fin grid0.N, win0_4.index t 0 = 0 ∧ win0_4.index t 1 = t.val % 8 ∧ win0_4.index t 2 = 0 ∧ win0_4.index t 3 = 0 := by decide +kernel
theorem idx5 : ∀ t : Fin grid0.N, win0_5.index t 0 = 0 ∧ win0_5.index t 1 = t.val % 8 ∧ win0_5.index t 2 = 0 ∧ win0_5.index t 3 = 0 := by decide +kernel
theorem idx6 : ∀ t : Fin grid0.N, win0_6.index t 0 = 0 ∧ win0_6.index t 1 = t.val % 8 := by decide +kernel
theorem idx7 : ∀ t : Fin grid0.N, win0_7.index t 0 = 0 ∧ win0_7.index t 1 = t.val % 8 := by decide +kernel
theorem idx8 : ∀ t : Fin grid0.N, win0_8.index t 0 = 0 ∧ win0_8.index t 1 = t.val % 8 := by decide +kernel
theorem idx9 : ∀ t : Fin grid0.N, win0_9.index t 0 = 0 ∧ win0_9.index t 1 = 0 ∧ win0_9.index t 2 = min (2 * min t.val 21) 42 := by decide +kernel
theorem idx10 : ∀ t : Fin grid0.N, win0_10.index t 0 = 0 ∧ win0_10.index t 1 = 0 ∧ win0_10.index t 2 = min (2 * min t.val 21 + 1) 42 := by decide +kernel
theorem idx11 : ∀ t : Fin grid0.N, win0_11.index t 0 = t.val / 8 ∧ win0_11.index t 1 = 0 ∧ win0_11.index t 2 = t.val % 8 := by decide +kernel
theorem idx12 : ∀ t : Fin grid0.N, win0_12.index t 0 = 0 ∧ win0_12.index t 1 = min t.val 21 := by decide +kernel

/-! ## The blocks -/

/-- The batch entry and the head of a grid point. -/
def bat (t : Fin cfg0.N) : Fin 4 := ⟨t.val / 8, by have := lt_of_lt_of_eq t.isLt Gen.N_0; omega⟩
def hd (t : Fin cfg0.N) : Fin 8 := ⟨t.val % 8, by omega⟩

variable (t : Fin cfg0.N)

theorem blk0_read (r : Fin 2048) (l : Fin 256) : ((iblk m c 0 t : Vec Ideal S1x2048x256 .f32) (ix3 0 r l) : EReal) = arg0 m c (ix3 (bat t) r ⟨256 * (hd t).val + l.val, by omega⟩) := by
  refine Eq.trans ?_ (congrFun (V_main_arg0 m c) _)
  unfold iblk
  rw [View.read_apply]
  show V m c main_arg0 _ = V m c main_arg0 _
  congr 1
  funext a
  apply Fin.ext
  have hi := idx0 t
  match a with
  | ⟨0, _⟩ => show win0_0.index t 0 * 1 + 1 * 0 = t.val / 8; rw [hi.1]; omega
  | ⟨1, _⟩ => show win0_0.index t 1 * 2048 + 1 * r.val = r.val; rw [hi.2.1]; omega
  | ⟨2, _⟩ => show win0_0.index t 2 * 256 + 1 * l.val = 256 * (t.val % 8) + l.val; rw [hi.2.2]; omega

theorem blk1_read (r : Fin 2048) (l : Fin 256) : ((iblk m c 1 t : Vec Ideal S1x2048x256 .f32) (ix3 0 r l) : EReal) = arg0 m c (ix3 (bat t) r ⟨2048 + (256 * (hd t).val + l.val), by omega⟩) := by
  refine Eq.trans ?_ (congrFun (V_main_arg0 m c) _)
  unfold iblk
  rw [View.read_apply]
  show V m c main_arg0 _ = V m c main_arg0 _
  congr 1
  funext a
  apply Fin.ext
  have hi := idx1 t
  match a with
  | ⟨0, _⟩ => show win0_1.index t 0 * 1 + 1 * 0 = t.val / 8; rw [hi.1]; omega
  | ⟨1, _⟩ => show win0_1.index t 1 * 2048 + 1 * r.val = r.val; rw [hi.2.1]; omega
  | ⟨2, _⟩ => show win0_1.index t 2 * 256 + 1 * l.val = 2048 + (256 * (t.val % 8) + l.val); rw [hi.2.2]; omega

theorem blk2_read (j : Fin 4) (l : Fin 256) : ((iblk m c 2 t : Vec Ideal S4x256 .f32) (ix2 j l) : EReal) = arg1 m c (ix3 0 j (RglruRef.chan (hd t) l)) := by
  refine Eq.trans ?_ (V1_read m c j (RglruRef.chan (hd t) l))
  unfold iblk
  rw [View.read_apply]
  show V m c main_v1 _ = V m c main_v1 _
  congr 1
  funext a
  apply Fin.ext
  have hi := idx2 t
  match a with
  | ⟨0, _⟩ => show win0_2.index t 0 * 4 + 1 * j.val = j.val; rw [hi.1]; omega
  | ⟨1, _⟩ => show win0_2.index t 1 * 256 + 1 * l.val = 256 * (t.val % 8) + l.val; rw [hi.2]; omega

theorem blk3_read (l : Fin 256) : ((iblk m c 3 t : Vec Ideal S1x256 .f32) (ix2 0 l) : EReal) = arg2 m c (ix2 0 (RglruRef.chan (hd t) l)) := by
  refine Eq.trans ?_ (V14_read m c (RglruRef.chan (hd t) l))
  unfold iblk
  rw [View.read_apply]
  show V m c main_v14 _ = V m c main_v14 _
  congr 1
  funext a
  apply Fin.ext
  have hi := idx3 t
  match a with
  | ⟨0, _⟩ => show win0_3.index t 0 * 1 + 1 * 0 = 0; rw [hi.1]
  | ⟨1, _⟩ => show win0_3.index t 1 * 256 + 1 * l.val = 256 * (t.val % 8) + l.val; rw [hi.2]; omega

theorem blk4_read (d : Fin 2) (k l : Fin 256) : ((iblk m c 4 t : Vec Ideal S2x1x256x256 .bf16) (ix4 d 0 k l) : EReal) = arg3 m c (ix5 0 d (hd t) k l) := by
  refine Eq.trans ?_ (V15_read m c d (hd t) k l)
  unfold iblk
  rw [View.read_apply]
  show V m c main_v15 _ = V m c main_v15 _
  congr 1
  funext a
  apply Fin.ext
  have hi := idx4 t
  match a with
  | ⟨0, _⟩ => show win0_4.index t 0 * 2 + 1 * d.val = d.val; rw [hi.1]; omega
  | ⟨1, _⟩ => show win0_4.index t 1 * 1 + 1 * 0 = t.val % 8; rw [hi.2.1]; omega
  | ⟨2, _⟩ => show win0_4.index t 2 * 256 + 1 * k.val = k.val; rw [hi.2.2.1]; omega
  | ⟨3, _⟩ => show win0_4.index t 3 * 256 + 1 * l.val = l.val; rw [hi.2.2.2]; omega

theorem blk5_read (d : Fin 2) (k l : Fin 256) : ((iblk m c 5 t : Vec Ideal S2x1x256x256 .bf16) (ix4 d 0 k l) : EReal) = arg5 m c (ix5 0 d (hd t) k l) := by
  refine Eq.trans ?_ (V16_read m c d (hd t) k l)
  unfold iblk
  rw [View.read_apply]
  show V m c main_v16 _ = V m c main_v16 _
  congr 1
  funext a
  apply Fin.ext
  have hi := idx5 t
  match a with
  | ⟨0, _⟩ => show win0_5.index t 0 * 2 + 1 * d.val = d.val; rw [hi.1]; omega
  | ⟨1, _⟩ => show win0_5.index t 1 * 1 + 1 * 0 = t.val % 8; rw [hi.2.1]; omega
  | ⟨2, _⟩ => show win0_5.index t 2 * 256 + 1 * k.val = k.val; rw [hi.2.2.1]; omega
  | ⟨3, _⟩ => show win0_5.index t 3 * 256 + 1 * l.val = l.val; rw [hi.2.2.2]; omega

theorem blk6_read (d : Fin 2) (l : Fin 256) : ((iblk m c 6 t : Vec Ideal S2x256 .f32) (ix2 d l) : EReal) = arg4 m c (ix3 0 d (RglruRef.chan (hd t) l)) := by
  refine Eq.trans ?_ (V7_read m c d (RglruRef.chan (hd t) l))
  unfold iblk
  rw [View.read_apply]
  show V m c main_v7 _ = V m c main_v7 _
  congr 1
  funext a
  apply Fin.ext
  have hi := idx6 t
  match a with
  | ⟨0, _⟩ => show win0_6.index t 0 * 2 + 1 * d.val = d.val; rw [hi.1]; omega
  | ⟨1, _⟩ => show win0_6.index t 1 * 256 + 1 * l.val = 256 * (t.val % 8) + l.val; rw [hi.2]; omega

theorem blk7_read (d : Fin 2) (l : Fin 256) : ((iblk m c 7 t : Vec Ideal S2x256 .f32) (ix2 d l) : EReal) = arg6 m c (ix3 0 d (RglruRef.chan (hd t) l)) := by
  refine Eq.trans ?_ (V11_read m c d (RglruRef.chan (hd t) l))
  unfold iblk
  rw [View.read_apply]
  show V m c main_v11 _ = V m c main_v11 _
  congr 1
  funext a
  apply Fin.ext
  have hi := idx7 t
  match a with
  | ⟨0, _⟩ => show win0_7.index t 0 * 2 + 1 * d.val = d.val; rw [hi.1]; omega
  | ⟨1, _⟩ => show win0_7.index t 1 * 256 + 1 * l.val = 256 * (t.val % 8) + l.val; rw [hi.2]; omega

theorem blk8_read (d : Fin 2) (l : Fin 256) : ((iblk m c 8 t : Vec Ideal S2x256 .f32) (ix2 d l) : EReal) = arg7 m c (ix3 0 d (RglruRef.chan (hd t) l)) := by
  refine Eq.trans ?_ (V13_read m c d (RglruRef.chan (hd t) l))
  unfold iblk
  rw [View.read_apply]
  show V m c main_v13 _ = V m c main_v13 _
  congr 1
  funext a
  apply Fin.ext
  have hi := idx8 t
  match a with
  | ⟨0, _⟩ => show win0_8.index t 0 * 2 + 1 * d.val = d.val; rw [hi.1]; omega
  | ⟨1, _⟩ => show win0_8.index t 1 * 256 + 1 * l.val = 256 * (t.val % 8) + l.val; rw [hi.2]; omega

/-- A grid point computes the head of its batch entry. -/
theorem head_eq : headOf (iblk m c 0 t) (iblk m c 1 t) (iblk m c 2 t) (iblk m c 3 t) (iblk m c 4 t) (iblk m c 5 t) (iblk m c 6 t) (iblk m c 7 t) (iblk m c 8 t)
    = RglruRef.headAt (arg0 m c) (arg1 m c) (arg2 m c) (arg3 m c) (arg4 m c) (arg5 m c) (arg6 m c) (arg7 m c) (bat t) (hd t) := by
  unfold headOf RglruRef.headAt
  congr 1
  · funext r l; exact blk0_read m c t r l
  · funext r l; exact blk1_read m c t r l
  · funext j l; exact blk2_read m c t j l
  · funext l; exact blk3_read m c t l
  · funext d k l; exact blk4_read m c t d k l
  · funext d l; exact blk6_read m c t d l
  · funext d k l; exact blk5_read m c t d k l
  · funext d l; exact blk7_read m c t d l
  · funext d l; exact blk8_read m c t d l

/-- The block of the mixed result that a grid point leaves. -/
theorem mixBlk_read (r : Fin 2048) (l : Fin 256) : (mixBlk m c t (ix3 0 r l) : EReal)
    = (RglruRef.headAt (arg0 m c) (arg1 m c) (arg2 m c) (arg3 m c) (arg4 m c) (arg5 m c) (arg6 m c) (arg7 m c) (bat t) (hd t)).out r l := by
  rw [← head_eq]
  exact out11_read _ _ _ _ _ _ _ _ _ r l

end Cert.RglruProof

end
-- ==== Proof.CastValue.lean ====
module

public import proofs.«01_k».proof.Proof.Blocks

/-! The block of the cast weight that a grid point leaves, as entries of the weight. -/

@[expose] public section

set_option maxRecDepth 16384

noncomputable section

namespace Cert.RglruProof

open Idealize.ShloMosaic Idealize.ShloMosaic.TcCoe Idealize.ShloMosaic.Tactic
open Cert.KernelIdeal Cert.KernelIdeal.Gen

/-- The word that says whether the left half of the block lies within the weight: it always does. -/
theorem left_word : ∀ t : Fin grid0.N, Scalar.cmpi .slt (Scalar.addi (Scalar.muli (Scalar.addi (Scalar.muli (BitVec.ofNat 32 (grid0.coords (lastCast t) 0).val) 8#32) (BitVec.ofNat 32 (grid0.coords (lastCast t) 1).val)) 2#32) 0#32) 43#32 = 1#1 := by decide +kernel

/-- The word that says whether the right half does: at every block but the last. -/
theorem right_word : ∀ t : Fin grid0.N, Scalar.cmpi .slt (Scalar.addi (Scalar.muli (Scalar.addi (Scalar.muli (BitVec.ofNat 32 (grid0.coords (lastCast t) 0).val) 8#32) (BitVec.ofNat 32 (grid0.coords (lastCast t) 1).val)) 2#32) 1#32) 43#32 = if t.val < 21 then 1#1 else 0#1 := by decide +kernel

variable (x y : Vec Ideal S1x4096x256 .f32) (t : Fin cfg0.N)

theorem pay5_left (k : Fin 4096) (l : Fin 512) (hl : l.val < 256) :
    (k0_pay5 (BitVec.ofNat 32 (grid0.coords (lastCast t) 0).val) (BitVec.ofNat 32 (grid0.coords (lastCast t) 1).val) x y (ix2 k l) : EReal) = x (ix3 0 k ⟨l.val, hl⟩) := by
  unfold k0_pay5
  dsimp only
  rw [left_word t]
  pointwise []
  rw [dif_pos hl]

theorem pay5_right (k : Fin 4096) (l : Fin 512) (hl : ¬ l.val < 256) :
    (k0_pay5 (BitVec.ofNat 32 (grid0.coords (lastCast t) 0).val) (BitVec.ofNat 32 (grid0.coords (lastCast t) 1).val) x y (ix2 k l) : EReal) = if t.val < 21 then y (ix3 0 k ⟨l.val - 256, by omega⟩) else 0 := by
  unfold k0_pay5
  dsimp only
  rw [right_word t]
  by_cases h : t.val < 21
  · rw [if_pos h, if_pos h]
    pointwise []
    rw [dif_neg hl]
  · rw [if_neg h, if_neg h]
    pointwise []
    rw [dif_neg hl]

variable (m : (ℓ : Loc nD τ sig) → Buf (Elt Ideal) ℓ) (c : Dev nD)

/-- The weight, cast and continued with zero columns. -/
def wide (w : Vec Ideal S2x4096x11008 .f32) (k : Fin 4096) (l : ℕ) : EReal := if h : l < 11008 then w (ix3 0 k ⟨l, h⟩) else 0

theorem blk9_read (k : Fin 4096) (l : Fin 256) : ((iblk m c 9 (lastCast t) : Vec Ideal S1x4096x256 .f32) (ix3 0 k l) : EReal) = wide (arg8 m c) k (512 * min t.val 21 + l.val) := by
  unfold wide
  rw [dif_pos (by omega)]
  refine Eq.trans ?_ (congrFun (V_main_arg8 m c) _)
  unfold iblk
  rw [View.read_apply]
  show V m c main_arg8 _ = V m c main_arg8 _
  congr 1
  funext a
  apply Fin.ext
  have hi := idx9 (lastCast t)
  have hv : (lastCast t).val = min t.val 21 := rfl
  match a with
  | ⟨0, _⟩ => show win0_9.index (lastCast t) 0 * 1 + 1 * 0 = 0; rw [hi.1]
  | ⟨1, _⟩ => show win0_9.index (lastCast t) 1 * 4096 + 1 * k.val = k.val; rw [hi.2.1]; omega
  | ⟨2, _⟩ => show win0_9.index (lastCast t) 2 * 256 + 1 * l.val = 512 * min t.val 21 + l.val; rw [hi.2.2, hv]; omega

theorem blk10_read (ht : t.val < 21) (k : Fin 4096) (l : Fin 256) : ((iblk m c 10 (lastCast t) : Vec Ideal S1x4096x256 .f32) (ix3 0 k l) : EReal) = wide (arg8 m c) k (512 * min t.val 21 + (256 + l.val)) := by
  unfold wide
  rw [dif_pos (by omega)]
  refine Eq.trans ?_ (congrFun (V_main_arg8 m c) _)
  unfold iblk
  rw [View.read_apply]
  show V m c main_arg8 _ = V m c main_arg8 _
  congr 1
  funext a
  apply Fin.ext
  have hi := idx10 (lastCast t)
  have hv : (lastCast t).val = min t.val 21 := rfl
  match a with
  | ⟨0, _⟩ => show win0_10.index (lastCast t) 0 * 1 + 1 * 0 = 0; rw [hi.1]
  | ⟨1, _⟩ => show win0_10.index (lastCast t) 1 * 4096 + 1 * k.val = k.val; rw [hi.2.1]; omega
  | ⟨2, _⟩ => show win0_10.index (lastCast t) 2 * 256 + 1 * l.val = 512 * min t.val 21 + (256 + l.val); rw [hi.2.2, hv]; omega

/-- The block that a grid point leaves is the weight's, at the columns of its block. -/
theorem castBlk_read (k : Fin 4096) (l : Fin 512) : (castBlk m c t (ix2 k l) : EReal) = wide (arg8 m c) k (512 * min t.val 21 + l.val) := by
  unfold castBlk
  by_cases hl : l.val < 256
  · rw [pay5_left _ _ t k l hl]
    exact blk9_read t m c k ⟨l.val, hl⟩
  · rw [pay5_right _ _ t k l hl]
    by_cases ht : t.val < 21
    · rw [if_pos ht]
      refine (blk10_read t m c ht k ⟨l.val - 256, by omega⟩).trans (congrArg _ ?_)
      dsimp only
      omega
    · rw [if_neg ht]
      unfold wide
      rw [dif_neg (by omega)]

end Cert.RglruProof

end
-- ==== Proof.Result.lean ====
module

public import proofs.«01_k».proof.Proof.CastValue

/-! The kernel's two result arrays after the launch, and the run that leaves them. -/

@[expose] public section

set_option maxRecDepth 16384

noncomputable section

namespace Cert.RglruProof

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The mixed result: at a batch entry, a row and a channel, what the channel's head gives. -/
def mixRes : Vec Ideal S4x2048x2048 .bf16 := fun i =>
  ((RglruRef.headAt (arg0 m c) (arg1 m c) (arg2 m c) (arg3 m c) (arg4 m c) (arg5 m c) (arg6 m c) (arg7 m c) ⟨(i 0).val, (i 0).isLt⟩
    ⟨(i 2).val / 256, by have : (i 2).val < 2048 := (i 2).isLt; omega⟩).out ⟨(i 1).val, (i 1).isLt⟩ ⟨(i 2).val % 256, by omega⟩ : EReal)

/-- The cast weight. -/
def castRes : Vec Ideal S4096x11264 .bf16 := fun i => (wide (arg8 m c) ⟨(i 0).val, (i 0).isLt⟩ (i 1).val : EReal)

theorem mixRes_at (i : S4x2048x2048.Idx) (b : Fin 4) (h : Fin 8) (r : Fin 2048) (l : Fin 256) (h0 : (i 0).val = b.val) (h1 : (i 1).val = r.val) (h2 : (i 2).val = 256 * h.val + l.val) :
    (mixRes m c i : EReal) = (RglruRef.headAt (arg0 m c) (arg1 m c) (arg2 m c) (arg3 m c) (arg4 m c) (arg5 m c) (arg6 m c) (arg7 m c) b h).out r l := by
  unfold mixRes
  have e0 : (⟨(i 0).val, (i 0).isLt⟩ : Fin 4) = b := Fin.ext h0
  have e1 : (⟨(i 1).val, (i 1).isLt⟩ : Fin 2048) = r := Fin.ext h1
  have e2 : (⟨(i 2).val / 256, by have : (i 2).val < 2048 := (i 2).isLt; omega⟩ : Fin 8) = h := Fin.ext (by dsimp only; omega)
  have e3 : (⟨(i 2).val % 256, by omega⟩ : Fin 256) = l := Fin.ext (by dsimp only; omega)
  rw [e0, e1, e2, e3]

theorem castRes_at (i : S4096x11264.Idx) (k : Fin 4096) (n : ℕ) (h0 : (i 0).val = k.val) (h1 : (i 1).val = n) :
    (castRes m c i : EReal) = wide (arg8 m c) k n := by
  unfold castRes
  have e0 : (⟨(i 0).val, (i 0).isLt⟩ : Fin 4096) = k := Fin.ext h0
  rw [e0, h1]

theorem flushed11_eq (t : Fin cfg0.N) (hf : (cfg0.win 11).flush t = true) :
    (dats m 0 c).flushed 11 t = ((cfg0.win 11).blk t).view.read (Elt Ideal) (mixRes m c) := by
  show (cfg0.win 11).cut (grid0.coords t) ((dats m 0 c).after 11 t) = _
  rw [after11]
  funext j
  rw [View.read_apply]
  obtain ⟨q, r, l, hj⟩ : ∃ (q : Fin 1) (r : Fin 2048) (l : Fin 256), j = ix3 q r l := ⟨j 0, j 1, j 2, eq_ix3 j⟩
  obtain rfl : q = 0 := Subsingleton.elim _ _
  subst hj
  refine (mixBlk_read m c t r l).trans (Eq.symm ?_)
  have hi := idx11 t
  refine mixRes_at m c _ (bat t) (hd t) r l ?_ ?_ ?_
  · show win0_11.index t 0 * 1 + 1 * 0 = t.val / 8; rw [hi.1]; omega
  · show win0_11.index t 1 * 2048 + 1 * r.val = r.val; rw [hi.2.1]; omega
  · show win0_11.index t 2 * 256 + 1 * l.val = 256 * (t.val % 8) + l.val; rw [hi.2.2]; omega

theorem flushed12_eq (t : Fin cfg0.N) (hf : (cfg0.win 12).flush t = true) :
    (dats m 0 c).flushed 12 t = ((cfg0.win 12).blk t).view.read (Elt Ideal) (castRes m c) := by
  show (cfg0.win 12).cut (grid0.coords t) ((dats m 0 c).after 12 t) = _
  rw [after12]
  funext j
  rw [View.read_apply]
  obtain ⟨k, l, hj⟩ : ∃ (k : Fin 4096) (l : Fin 512), j = ix2 k l := ⟨j 0, j 1, eq_ix2 j⟩
  subst hj
  refine (castBlk_read t m c k l).trans (Eq.symm ?_)
  have hi := idx12 t
  refine castRes_at m c _ k _ ?_ ?_
  · show win0_12.index t 0 * 4096 + 1 * k.val = k.val; rw [hi.1]; omega
  · show win0_12.index t 1 * 512 + 1 * l.val = 512 * min t.val 21 + l.val; rw [hi.2]; omega

theorem final11 : (dats m 0 c).arrAt 11 cfg0.N = mixRes m c :=
  (dats m 0 c).arrAt_eq_of_cover 11 (mixRes m c) (flushed11_eq m c) fun i => by
    have h0 : (i 0 : Nat) < 4 := (i 0).isLt
    have h1 : (i 1 : Nat) < 2048 := (i 1).isLt
    have h2 : (i 2 : Nat) < 2048 := (i 2).isLt
    have hN : cfg0.N = 32 := Gen.N_0
    refine ⟨⟨8 * (i 0 : Nat) + (i 2 : Nat) / 256, by omega⟩, flush0_11 _, ?_⟩
    generalize ht : (⟨8 * (i 0 : Nat) + (i 2 : Nat) / 256, by omega⟩ : Fin cfg0.N) = t
    have hv : t.val = 8 * (i 0 : Nat) + (i 2 : Nat) / 256 := by rw [← ht]
    have hi := idx11 t
    show i ∈ ((View.whole main_v17_0).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1; rw [hi.1]; omega
    | ⟨1, _⟩ => show win0_11.index t 1 * 2048 ≤ (i 1 : Nat) ∧ (i 1 : Nat) < win0_11.index t 1 * 2048 + 2048; rw [hi.2.1]; omega
    | ⟨2, _⟩ => show win0_11.index t 2 * 256 ≤ (i 2 : Nat) ∧ (i 2 : Nat) < win0_11.index t 2 * 256 + 256; rw [hi.2.2]; omega

theorem final12 : (dats m 0 c).arrAt 12 cfg0.N = castRes m c :=
  (dats m 0 c).arrAt_eq_of_cover 12 (castRes m c) (flushed12_eq m c) fun i => by
    have h0 : (i 0 : Nat) < 4096 := (i 0).isLt
    have h1 : (i 1 : Nat) < 11264 := (i 1).isLt
    have hN : cfg0.N = 32 := Gen.N_0
    refine ⟨⟨if (i 1 : Nat) / 512 < 21 then (i 1 : Nat) / 512 else 31, by split <;> omega⟩, ?_, ?_⟩
    · rw [flush12_iff]
      by_cases h : (i 1 : Nat) / 512 < 21
      · simp [h]
      · simp [h]
    generalize ht : (⟨if (i 1 : Nat) / 512 < 21 then (i 1 : Nat) / 512 else 31, by split <;> omega⟩ : Fin cfg0.N) = t
    have hv : min t.val 21 = (i 1 : Nat) / 512 := by
      rw [← ht]
      dsimp only
      split <;> omega
    have hi := idx12 t
    show i ∈ ((View.whole main_v17_1).slice (win0_12.rect t)).set
    rw [View.set_slice_whole, Rect.mem_set_unit]
    intro a
    match a with
    | ⟨0, _⟩ => show win0_12.index t 0 * 4096 ≤ (i 0 : Nat) ∧ (i 0 : Nat) < win0_12.index t 0 * 4096 + 4096; rw [hi.1]; omega
    | ⟨1, _⟩ => show win0_12.index t 1 * 512 ≤ (i 1 : Nat) ∧ (i 1 : Nat) < win0_12.index t 1 * 512 + 512; rw [hi.2, hv]; omega

/-- The run, read: both results at their values, every argument unchanged, every semaphore at zero. -/
theorem run : θ_run defs (onTc (τ := τ) (main (F := Ideal))) ⟨m, fun _ => 0, ρ⟩ fun r =>
    (∀ c : Dev nD, r.2.mem ((c.tc : Thread nD τ).loc main_v17_0) = mixRes m c ∧ r.2.mem ((c.tc : Thread nD τ).loc main_v17_1) = castRes m c) :=
  (θ_run defs _ _).mono (fun _ h c => ⟨((h c).1 11).trans (final11 m c), ((h c).1 12).trans (final12 m c)⟩) (run_main m ρ)

end Cert.RglruProof

end
-- ==== Proof.RefValue.lean ====
module

public import proofs.«01_k».proof.Proof.RefCoeff

/-! The reference's mixed result, read at a batch entry, a row and a channel. -/

@[expose] public section

set_option maxRecDepth 16384

noncomputable section

namespace Cert.RglruRef

open Idealize.ShloMosaic Idealize.ShloMosaic.TcCoe
open Cert.ReferenceIdeal Cert.ReferenceIdeal.Gen
open Cert.ReferenceIdeal.Step
open Cert.RglruProof

variable (a0 : Vec Ideal S4x2048x4096 .f32) (a1 : Vec Ideal S2x4x2048 .f32) (a2 : Vec Ideal S2x2048 .f32) (a3 : Vec Ideal S2x2x8x256x256 .f32)
  (a4 : Vec Ideal S2x2x2048 .f32) (a5 : Vec Ideal S2x2x8x256x256 .f32) (a6 : Vec Ideal S2x2x2048 .f32) (a7 : Vec Ideal S2x2x2048 .f32)

/-- The state in which the loop begins. -/
abbrev start : State Ideal := init a0 a1 a2 a3 a4 a5 a6 a7

variable (b : Fin 4) (h : Fin 8) (t : Fin 2048) (l : Fin 256)

theorem carry_zero (b : Fin 4) (ch : Fin 2048) : (K_main_v136 (F := Ideal) (ix3 b 0 ch) : EReal) = 0 := by
  pointwise [K_main_v136, K_main_cst_11]

theorem dec0_col (n : ℕ) (hn : n < 2048) : dn (A_main_v78 (F := Ideal) a0 a1 a2 a3 a4 a5 a6 a7) b (chan h l) n = Head.down ((headAt a0 a1 a2 a3 a4 a5 a6 a7 b h).dec 0) l n := by
  unfold dn Head.down
  rw [dif_pos hn, dif_pos hn]
  exact v78_read a0 a1 a2 a3 a4 a5 a6 a7 b h ⟨n, hn⟩ l

theorem drv0_col (n : ℕ) (hn : n < 2048) : dn (A_main_v85 (F := Ideal) a0 a1 a2 a3 a4 a5 a6 a7) b (chan h l) n = Head.down ((headAt a0 a1 a2 a3 a4 a5 a6 a7 b h).drv 0) l n := by
  unfold dn Head.down
  rw [dif_pos hn, dif_pos hn]
  exact v85_read a0 a1 a2 a3 a4 a5 a6 a7 b h ⟨n, hn⟩ l

theorem dec1_col (n : ℕ) (hn : n < 2048) : dn (A_main_v128 (F := Ideal) a0 a1 a2 a3 a4 a5 a6 a7) b (chan h l) n = Head.down ((headAt a0 a1 a2 a3 a4 a5 a6 a7 b h).dec 1) l n := by
  unfold dn Head.down
  rw [dif_pos hn, dif_pos hn]
  exact v128_read a0 a1 a2 a3 a4 a5 a6 a7 b h ⟨n, hn⟩ l

theorem drv1_col (n : ℕ) (hn : n < 2048) : dn (A_main_v135 (F := Ideal) a0 a1 a2 a3 a4 a5 a6 a7) b (chan h l) n = Head.down ((headAt a0 a1 a2 a3 a4 a5 a6 a7 b h).drv 1) l n := by
  unfold dn Head.down
  rw [dif_pos hn, dif_pos hn]
  exact v135_read a0 a1 a2 a3 a4 a5 a6 a7 b h ⟨n, hn⟩ l

/-- The rows the loop leaves of the forward recurrence. -/
theorem fwd_rows : ((states (start a0 a1 a2 a3 a4 a5 a6 a7) 2048).main_v138_8 (ix3 b t (chan h l)) : EReal) = (headAt a0 a1 a2 a3 a4 a5 a6 a7 b h).fwd t l := by
  refine ((states_rows (start a0 a1 a2 a3 a4 a5 a6 a7) b (chan h l) carry_zero carry_zero 2048 (le_refl _)).2.2.1 t t.isLt).trans ?_
  unfold Head.fwd
  have := t.isLt
  exact line_congr _ (fun n hn => dec0_col a0 a1 a2 a3 a4 a5 a6 a7 b h l n (by omega)) fun n hn => drv0_col a0 a1 a2 a3 a4 a5 a6 a7 b h l n (by omega)

/-- The rows the loop leaves of the backward recurrence. -/
theorem bwd_rows : ((states (start a0 a1 a2 a3 a4 a5 a6 a7) 2048).main_v138_9 (ix3 b t (chan h l)) : EReal) = (headAt a0 a1 a2 a3 a4 a5 a6 a7 b h).bwd t l := by
  refine ((states_rows (start a0 a1 a2 a3 a4 a5 a6 a7) b (chan h l) carry_zero carry_zero 2048 (le_refl _)).2.2.2 t (by omega)).trans ?_
  unfold Head.bwd
  exact line_congr _ (fun n hn => dec1_col a0 a1 a2 a3 a4 a5 a6 a7 b h l _ (by omega)) fun n hn => drv1_col a0 a1 a2 a3 a4 a5 a6 a7 b h l _ (by omega)

/-- The reference's mixed result. -/
theorem mixed : (R_main_v155 (F := Ideal) (states (start a0 a1 a2 a3 a4 a5 a6 a7) 2048) a0 (ix3 b t (chan h l)) : EReal) = (headAt a0 a1 a2 a3 a4 a5 a6 a7 b h).out t l := by
  unfold Head.out
  rw [← fwd_rows, ← bwd_rows]
  generalize states (start a0 a1 a2 a3 a4 a5 a6 a7) 2048 = s
  pointwise [R_main_v155]
  unfold Head.gel
  rw [mul_comm (a0 _ * a0 _)]
  rfl

end Cert.RglruRef

end
-- ==== Proof.Algebraic.lean ====
module

public import proofs.«01_k».proof.Proof.Result
public import proofs.«01_k».proof.Proof.RefValue

/-! The equation: the kernel's result arrays are the reference's. -/

@[expose] public section

set_option maxRecDepth 16384

noncomputable section

namespace Cert.RglruProof

open Idealize.ShloMosaic Idealize.ShloMosaic.TcCoe Idealize.ShloMosaic.Tactic
open Cert.KernelIdeal Cert.KernelIdeal.Gen
open Cert.RglruRef (chan headAt states start)

variable (m : (ℓ : Loc nD τ sig) → Buf (Elt Ideal) ℓ) (c : Dev nD)

/-- The mixed result is the reference's. -/
theorem mixRes_eq : mixRes m c = Cert.ReferenceIdeal.Step.R_main_v155 (F := Ideal)
    (states (start (arg0 m c) (arg1 m c) (arg2 m c) (arg3 m c) (arg4 m c) (arg5 m c) (arg6 m c) (arg7 m c)) 2048) (arg0 m c) := by
  funext i
  obtain ⟨b, r, ch, hi⟩ : ∃ (b : Fin 4) (r : Fin 2048) (ch : Fin 2048), i = ix3 b r ch := ⟨i 0, i 1, i 2, eq_ix3 i⟩
  obtain ⟨h, l, hc⟩ : ∃ (h : Fin 8) (l : Fin 256), ch = chan h l :=
    ⟨⟨ch.val / 256, by omega⟩, ⟨ch.val % 256, by omega⟩, Fin.ext (by dsimp only; omega)⟩
  subst hi
  subst hc
  exact (mixRes_at m c _ b h r l rfl rfl rfl).trans (Cert.RglruRef.mixed _ _ _ _ _ _ _ _ b h r l).symm

/-- The cast weight is the reference's. -/
theorem castRes_eq (s : Cert.ReferenceIdeal.Step.State Ideal) : castRes m c = Cert.ReferenceIdeal.Step.R_main_v159 (F := Ideal) s (arg8 m c) := by
  funext i
  obtain ⟨k, n, hi⟩ : ∃ (k : Fin 4096) (n : Fin 11264), i = ix2 k n := ⟨i 0, i 1, eq_ix2 i⟩
  subst hi
  refine (castRes_at m c _ k n.val rfl rfl).trans ?_
  unfold wide
  symm
  pointwise [Cert.ReferenceIdeal.Step.R_main_v159]
  by_cases h : n.val < 11008
  · rw [dif_pos h, dif_pos h]
  · rw [dif_neg h, dif_neg h]
    exact Cert.RglruRef.int_zero

end Cert.RglruProof

end
-- ==== Proof.Same.lean ====
module

public import proofs.«01_k».proof.Defs
public import proofs.«01_k».proof.Proof.Gen.Kernel
public import proofs.«01_k».proof.Proof.Launch

/-! The kernel over machine floats is the idealized program's text, so it has that program's run. The equation is proved piece by piece: the body, the body table, the table with the pipeline, the host program. -/

@[expose] public section

set_option maxRecDepth 65536
set_option maxHeartbeats 4000000

noncomputable section

namespace Cert.RglruProof

open Idealize.ShloMosaic Idealize.SL.Sem

attribute [local instance] Cert.Kernel.Gen.facts

theorem cc_same : @Cert.Kernel.cc0_rglru Bits _ _ = @Cert.KernelIdeal.cc0_rglru Bits _ _ := rfl

theorem bodies_same : (Cert.Kernel.defs₀ (F := Bits)) = Cert.KernelIdeal.defs₀ (F := Bits) := by
  unfold Cert.Kernel.defs₀ Cert.KernelIdeal.defs₀
  refine congrArg _ (funext fun l => ?_)
  match l with
  | 0 => funext ts; exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc_same _) _) _) _) _) _) _) _) _) _) _) _) _) _) _) _) _) _) _) _) _) _) _) _) _) _) _) _) _) _) _) _) _

theorem defs_same : (Cert.Kernel.defs (F := Bits)) = Cert.KernelIdeal.defs (F := Bits) := by
  unfold Cert.Kernel.defs Cert.KernelIdeal.defs
  exact congrArg (Pipeline.defs Cert.Kernel.pcfgs) bodies_same

theorem main_same : (Cert.Kernel.main (F := Bits)) = Cert.KernelIdeal.main (F := Bits) := rfl

/-- The kernel over machine floats leaves its arguments and every semaphore at zero. -/
theorem frame_kernel : Cert.quiescent_Kernel (hKernel := Cert.Kernel.Gen.facts) := fun m g _ => by
  rw [defs_same, main_same]
  exact frame (F := Bits) m g

end Cert.RglruProof

end
-- ==== Proof.RefRun.lean ====
module

public import proofs.«01_k».proof.Proof.Gen.ReferenceIdeal.Run
public import proofs.«01_k».proof.Proof.Gen.ReferenceIdeal.Step

/-! The reference's run stated over the step of one trip of its loop (after the printed module of the same purpose; here the two
   array updates of a trip are matched up to unfolding). -/

@[expose] public section

noncomputable section

namespace Cert.RglruRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v138_6) = s.main_v138_6
  f_7 : V0 (Proc.devRef .tc main_v138_7) = s.main_v138_7
  f_8 : V0 (Proc.devRef .tc main_v138_8) = s.main_v138_8
  f_9 : V0 (Proc.devRef .tc main_v138_9) = s.main_v138_9
  f_0 : V0 (Proc.devRef .tc main_v138_0) = s.main_v138_0
  f_1 : V0 (Proc.devRef .tc main_v138_1) = s.main_v138_1
  f_2 : V0 (Proc.devRef .tc main_v138_2) = s.main_v138_2
  f_3 : V0 (Proc.devRef .tc main_v138_3) = s.main_v138_3
  n_4 : V0 (Proc.devRef .tc main_v138_4) = constantI S_ 32 (BitVec.ofNat 32 j)
  n_5 : V0 (Proc.devRef .tc main_v138_5) = constantI S_ 32 (BitVec.ofNat 32 j)

variable {V0 s j}

set_option maxRecDepth 8192 in
theorem al_0 (h : Holds V0 s j) : (constantI S_ 32 1#32 : (Proc.devRef .tc main_while0b_c_29 : DevRef τ sig).ty.Contents (Elt F)) = Cert.ReferenceIdeal.Step.b0 j s := by
  unfold Cert.ReferenceIdeal.Step.b0
  rfl
set_option maxRecDepth 8192 in
theorem al_1 (h : Holds V0 s j) : (addi (V0 (Proc.devRef .tc main_v138_5)) (constantI S_ 32 1#32) : (Proc.devRef .tc main_while0b_v160 : DevRef τ sig).ty.Contents (Elt F)) = Cert.ReferenceIdeal.Step.b1 j s := by
  unfold Cert.ReferenceIdeal.Step.b1
  rw [← al_0 h, h.n_5]
  try rfl
set_option maxRecDepth 8192 in
theorem al_2 (h : Holds V0 s j) : (constantI S_ 32 2047#32 : (Proc.devRef .tc main_while0b_c_30 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v161 V0 : (Proc.devRef .tc main_while0b_v161 : DevRef τ sig).ty.Contents (Elt F)) = Cert.ReferenceIdeal.Step.b3 j s := by
  unfold res_main_while0b_v161 Cert.ReferenceIdeal.Step.b3
  rw [← al_2 h, h.n_5]
  try rfl
set_option maxRecDepth 8192 in
theorem al_4 (h : Holds V0 s j) : (constantI S_ 32 0#32 : (Proc.devRef .tc main_while0b_c_31 : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_c_32 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S4x1x2048 (V0 (Proc.devRef .tc main_v138_0)) (fun k => (((![constantI S_ 32 0#32, V0 (Proc.devRef .tc main_v138_5), constantI S_ 32 0#32] : Fin 3 → (⟨S_, .i32⟩ : BufTy).Contents (Elt F))) k (Shape.Idx.first h_S_)).toInt) sliceFits_S4x2048x2048_S4x1x2048 : (Proc.devRef .tc main_while0b_v162 : DevRef τ sig).ty.Contents (Elt F)) = Cert.ReferenceIdeal.Step.b6 j s := by
  unfold Cert.ReferenceIdeal.Step.b6
  rw [← al_4 h, ← al_5 h, h.f_0, h.n_5]
  try rfl
set_option maxRecDepth 8192 in
theorem al_7 (h : Holds V0 s j) : (mulf (Host.dynamicSlice S4x1x2048 (V0 (Proc.devRef .tc main_v138_0)) (fun k => (((![constantI S_ 32 0#32, V0 (Proc.devRef .tc main_v138_5), constantI S_ 32 0#32] : Fin 3 → (⟨S_, .i32⟩ : BufTy).Contents (Elt F))) k (Shape.Idx.first h_S_)).toInt) sliceFits_S4x2048x2048_S4x1x2048) (V0 (Proc.devRef .tc main_v138_6)) : (Proc.devRef .tc main_while0b_v163 : DevRef τ sig).ty.Contents (Elt F)) = Cert.ReferenceIdeal.Step.b7 j s := by
  unfold Cert.ReferenceIdeal.Step.b7
  rw [← al_6 h, h.f_6]
  try rfl
set_option maxRecDepth 8192 in
theorem al_8 (h : Holds V0 s j) : (constantI S_ 32 0#32 : (Proc.devRef .tc main_while0b_c_33 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_c_34 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S4x1x2048 (V0 (Proc.devRef .tc main_v138_1)) (fun k => (((![constantI S_ 32 0#32, V0 (Proc.devRef .tc main_v138_5), constantI S_ 32 0#32] : Fin 3 → (⟨S_, .i32⟩ : BufTy).Contents (Elt F))) k (Shape.Idx.first h_S_)).toInt) sliceFits_S4x2048x2048_S4x1x2048 : (Proc.devRef .tc main_while0b_v164 : DevRef τ sig).ty.Contents (Elt F)) = Cert.ReferenceIdeal.Step.b10 j s := by
  unfold Cert.ReferenceIdeal.Step.b10
  rw [← al_8 h, ← al_9 h, h.f_1, h.n_5]
  try rfl
set_option maxRecDepth 8192 in
theorem al_11 (h : Holds V0 s j) : (res_main_while0b_v165 V0 : (Proc.devRef .tc main_while0b_v165 : DevRef τ sig).ty.Contents (Elt F)) = Cert.ReferenceIdeal.Step.b11 j s := by
  unfold res_main_while0b_v165 Cert.ReferenceIdeal.Step.b11
  rw [← al_7 h, ← al_10 h]
  try rfl
set_option maxRecDepth 8192 in
theorem al_12 (h : Holds V0 s j) : (constantI S_ 32 0#32 : (Proc.devRef .tc main_while0b_c_35 : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_c_36 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S4x1x2048 (V0 (Proc.devRef .tc main_v138_2)) (fun k => (((![constantI S_ 32 0#32, res_main_while0b_v161 V0, constantI S_ 32 0#32] : Fin 3 → (⟨S_, .i32⟩ : BufTy).Contents (Elt F))) k (Shape.Idx.first h_S_)).toInt) sliceFits_S4x2048x2048_S4x1x2048 : (Proc.devRef .tc main_while0b_v166 : DevRef τ sig).ty.Contents (Elt F)) = Cert.ReferenceIdeal.Step.b14 j s := by
  unfold Cert.ReferenceIdeal.Step.b14
  rw [← al_12 h, ← al_3 h, ← al_13 h, h.f_2]
  try rfl
set_option maxRecDepth 8192 in
theorem al_15 (h : Holds V0 s j) : (mulf (Host.dynamicSlice S4x1x2048 (V0 (Proc.devRef .tc main_v138_2)) (fun k => (((![constantI S_ 32 0#32, res_main_while0b_v161 V0, constantI S_ 32 0#32] : Fin 3 → (⟨S_, .i32⟩ : BufTy).Contents (Elt F))) k (Shape.Idx.first h_S_)).toInt) sliceFits_S4x2048x2048_S4x1x2048) (V0 (Proc.devRef .tc main_v138_7)) : (Proc.devRef .tc main_while0b_v167 : DevRef τ sig).ty.Contents (Elt F)) = Cert.ReferenceIdeal.Step.b15 j s := by
  unfold Cert.ReferenceIdeal.Step.b15
  rw [← al_14 h, h.f_7]
  try rfl
set_option maxRecDepth 8192 in
theorem al_16 (h : Holds V0 s j) : (constantI S_ 32 0#32 : (Proc.devRef .tc main_while0b_c_37 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_c_38 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S4x1x2048 (V0 (Proc.devRef .tc main_v138_3)) (fun k => (((![constantI S_ 32 0#32, res_main_while0b_v161 V0, constantI S_ 32 0#32] : Fin 3 → (⟨S_, .i32⟩ : BufTy).Contents (Elt F))) k (Shape.Idx.first h_S_)).toInt) sliceFits_S4x2048x2048_S4x1x2048 : (Proc.devRef .tc main_while0b_v168 : DevRef τ sig).ty.Contents (Elt F)) = Cert.ReferenceIdeal.Step.b18 j s := by
  unfold Cert.ReferenceIdeal.Step.b18
  rw [← al_16 h, ← al_3 h, ← al_17 h, h.f_3]
  try rfl
set_option maxRecDepth 8192 in
theorem al_19 (h : Holds V0 s j) : (res_main_while0b_v169 V0 : (Proc.devRef .tc main_while0b_v169 : DevRef τ sig).ty.Contents (Elt F)) = Cert.ReferenceIdeal.Step.b19 j s := by
  unfold res_main_while0b_v169 Cert.ReferenceIdeal.Step.b19
  rw [← al_15 h, ← al_18 h]
  try rfl
set_option maxRecDepth 8192 in
theorem al_20 (h : Holds V0 s j) : (constantI S_ 32 0#32 : (Proc.devRef .tc main_while0b_c_39 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_c_40 : DevRef τ sig).ty.Contents (Elt F)) = Cert.ReferenceIdeal.Step.b21 j s := by
  unfold Cert.ReferenceIdeal.Step.b21
  rfl
set_option maxRecDepth 8192 in
theorem al_22 (h : Holds V0 s j) : (Host.dynamicUpdateSlice (V0 (Proc.devRef .tc main_v138_8)) (res_main_while0b_v165 V0) (fun k => (((![constantI S_ 32 0#32, V0 (Proc.devRef .tc main_v138_5), constantI S_ 32 0#32] : Fin 3 → (⟨S_, .i32⟩ : BufTy).Contents (Elt F))) k (Shape.Idx.first h_S_)).toInt) updateFits_S4x2048x2048_S4x1x2048 : (Proc.devRef .tc main_while0b_v170 : DevRef τ sig).ty.Contents (Elt F)) = Cert.ReferenceIdeal.Step.b22 j s := by
  unfold Cert.ReferenceIdeal.Step.b22
  rw [← al_11 h, ← al_20 h, ← al_21 h, h.f_8, h.n_5]
  try rfl
set_option maxRecDepth 8192 in
theorem al_23 (h : Holds V0 s j) : (constantI S_ 32 0#32 : (Proc.devRef .tc main_while0b_c_41 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_c_42 : DevRef τ sig).ty.Contents (Elt F)) = Cert.ReferenceIdeal.Step.b24 j s := by
  unfold Cert.ReferenceIdeal.Step.b24
  rfl
set_option maxRecDepth 8192 in
theorem al_25 (h : Holds V0 s j) : (Host.dynamicUpdateSlice (V0 (Proc.devRef .tc main_v138_9)) (res_main_while0b_v169 V0) (fun k => (((![constantI S_ 32 0#32, res_main_while0b_v161 V0, constantI S_ 32 0#32] : Fin 3 → (⟨S_, .i32⟩ : BufTy).Contents (Elt F))) k (Shape.Idx.first h_S_)).toInt) updateFits_S4x2048x2048_S4x1x2048 : (Proc.devRef .tc main_while0b_v171 : DevRef τ sig).ty.Contents (Elt F)) = Cert.ReferenceIdeal.Step.b25 j s := by
  unfold Cert.ReferenceIdeal.Step.b25
  rw [← al_19 h, ← al_23 h, ← al_3 h, ← al_24 h, h.f_9]
  try rfl

/-! One trip's step of the carried values is `step`, field by field; a counter steps to the next number. -/

theorem step_6 (h : Holds V0 s j) : step_main_v138_6 V0 = (step j s).main_v138_6 := by
  unfold step_main_v138_6 Cert.ReferenceIdeal.Step.step
  show id (res_main_while0b_v165 V0) = _
  rw [al_11 h]
  try rfl
theorem step_7 (h : Holds V0 s j) : step_main_v138_7 V0 = (step j s).main_v138_7 := by
  unfold step_main_v138_7 Cert.ReferenceIdeal.Step.step
  show id (res_main_while0b_v169 V0) = _
  rw [al_19 h]
  try rfl
theorem step_8 (h : Holds V0 s j) : step_main_v138_8 V0 = (step j s).main_v138_8 := by
  unfold step_main_v138_8 Cert.ReferenceIdeal.Step.step
  exact al_22 h
theorem step_9 (h : Holds V0 s j) : step_main_v138_9 V0 = (step j s).main_v138_9 := by
  unfold step_main_v138_9 Cert.ReferenceIdeal.Step.step
  exact al_25 h
theorem step_4 (h : Holds V0 s j) : step_main_v138_4 V0 = constantI S_ 32 (BitVec.ofNat 32 (j + 1)) := by
  unfold step_main_v138_4
  rw [h.n_4]
  funext i
  show BitVec.ofNat 32 j + 1#32 = BitVec.ofNat 32 (j + 1)
  simp only [BitVec.ofNat_add]
theorem step_5 (h : Holds V0 s j) : step_main_v138_5 V0 = constantI S_ 32 (BitVec.ofNat 32 (j + 1)) := by
  unfold step_main_v138_5
  rw [h.n_5]
  funext i
  show BitVec.ofNat 32 j + 1#32 = BitVec.ofNat 32 (j + 1)
  simp only [BitVec.ofNat_add]

set_option maxRecDepth 8192 in
theorem out_main_v155_holds (h : Holds V0 s j) {x_main_arg0 : (⟨S4x2048x4096, .f32⟩ : BufTy).Contents (Elt F)} (h_main_arg0 : V0 (Proc.devRef .tc main_arg0) = x_main_arg0) : out_main_v155 V0 = Cert.ReferenceIdeal.Step.R_main_v155 s x_main_arg0 := by
  unfold out_main_v155 Cert.ReferenceIdeal.Step.R_main_v155
  rw [h.f_8, h.f_9, h_main_arg0]
  try rfl

set_option maxRecDepth 8192 in
theorem out_main_v159_holds (h : Holds V0 s j) {x_main_arg8 : (⟨S2x4096x11008, .f32⟩ : BufTy).Contents (Elt F)} (h_main_arg8 : V0 (Proc.devRef .tc main_arg8) = x_main_arg8) : out_main_v159 V0 = Cert.ReferenceIdeal.Step.R_main_v159 s x_main_arg8 := by
  unfold out_main_v159 Cert.ReferenceIdeal.Step.R_main_v159
  rw [h_main_arg8]
  try rfl

/-- One trip keeps the valuation holding: `step` of the state, the same set-up values, the next number. -/
theorem holds_step (h : Holds V0 s j) : Holds (STEP V0) (step j s) (j + 1) where
  f_6 := (STEP_main_v138_6 V0).trans (step_6 h)
  f_7 := (STEP_main_v138_7 V0).trans (step_7 h)
  f_8 := (STEP_main_v138_8 V0).trans (step_8 h)
  f_9 := (STEP_main_v138_9 V0).trans (step_9 h)
  n_4 := (STEP_main_v138_4 V0).trans (step_4 h)
  n_5 := (STEP_main_v138_5 V0).trans (step_5 h)
  f_0 := (STEP_main_v138_0 V0).trans h.f_0
  f_1 := (STEP_main_v138_1 V0).trans h.f_1
  f_2 := (STEP_main_v138_2 V0).trans h.f_2
  f_3 := (STEP_main_v138_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 1200000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v155) = Cert.ReferenceIdeal.Step.R_main_v155 (it c 2048) (m ((c.tc : Thread nD τ).loc main_arg0))
      ∧ r.2.mem ((c.tc : Thread nD τ).loc main_v159) = Cert.ReferenceIdeal.Step.R_main_v159 (it c 2048) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 2048
    ⟨(h c).1.trans (out_main_v155_holds hk (iter_main_arg0 m c 2048)), (h c).2.1.trans (out_main_v159_holds hk (iter_main_arg8 m c 2048)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.RglruRef

end
-- ==== Proof.Gates.lean ====
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pointwise
public import Idealize.ShloMosaic.Lib.Pipeline.Value
public import Idealize.ShloMosaic.Adequacy

/-! The merge gates: the last columns of the input projection, with a bias, through the logistic function. -/

@[expose] public section

set_option maxRecDepth 16384

noncomputable section

namespace Cert.Gates

open Idealize.ShloMosaic Idealize.ShloMosaic.TcCoe Idealize.ShloMosaic.Tactic Idealize.SL.Sem
open Cert.Kernel2Ideal Cert.Kernel2Ideal.Gen

/-- Entry `(r, n)` of the gates. -/
def gate (a : Vec Ideal S8192x4096 .bf16) (w : Vec Ideal S4096x16384 .bf16) (b : Vec Ideal S2x12288 .f32) (r : Fin 8192) (n : Fin 12288) : EReal :=
  Ideal.logistic ((∑ k : Fin 4096, (a (ix2 r k) : EReal) * w (ix2 k ⟨4096 + n.val, by omega⟩)) + b (ix2 0 n))

/-- The result, element by element. -/
def res (a : Vec Ideal S8192x4096 .bf16) (w : Vec Ideal S4096x16384 .bf16) (b : Vec Ideal S2x12288 .f32) : Vec Ideal S8192x12288 .bf16 :=
  fun i => gate a w b (i 0) (i 1)

theorem origin : (![0, 0] : Fin 2 → Nat) = fun _ => 0 := funext fun a => by fin_cases a <;> rfl

/-- One element of the block that a grid point leaves. -/
theorem block (x0 : Vec Ideal S1024x4096 .bf16) (x1 : Vec Ideal S4096x1024 .bf16) (x2 : Vec Ideal S1x1024 .f32) (r l : Fin 1024) :
    (out0_3 (F := Ideal) x0 x1 x2 (ix2 r l) : EReal) = Ideal.logistic ((∑ k : Fin 4096, (x0 (ix2 r k) : EReal) * x1 (ix2 k l)) + x2 (ix2 0 l)) := by
  unfold out0_3
  rw [View.canon_unit_zero origin]
  simp only [View.ld_unit_zero (S := S1024x4096) origin, View.ld_unit_zero (S := S4096x1024) origin, View.ld_unit_zero (S := S1x1024) origin]
  pointwise [k0_pay1]

/-! ## The index maps -/

theorem idx0 : ∀ t : Fin grid0.N, win0_0.index t 0 = t.val / 12 ∧ win0_0.index t 1 = 0 := by decide +kernel

theorem idx1 : ∀ t : Fin grid0.N, win0_1.index t 0 = 0 ∧ win0_1.index t 1 = 4 + t.val % 12 := by decide +kernel

theorem idx2 : ∀ t : Fin grid0.N, win0_2.index t 0 = 0 ∧ win0_2.index t 1 = t.val % 12 := by decide +kernel

theorem idx3 : ∀ t : Fin grid0.N, win0_3.index t 0 = t.val / 12 ∧ win0_3.index t 1 = t.val % 12 := by decide +kernel

variable (m : (ℓ : Loc nD τ sig) → Buf (Elt Ideal) ℓ) (ρ : Dev nD → PrngReg) (c : Dev nD)

/-- The arguments on core `c`. -/
abbrev act : Vec Ideal S8192x4096 .bf16 := m ((c : Thread nD τ).loc main_arg0)
abbrev wgt : Vec Ideal S4096x16384 .bf16 := m ((c : Thread nD τ).loc main_arg1)
abbrev bias : Vec Ideal S2x12288 .f32 := m ((c : Thread nD τ).loc main_arg2)

/-- The bias as the call takes it: the layer's row. -/
theorem V2_read (n : Fin 12288) : ((V m c main_v2 : Vec Ideal S1x12288 .f32) (ix2 0 n) : EReal) = bias m c (ix2 0 n) := by
  show StableHlo.after hostOps0 _ (Proc.devRef .tc main_v2) (ix2 0 n) = _
  after_results
  pointwise []

/-! ## What the windows hold -/

theorem read0 (t : Fin cfg0.N) (a : Fin 1024) (b : Fin 4096) (A : Fin 8192) (B : Fin 4096) (hA : A.val = 1024 * (t.val / 12) + a.val) (hB : B.val = b.val) :
    ((iblk m c 0 t : Vec Ideal S1024x4096 .bf16) (ix2 a b) : EReal) = act m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1024 + 1 * a.val = A.val; rw [hi.1]; omega
  | ⟨1, _⟩ => show win0_0.index t 1 * 4096 + 1 * b.val = B.val; rw [hi.2]; omega

theorem read1 (t : Fin cfg0.N) (a : Fin 4096) (b : Fin 1024) (A : Fin 4096) (B : Fin 16384) (hA : A.val = a.val) (hB : B.val = 4096 + 1024 * (t.val % 12) + b.val) :
    ((iblk m c 1 t : Vec Ideal S4096x1024 .bf16) (ix2 a b) : EReal) = wgt m c (ix2 A B) := by
  refine Eq.trans ?_ (congrFun (V_main_arg1 m c) _)
  unfold iblk
  rw [View.read_apply]
  show V m c main_arg1 _ = V m c main_arg1 _
  congr 1
  funext x
  apply Fin.ext
  have hi := idx1 t
  match x with
  | ⟨0, _⟩ => show win0_1.index t 0 * 4096 + 1 * a.val = A.val; rw [hi.1]; omega
  | ⟨1, _⟩ => show win0_1.index t 1 * 1024 + 1 * b.val = B.val; rw [hi.2]; omega

theorem read2 (t : Fin cfg0.N) (b : Fin 1024) (B : Fin 12288) (hB : B.val = 1024 * (t.val % 12) + b.val) :
    ((iblk m c 2 t : Vec Ideal S1x1024 .f32) (ix2 0 b) : EReal) = bias m c (ix2 0 B) := by
  refine Eq.trans ?_ (V2_read m c B)
  unfold iblk
  rw [View.read_apply]
  show V m c main_v2 _ = V m c main_v2 _
  congr 1
  funext x
  apply Fin.ext
  have hi := idx2 t
  match x with
  | ⟨0, _⟩ => show win0_2.index t 0 * 1 + 1 * 0 = 0; rw [hi.1]
  | ⟨1, _⟩ => show win0_2.index t 1 * 1024 + 1 * b.val = B.val; rw [hi.2]; omega

/-! ## The result array -/

theorem flushed_eq (t : Fin cfg0.N) (hf : (cfg0.win 3).flush t = true) :
    (dats m 0 c).flushed 3 t = ((cfg0.win 3).blk t).view.read (Elt Ideal) (res (act m c) (wgt m c) (bias m c)) := by
  rw [Cert.Kernel2Ideal.Value.flushed3]
  funext j
  rw [View.read_apply]
  obtain ⟨r, l, hj⟩ : ∃ (r l : Fin 1024), j = ix2 r l := ⟨j 0, j 1, eq_ix2 j⟩
  subst hj
  refine (block (iblk m c 0 t) (iblk m c 1 t) (iblk m c 2 t) r l).trans ?_
  have hi := idx3 t
  have h0 : ((((cfg0.win 3).blk t).view.emb (ix2 r l)) 0).val = 1024 * (t.val / 12) + r.val := by show win0_3.index t 0 * 1024 + 1 * r.val = _; rw [hi.1]; omega
  have h1 : ((((cfg0.win 3).blk t).view.emb (ix2 r l)) 1).val = 1024 * (t.val % 12) + l.val := by show win0_3.index t 1 * 1024 + 1 * l.val = _; rw [hi.2]; omega
  show (_ : EReal) = gate (act m c) (wgt m c) (bias m c) ((((cfg0.win 3).blk t).view.emb (ix2 r l)) 0) ((((cfg0.win 3).blk t).view.emb (ix2 r l)) 1)
  generalize (((cfg0.win 3).blk t).view.emb (ix2 r l)) 0 = R at h0 ⊢
  generalize (((cfg0.win 3).blk t).view.emb (ix2 r l)) 1 = C at h1 ⊢
  change Fin 8192 at R
  change Fin 12288 at C
  unfold gate
  rw [read2 m c t l C h1]
  refine congrArg Ideal.logistic (congrArg (· + _) (Finset.sum_congr rfl fun k _ => ?_))
  rw [read0 m c t r k R k h0 rfl, read1 m c t k l k ⟨4096 + C.val, by omega⟩ rfl (by dsimp only; omega)]

theorem final : (dats m 0 c).arrAt 3 cfg0.N = res (act m c) (wgt m c) (bias m c) :=
  (dats m 0 c).arrAt_eq_of_cover 3 (res (act m c) (wgt m c) (bias m c)) (flushed_eq m c) fun i => by
    have h0 : (i 0 : Nat) < 8192 := (i 0).isLt
    have h1 : (i 1 : Nat) < 12288 := (i 1).isLt
    have hN : cfg0.N = 96 := Gen.N_0
    refine ⟨⟨12 * ((i 0 : Nat) / 1024) + (i 1 : Nat) / 1024, by omega⟩, flush0_3 _, ?_⟩
    generalize ht : (⟨12 * ((i 0 : Nat) / 1024) + (i 1 : Nat) / 1024, by omega⟩ : Fin cfg0.N) = t
    have hv : t.val = 12 * ((i 0 : Nat) / 1024) + (i 1 : Nat) / 1024 := by rw [← ht]
    have hi := idx3 t
    show i ∈ ((View.whole main_v3).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [hi.1]; omega
    | ⟨1, _⟩ => show win0_3.index t 1 * 1024 ≤ (i 1 : Nat) ∧ (i 1 : Nat) < win0_3.index t 1 * 1024 + 1024; rw [hi.2]; omega

/-- The run, read. -/
theorem run : θ_run defs (onTc (τ := τ) (main (F := Ideal))) ⟨m, fun _ => 0, ρ⟩ fun r => ∀ c : Dev nD,
      r.2.mem ((c.tc : Thread nD τ).loc main_v3) = res (act m c) (wgt m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Cert.Kernel2Ideal.Value.run_blocks m ρ)

/-- The reference's array, entry by entry. -/
theorem ref_eq (a : Vec Ideal Cert.Reference2Ideal.S8192x4096 .bf16) (w : Vec Ideal Cert.Reference2Ideal.S4096x16384 .bf16) (b : Vec Ideal Cert.Reference2Ideal.S2x12288 .f32)
    (y : Vec Ideal Cert.Reference2Ideal.S8192x12288 .bf16) (hy : y = truncf (F := Ideal) .bf16 (Host.divf (broadcastInDim Cert.Reference2Ideal.S8192x12288 ![] Cert.Reference2Ideal.Facts₀.bcast_S_S8192x12288 (constant (F := Ideal) Cert.Reference2Ideal.S_ .f32 0x3F800000#32)) (addf (broadcastInDim Cert.Reference2Ideal.S8192x12288 ![] Cert.Reference2Ideal.Facts₀.bcast_S_S8192x12288 (constant (F := Ideal) Cert.Reference2Ideal.S_ .f32 0x3F800000#32)) (Host.exp (Host.negf (addf (Host.dotGeneral Cert.Reference2Ideal.dot_S8192x4096_S4096x12288_S8192x12288_1_0_0_1_n_n none (extf .f32 a Cert.Reference2Ideal.Facts₀.bitsLt_bf16_f32) (extf .f32 (extractStridedSlice Cert.Reference2Ideal.S4096x12288 ![0, 4096] w Cert.Reference2Ideal.Facts₀.slices_S4096x16384_S4096x12288_0_4096) Cert.Reference2Ideal.Facts₀.bitsLt_bf16_f32)) (broadcastInDim Cert.Reference2Ideal.S8192x12288 ![0, 1] Cert.Reference2Ideal.Facts₀.bcast_S1x12288_S8192x12288_0_1 (broadcastInDim Cert.Reference2Ideal.S1x12288 ![1] Cert.Reference2Ideal.Facts₀.bcast_S12288_S1x12288_1 (shapeCast _ (extractStridedSlice Cert.Reference2Ideal.S1x12288 ![0, 0] b Cert.Reference2Ideal.Facts₀.slices_S2x12288_S1x12288_0_0) Cert.Reference2Ideal.Facts₀.shapeCasts_S1x12288_S12288)))))))) Cert.Reference2Ideal.Facts₀.bitsLt_bf16_f32) : y = res a w b := by
  rw [hy]
  funext i
  obtain ⟨r, n, hi⟩ : ∃ (r : Fin 8192) (n : Fin 12288), i = ix2 r n := ⟨i 0, i 1, eq_ix2 i⟩
  subst hi
  show _ = gate a w b r n
  unfold gate Ideal.logistic
  pointwise []

/-- The frame of the machine program, of the idealized program and of the reference. -/
theorem frame_kernel : Cert.quiescent_Kernel2 (hKernel2 := Cert.Kernel2.Gen.facts) := fun m g _ => Cert.Kernel2.Gen.frame m g

theorem frame_ideal : Cert.quiescent_Kernel2Ideal (hKernel2Ideal := Cert.Kernel2Ideal.Gen.facts) := fun m g _ => Cert.Kernel2Ideal.Gen.frame m g

theorem frame_ref : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run m g)

/-- The kernel's result is the reference's. -/
theorem value : Cert.algebraic_Kernel2Ideal_Reference2Ideal (hKernel2Ideal := Cert.Kernel2Ideal.Gen.facts) (hReference2Ideal := Cert.Reference2Ideal.Gen.facts) := fun m g m' g' _ heq =>
  ⟨fun c => res (act m c) (wgt m c) (bias m c), run m g,
    (θ_run Cert.Reference2Ideal.defs _ _).mono (fun _ h c => ⟨(h c).1.trans (by rw [(heq c).1, (heq c).2.1, (heq c).2.2]; exact ref_eq _ _ _ _ rfl), (h c).2⟩) (Cert.Reference2Ideal.Value.run m' g')⟩

end Cert.Gates

end
-- ==== Proof.FfnUpLaunch.lean ====
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Pipeline.Value
public import Idealize.ShloMosaic.Lib.WritesUnit
public import Idealize.ShloMosaic.Lib.Pointwise
public import Idealize.ShloMosaic.Adequacy
public import Idealize.ShloMosaic.Lib.Claim

/-! The gate and up projections of the feed-forward: the run of one grid point's body, what every window's buffer holds after each point, and the run of the whole program. -/

@[expose] public section

set_option maxRecDepth 16384

noncomputable section

namespace Cert.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-! ## What one grid point computes -/

/-- The block of the first result. -/
def ffBlk (x0 : Vec F S1024x4096 .bf16) (x1 x2 : Vec F S4096x512 .bf16) : Vec F S1024x512 .bf16 := k0_pay1 x0 x1 x2

open Classical in
/-- The block of the second result: the cast rows at the points that cast, what the buffer held at the others. -/
def wdBlk (i : grid0.Coords) (x3 : Vec F S1x128x4096 .f32) (y : Vec F S128x4096 .bf16) : Vec F S128x4096 .bf16 :=
  if k0_cond1 i = 1#1 then k0_pay2 i x3 else y

theorem hz2 : (![0, 0] : Fin 2 → Nat) = fun _ => 0 := funext fun a => by fin_cases a <;> rfl

theorem hz3 : (![0, 0, 0] : Fin 3 → Nat) = fun _ => 0 := funext fun a => by fin_cases a <;> rfl

section Whole

variable {sg : RefSig} {κ : Kind} {sp : Space} {s : Shape} {e : EltTy}

/-- A store of the whole buffer is what the buffer reads afterwards, whatever was stored before. -/
theorem read_store_whole (v : View sg κ sp s e) (G : v.ty.Contents (Elt F)) {off : Fin s.rank → ℕ} (hz : off = fun _ => 0)
    (inb : ∀ a, off a + s.size a ≤ s.size a) (w : s.Idx → Elt F e) (L : List (View.Piece (Elt F) s e)) :
    v.read (Elt F) (v.writes (Elt F) G ((⟨Rect.unit off s.size inb, w⟩ : View.Piece (Elt F) s e) :: L)) = w := by
  funext y
  exact View.read_writes_cons_unit_of_mem v G inb w L y y hz fun a => (Nat.zero_add _).symm

end Whole

set_option maxHeartbeats 2000000 in
/-- The body of one grid point: from the blocks of the four inputs it leaves the two result blocks. -/
theorem bodyRun (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x128x4096 .f32) (harg5 : arg5.IsWhole) (arg6 : Memref sig .tc .vmem S1024x512 .bf16) (harg6 : arg6.IsWhole) (arg7 : Memref sig .tc .vmem S128x4096 .bf16) (harg7 : arg7.IsWhole)
    (x0 : Vec F S1024x4096 .bf16) (x1 x2 : Vec F S4096x512 .bf16) (x3 : Vec F S1x128x4096 .f32) (y5 : Vec F S128x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (ffBlk x0 x1 x2) ∗ owns (c : Thread nD τ) arg7 fullShare (wdBlk i x3 y5)) -∗ K ⟨⟩))
          ⊢ wp frame (wpE (defs₀ (F := F)) Variants.none c none) E (cc0_ffn_gate_up i arg2 harg2 arg3 harg3 arg4 harg4 arg5 harg5 arg6 harg6 arg7 harg7) K := by
  intro E K
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    clear hf0 hf1 hf2 hf3 hf5
    sl_unfold_words
    rw [read_store_whole _ _ hz2]
    unfold ffBlk
    simp only [View.readAt_eq_ld, harg2.read_unread, harg3.read_unread, harg4.read_unread, harg5.read_unread, View.ld_unit_zero (S := S1024x4096) hz2, View.ld_unit_zero (S := S4096x512) hz2, View.ld_unit_zero (S := S1x128x4096) hz3]
  iexists _; isplitr; swap; · iexact H5
  ipureintro
  clear hf0 hf1 hf2 hf3
  unfold wdBlk
  by_cases hc : k0_cond1 i = 1#1
  · rw [dif_pos hc, if_pos hc, read_store_whole _ _ hz2]
    simp only [View.readAt_eq_ld, harg2.read_unread, harg3.read_unread, harg4.read_unread, harg5.read_unread, View.ld_unit_zero (S := S1024x4096) hz2, View.ld_unit_zero (S := S4096x512) hz2, View.ld_unit_zero (S := S1x128x4096) hz3]
  · rw [dif_neg hc, if_neg hc, hf5]

variable (m : (ℓ : Loc nD τ sig) → Buf (Elt F) ℓ) (ρ : Dev nD → PrngReg)

/-! ## The grid -/

/-- The body casts a block of the weight at the first 88 points only. -/
theorem casts_iff : ∀ t : Fin cfg0.N, k0_cond1 (grid0.coords t) = 1#1 ↔ t.val < 88 :=
  (by decide +kernel : ∀ t : Fin grid0.N, k0_cond1 (grid0.coords t) = 1#1 ↔ t.val < 88)

/-- The weight's result is written back where its block changes: at the first 87 points and at the last. -/
theorem flush5_iff : ∀ t : Fin cfg0.N, (cfg0.win 5).flush t = (decide (t.val < 87) || decide (t.val = 175)) := by
  have h : ∀ t : Fin grid0.N, Pipeline.Window.flushF win0_5 t = (decide (t.val < 87) || decide (t.val = 175)) := by decide +kernel
  intro t
  exact (Pipeline.Window.flush_eq_flushF _ t).trans (h t)

theorem idle5_iff : ∀ t : Fin cfg0.N, cfg0.idle 5 (grid0.coords t) = decide (88 ≤ t.val) :=
  (by decide +kernel : ∀ t : Fin grid0.N, idle0 5 (grid0.coords t) = decide (88 ≤ t.val))

/-- The buffer of the weight's result holds no stored block before point 88. -/
theorem fresh5 : ∀ n, n ≤ cfg0.N → cfg0.fresh 5 n = decide (n ≤ 87 ∨ n = 176) :=
  cfg0.fresh_tab 5 (fun n => decide (n ≤ 87 ∨ n = 176)) rfl fun t => by
    rw [flush5_iff, idle5_iff]
    have hN : t.val < 176 := lt_of_lt_of_eq t.isLt (show cfg0.N = 176 from N_0)
    rw [Bool.eq_iff_iff]
    simp only [Bool.or_eq_true, Bool.and_eq_true, decide_eq_true_eq]
    omega

theorem clip5 : ∀ (i : cfg0.grid.Coords) a, (cfg0.win 5).clip i a = none := fun _ _ => rfl

/-! ## The proof data -/

/-- The point that last cast a block of the weight, at or before point `t`. -/
def lastCast (t : Fin cfg0.N) : Fin cfg0.N := ⟨min t.val 87, lt_of_le_of_lt (Nat.min_le_left _ _) t.isLt⟩

/-- The block of the cast weight that point `t` leaves. -/
def wdAt (c : Dev nD) (t : Fin cfg0.N) : Vec F S128x4096 .bf16 :=
  k0_pay2 (grid0.coords (lastCast t)) (iblk m c 3 (lastCast t))

/-- The block of the first result that point `t` leaves. -/
def ffAt (c : Dev nD) (t : Fin cfg0.N) : Vec F S1024x512 .bf16 :=
  ffBlk (iblk m c 0 t) (iblk m c 1 t) (iblk m c 2 t)

/-- The proof data of the pipeline on core `c`: each input's buffer at its block, the results' at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ffAt m c t
    | ⟨5, _⟩ => wdAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = ffAt m c t := by dsimp only [dats]
theorem after5 (c : Dev nD) (t : Fin cfg0.N) : (dats m 0 c).after 5 t = wdAt m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

theorem wdAt_pred (c : Dev nD) (t : Fin cfg0.N) (h : 88 ≤ t.val) (h' : t.val - 1 < cfg0.N) : wdAt m c ⟨t.val - 1, h'⟩ = wdAt m c t := by
  have e : lastCast ⟨t.val - 1, h'⟩ = lastCast t := Fin.ext (by show min (t.val - 1) 87 = min t.val 87; omega)
  unfold wdAt; rw [e]

/-- After the last cast the buffer keeps the block. -/
theorem before5 (c : Dev nD) (t : Fin cfg0.N) (h : 88 ≤ t.val) (d) : (dats m 0 c).before 5 t d = wdAt m c t := by
  rw [(dats m 0 c).before_out_traj 5 rfl clip5 (fun t' h0 hi hf => ?_) t.val t rfl d, fresh5 _ t.isLt.le, if_neg (by have hN : t.val < 176 := lt_of_lt_of_eq t.isLt (show cfg0.N = 176 from N_0); simp only [decide_eq_true_eq]; omega), after5, wdAt_pred m c t h]
  rw [idle5_iff, decide_eq_true_eq] at hi
  rw [after5, after5, wdAt_pred m c t' hi]

theorem lastCast_of_lt (t : Fin cfg0.N) (h : t.val < 88) : lastCast t = t := Fin.ext (by show min t.val 87 = t.val; omega)

/-- What the body leaves in the buffer of the weight's result. -/
theorem out5_eq (c : Dev nD) (t : Fin cfg0.N) (d) : wdBlk (grid0.coords t) (iblk m c 3 t) ((dats m 0 c).before 5 t d) = wdAt m c t := by
  unfold wdBlk
  by_cases h : t.val < 88
  · rw [if_pos ((casts_iff t).mpr h)]
    unfold wdAt; rw [lastCast_of_lt t h]
  · rw [if_neg (fun h' => h ((casts_iff t).mp h')), before5 m c t (by omega)]

/-! ## The body obligation -/

abbrev ms0 (t : Fin cfg0.N) : Memref sig .tc .vmem S1024x4096 .bf16 := win0_0.stage (cfg0.slots t 0)
abbrev ms1 (t : Fin cfg0.N) : Memref sig .tc .vmem S4096x512 .bf16 := win0_1.stage (cfg0.slots t 1)
abbrev ms2 (t : Fin cfg0.N) : Memref sig .tc .vmem S4096x512 .bf16 := win0_2.stage (cfg0.slots t 2)
abbrev ms3 (t : Fin cfg0.N) : Memref sig .tc .vmem S1x128x4096 .f32 := win0_3.stage (cfg0.slots t 3)
abbrev ms4 (t : Fin cfg0.N) : Memref sig .tc .vmem S1024x512 .bf16 := win0_4.stage (cfg0.slots t 4)
abbrev ms5 (t : Fin cfg0.N) : Memref sig .tc .vmem S128x4096 .bf16 := win0_5.stage (cfg0.slots t 5)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (ffAt m c t) := by
  unfold Dat.leavesExact; rw [show cfg0.idle 4 (cfg0.grid.coords t) = false from rfl, after4]

/-- The buffer of the weight's result at the cast block is what is asked of it, in all three cases of the point. -/
theorem leaves5 (c : Dev nD) (t : Fin cfg0.N) :
    owns (c : Thread nD τ) (ms5 t) fullShare (wdAt m c t) ⊢ ((dats m 0 c).leavesExact 5 t : sProp 𝕄) := by
  by_cases h : t.val < 88
  · unfold Dat.leavesExact
    rw [show cfg0.idle 5 (cfg0.grid.coords t) = false from (idle5_iff t).trans (by simp only [decide_eq_false_iff_not]; omega), after5]
  · by_cases h1 : t.val = 175
    · unfold Dat.leavesExact
      rw [show cfg0.idle 5 (cfg0.grid.coords t) = true from (idle5_iff t).trans (by simp only [decide_eq_true_eq]; omega), show (cfg0.win 5).flush t = true from (flush5_iff t).trans (by simp [h1]), after5]
    · rw [(dats m 0 c).leavesExact_idle 5 t ((idle5_iff t).trans (by simp only [decide_eq_true_eq]; omega)) ((flush5_iff t).trans (by simp only [Bool.or_eq_false_iff, decide_eq_false_iff_not]; omega))]
      iintro H
      iexists (wdAt m c t)
      rw [before5 m c t (by omega)]
      iexact H

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3, leaves4]
  rw [show (dats m 0 c).Φ t.succ = (dats m 0 c).Φ t.castSucc from rfl,
    show (dats m 0 c).owesAt () t.succ = (dats m 0 c).owesAt () t.castSucc from rfl]
  iintro ⟨Hg, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (iblk m c 0 t) (iblk m c 1 t) (iblk m c 2 t) (iblk m c 3 t) _) Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [Hg]; · iexact Hg
  isplitl [Ho]; · iexact Ho
  isplitl [H0]; · iexact H0
  isplitl [H1]; · iexact H1
  isplitl [H2]; · iexact H2
  isplitl [H3]; · iexact H3
  isplitl [H4]; · unfold ffAt; iexact H4
  rw [out5_eq m c t]
  iapply (leaves5 m c t)
  iexact H5

theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch terminates with every array at its final contents and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnUp

end
-- ==== Proof.FfnUp.lean ====
module

public import proofs.«01_k».proof.Defs
public import proofs.«01_k».proof.Proof.FfnUpLaunch
public import proofs.«01_k».proof.Proof.Gen.Kernel3.Frame
public import proofs.«01_k».proof.Proof.Gen.Reference3Ideal
public import proofs.«01_k».proof.Proof.Gen.Reference3Ideal.Run

/-! The gate and up projections of the feed-forward, joined, and the cast of the down projection beside them: the two results element by element, and the claims. -/

@[expose] public section

set_option maxRecDepth 16384

noncomputable section

namespace Cert.FfnUp

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen

/-- One projection's entry. -/
def proj (a : Vec Ideal S8192x4096 .bf16) (w : Vec Ideal S4096x11264 .bf16) (r : Fin 8192) (n : Fin 11264) : EReal :=
  ∑ k : Fin 4096, (a (ix2 r k) : EReal) * w (ix2 k n)

/-- Entry `(r, n)` of the first result: the gate's projection through silu, times the up projection. -/
def entry (a : Vec Ideal S8192x4096 .bf16) (g u : Vec Ideal S4096x11264 .bf16) (r : Fin 8192) (n : Fin 11264) : EReal :=
  proj a g r n * Ideal.logistic (proj a g r n) * proj a u r n

/-- The first result. -/
def ffRes (a : Vec Ideal S8192x4096 .bf16) (g u : Vec Ideal S4096x11264 .bf16) : Vec Ideal S8192x11264 .bf16 :=
  fun i => entry a g u (i 0) (i 1)

/-- The down projection's weight, continued with zero rows. -/
def tall (w : Vec Ideal S2x11008x4096 .f32) (k : ℕ) (l : Fin 4096) : EReal := if h : k < 11008 then w (ix3 0 ⟨k, h⟩ l) else 0

/-- The second result. -/
def wdRes (w : Vec Ideal S2x11008x4096 .f32) : Vec Ideal S11264x4096 .bf16 := fun i => (tall w (i 0).val ⟨(i 1).val, (i 1).isLt⟩ : EReal)

theorem wdRes_at (w : Vec Ideal S2x11008x4096 .f32) (i : S11264x4096.Idx) (k : ℕ) (l : Fin 4096) (h0 : (i 0).val = k) (h1 : (i 1).val = l.val) :
    (wdRes w i : EReal) = tall w k l := by
  unfold wdRes
  have e1 : (⟨(i 1).val, (i 1).isLt⟩ : Fin 4096) = l := Fin.ext h1
  rw [e1, h0]

/-! ## One element of each block -/

/-- One projection's entry within a block. -/
def part (x : Vec Ideal S1024x4096 .bf16) (w : Vec Ideal S4096x512 .bf16) (r : Fin 1024) (l : Fin 512) : EReal :=
  ∑ k : Fin 4096, (x (ix2 r k) : EReal) * w (ix2 k l)

theorem ff_block (x0 : Vec Ideal S1024x4096 .bf16) (x1 x2 : Vec Ideal S4096x512 .bf16) (r : Fin 1024) (l : Fin 512) :
    (ffBlk (F := Ideal) x0 x1 x2 (ix2 r l) : EReal) = part x0 x1 r l * Ideal.logistic (part x0 x1 r l) * part x0 x2 r l := by
  unfold ffBlk part
  pointwise [k0_pay1]

/-- The word that says whether the block lies within the weight: it does up to block 85. -/
theorem word : ∀ t : Fin grid0.N, Scalar.cmpi .slt (Scalar.addi (Scalar.muli (Scalar.addi (Scalar.muli (BitVec.ofNat 32 (grid0.coords t 0).val) 22#32) (BitVec.ofNat 32 (grid0.coords t 1).val)) 1#32) 0#32) 86#32 = if t.val < 86 then 1#1 else 0#1 := by decide +kernel

theorem wd_block (x : Vec Ideal S1x128x4096 .f32) (t : Fin cfg0.N) (k : Fin 128) (l : Fin 4096) :
    (k0_pay2 (F := Ideal) (grid0.coords t) x (ix2 k l) : EReal) = if t.val < 86 then x (ix3 0 k l) else 0 := by
  unfold k0_pay2
  dsimp only
  rw [word t]
  by_cases h : t.val < 86
  · rw [if_pos h, if_pos h]
    pointwise []
  · rw [if_neg h, if_neg h]
    pointwise []

/-! ## The index maps -/

theorem idx0 : ∀ t : Fin grid0.N, win0_0.index t 0 = t.val / 22 ∧ win0_0.index t 1 = 0 := by decide +kernel

theorem idx1 : ∀ t : Fin grid0.N, win0_1.index t 0 = 0 ∧ win0_1.index t 1 = t.val % 22 := by decide +kernel

theorem idx2 : ∀ t : Fin grid0.N, win0_2.index t 0 = 0 ∧ win0_2.index t 1 = t.val % 22 := by decide +kernel

theorem idx3 : ∀ t : Fin grid0.N, win0_3.index t 0 = 0 ∧ win0_3.index t 1 = min t.val 85 ∧ win0_3.index t 2 = 0 := by decide +kernel

theorem idx4 : ∀ t : Fin grid0.N, win0_4.index t 0 = t.val / 22 ∧ win0_4.index t 1 = t.val % 22 := by decide +kernel

theorem idx5 : ∀ t : Fin grid0.N, win0_5.index t 0 = min t.val 87 ∧ win0_5.index t 1 = 0 := by decide +kernel

variable (m : (ℓ : Loc nD τ sig) → Buf (Elt Ideal) ℓ) (ρ : Dev nD → PrngReg) (c : Dev nD)

/-- The arguments on core `c`. -/
abbrev act : Vec Ideal S8192x4096 .bf16 := m ((c : Thread nD τ).loc main_arg0)
abbrev wGate : Vec Ideal S4096x11264 .bf16 := m ((c : Thread nD τ).loc main_arg1)
abbrev wUp : Vec Ideal S4096x11264 .bf16 := m ((c : Thread nD τ).loc main_arg2)
abbrev wDown : Vec Ideal S2x11008x4096 .f32 := m ((c : Thread nD τ).loc main_arg3)

/-! ## What the windows hold -/

theorem read0 (t : Fin cfg0.N) (a : Fin 1024) (b : Fin 4096) (A : Fin 8192) (B : Fin 4096) (hA : A.val = 1024 * (t.val / 22) + a.val) (hB : B.val = b.val) :
    ((iblk m c 0 t : Vec Ideal S1024x4096 .bf16) (ix2 a b) : EReal) = act m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1024 + 1 * a.val = A.val; rw [hi.1]; omega
  | ⟨1, _⟩ => show win0_0.index t 1 * 4096 + 1 * b.val = B.val; rw [hi.2]; omega

theorem read1 (t : Fin cfg0.N) (a : Fin 4096) (b : Fin 512) (A : Fin 4096) (B : Fin 11264) (hA : A.val = a.val) (hB : B.val = 512 * (t.val % 22) + b.val) :
    ((iblk m c 1 t : Vec Ideal S4096x512 .bf16) (ix2 a b) : EReal) = wGate m c (ix2 A B) := by
  refine Eq.trans ?_ (congrFun (V_main_arg1 m c) _)
  unfold iblk
  rw [View.read_apply]
  show V m c main_arg1 _ = V m c main_arg1 _
  congr 1
  funext x
  apply Fin.ext
  have hi := idx1 t
  match x with
  | ⟨0, _⟩ => show win0_1.index t 0 * 4096 + 1 * a.val = A.val; rw [hi.1]; omega
  | ⟨1, _⟩ => show win0_1.index t 1 * 512 + 1 * b.val = B.val; rw [hi.2]; omega

theorem read2 (t : Fin cfg0.N) (a : Fin 4096) (b : Fin 512) (A : Fin 4096) (B : Fin 11264) (hA : A.val = a.val) (hB : B.val = 512 * (t.val % 22) + b.val) :
    ((iblk m c 2 t : Vec Ideal S4096x512 .bf16) (ix2 a b) : EReal) = wUp m c (ix2 A B) := by
  refine Eq.trans ?_ (congrFun (V_main_arg2 m c) _)
  unfold iblk
  rw [View.read_apply]
  show V m c main_arg2 _ = V m c main_arg2 _
  congr 1
  funext x
  apply Fin.ext
  have hi := idx2 t
  match x with
  | ⟨0, _⟩ => show win0_2.index t 0 * 4096 + 1 * a.val = A.val; rw [hi.1]; omega
  | ⟨1, _⟩ => show win0_2.index t 1 * 512 + 1 * b.val = B.val; rw [hi.2]; omega

theorem read3 (t : Fin cfg0.N) (h : t.val < 86) (k : Fin 128) (l : Fin 4096) :
    ((iblk m c 3 t : Vec Ideal S1x128x4096 .f32) (ix3 0 k l) : EReal) = tall (wDown m c) (128 * t.val + k.val) l := by
  unfold tall
  rw [dif_pos (by omega)]
  refine Eq.trans ?_ (congrFun (V_main_arg3 m c) _)
  unfold iblk
  rw [View.read_apply]
  show V m c main_arg3 _ = V m c main_arg3 _
  congr 1
  funext x
  apply Fin.ext
  have hi := idx3 t
  match x with
  | ⟨0, _⟩ => show win0_3.index t 0 * 1 + 1 * 0 = 0; rw [hi.1]
  | ⟨1, _⟩ => show win0_3.index t 1 * 128 + 1 * k.val = 128 * t.val + k.val; rw [hi.2.1]; omega
  | ⟨2, _⟩ => show win0_3.index t 2 * 4096 + 1 * l.val = l.val; rw [hi.2.2]; omega

/-- The block of the cast weight that a grid point leaves is the weight's, at the rows of its block. -/
theorem wdAt_read (t : Fin cfg0.N) (k : Fin 128) (l : Fin 4096) : (wdAt m c t (ix2 k l) : EReal) = tall (wDown m c) (128 * min t.val 87 + k.val) l := by
  have hv : (lastCast t).val = min t.val 87 := rfl
  unfold wdAt
  rw [wd_block (iblk m c 3 (lastCast t)) (lastCast t) k l]
  by_cases h : (lastCast t).val < 86
  · rw [if_pos h, read3 m c _ h k l, hv]
  · rw [if_neg h]
    unfold tall
    rw [dif_neg (by omega)]

/-! ## The result arrays -/

theorem flushed4_eq (t : Fin cfg0.N) (hf : (cfg0.win 4).flush t = true) :
    (dats m 0 c).flushed 4 t = ((cfg0.win 4).blk t).view.read (Elt Ideal) (ffRes (act m c) (wGate m c) (wUp m c)) := by
  show (cfg0.win 4).cut (grid0.coords t) ((dats m 0 c).after 4 t) = _
  rw [after4]
  funext j
  rw [View.read_apply]
  obtain ⟨r, l, hj⟩ : ∃ (r : Fin 1024) (l : Fin 512), j = ix2 r l := ⟨j 0, j 1, eq_ix2 j⟩
  subst hj
  refine (ff_block (iblk m c 0 t) (iblk m c 1 t) (iblk m c 2 t) r l).trans ?_
  have hi := idx4 t
  have h0 : ((((cfg0.win 4).blk t).view.emb (ix2 r l)) 0).val = 1024 * (t.val / 22) + r.val := by show win0_4.index t 0 * 1024 + 1 * r.val = _; rw [hi.1]; omega
  have h1 : ((((cfg0.win 4).blk t).view.emb (ix2 r l)) 1).val = 512 * (t.val % 22) + l.val := by show win0_4.index t 1 * 512 + 1 * l.val = _; rw [hi.2]; omega
  show (_ : EReal) = entry (act m c) (wGate m c) (wUp m c) ((((cfg0.win 4).blk t).view.emb (ix2 r l)) 0) ((((cfg0.win 4).blk t).view.emb (ix2 r l)) 1)
  generalize (((cfg0.win 4).blk t).view.emb (ix2 r l)) 0 = R at h0 ⊢
  generalize (((cfg0.win 4).blk t).view.emb (ix2 r l)) 1 = C at h1 ⊢
  change Fin 8192 at R
  change Fin 11264 at C
  have hg : part (iblk m c 0 t) (iblk m c 1 t) r l = proj (act m c) (wGate m c) R C := by
    unfold part proj
    refine Finset.sum_congr rfl fun k _ => ?_
    rw [read0 m c t r k R k h0 rfl, read1 m c t k l k C rfl h1]
  have hu : part (iblk m c 0 t) (iblk m c 2 t) r l = proj (act m c) (wUp m c) R C := by
    unfold part proj
    refine Finset.sum_congr rfl fun k _ => ?_
    rw [read0 m c t r k R k h0 rfl, read2 m c t k l k C rfl h1]
  unfold entry
  rw [← hg, ← hu]

theorem flushed5_eq (t : Fin cfg0.N) (hf : (cfg0.win 5).flush t = true) :
    (dats m 0 c).flushed 5 t = ((cfg0.win 5).blk t).view.read (Elt Ideal) (wdRes (wDown m c)) := by
  show (cfg0.win 5).cut (grid0.coords t) ((dats m 0 c).after 5 t) = _
  rw [after5]
  funext j
  rw [View.read_apply]
  obtain ⟨k, l, hj⟩ : ∃ (k : Fin 128) (l : Fin 4096), j = ix2 k l := ⟨j 0, j 1, eq_ix2 j⟩
  subst hj
  refine (wdAt_read m c t k l).trans (Eq.symm ?_)
  have hi := idx5 t
  refine wdRes_at _ _ _ l ?_ ?_
  · show win0_5.index t 0 * 128 + 1 * k.val = 128 * min t.val 87 + k.val; rw [hi.1]; omega
  · show win0_5.index t 1 * 4096 + 1 * l.val = l.val; rw [hi.2]; omega

theorem final4 : (dats m 0 c).arrAt 4 cfg0.N = ffRes (act m c) (wGate m c) (wUp m c) :=
  (dats m 0 c).arrAt_eq_of_cover 4 (ffRes (act m c) (wGate m c) (wUp m c)) (flushed4_eq m c) fun i => by
    have h0 : (i 0 : Nat) < 8192 := (i 0).isLt
    have h1 : (i 1 : Nat) < 11264 := (i 1).isLt
    have hN : cfg0.N = 176 := Gen.N_0
    refine ⟨⟨22 * ((i 0 : Nat) / 1024) + (i 1 : Nat) / 512, by omega⟩, flush0_4 _, ?_⟩
    generalize ht : (⟨22 * ((i 0 : Nat) / 1024) + (i 1 : Nat) / 512, by omega⟩ : Fin cfg0.N) = t
    have hv : t.val = 22 * ((i 0 : Nat) / 1024) + (i 1 : Nat) / 512 := by rw [← ht]
    have hi := idx4 t
    show i ∈ ((View.whole main_v0_0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024; rw [hi.1]; omega
    | ⟨1, _⟩ => show win0_4.index t 1 * 512 ≤ (i 1 : Nat) ∧ (i 1 : Nat) < win0_4.index t 1 * 512 + 512; rw [hi.2]; omega

theorem final5 : (dats m 0 c).arrAt 5 cfg0.N = wdRes (wDown m c) :=
  (dats m 0 c).arrAt_eq_of_cover 5 (wdRes (wDown m c)) (flushed5_eq m c) fun i => by
    have h0 : (i 0 : Nat) < 11264 := (i 0).isLt
    have h1 : (i 1 : Nat) < 4096 := (i 1).isLt
    have hN : cfg0.N = 176 := Gen.N_0
    refine ⟨⟨if (i 0 : Nat) / 128 < 87 then (i 0 : Nat) / 128 else 175, by split <;> omega⟩, ?_, ?_⟩
    · rw [flush5_iff]
      by_cases h : (i 0 : Nat) / 128 < 87
      · simp [h]
      · simp [h]
    generalize ht : (⟨if (i 0 : Nat) / 128 < 87 then (i 0 : Nat) / 128 else 175, by split <;> omega⟩ : Fin cfg0.N) = t
    have hv : min t.val 87 = (i 0 : Nat) / 128 := by
      rw [← ht]
      dsimp only
      split <;> omega
    have hi := idx5 t
    show i ∈ ((View.whole main_v0_1).slice (win0_5.rect t)).set
    rw [View.set_slice_whole, Rect.mem_set_unit]
    intro a
    match a with
    | ⟨0, _⟩ => show win0_5.index t 0 * 128 ≤ (i 0 : Nat) ∧ (i 0 : Nat) < win0_5.index t 0 * 128 + 128; rw [hi.1, hv]; omega
    | ⟨1, _⟩ => show win0_5.index t 1 * 4096 ≤ (i 1 : Nat) ∧ (i 1 : Nat) < win0_5.index t 1 * 4096 + 4096; rw [hi.2]; omega

/-- The run, read. -/
theorem run : θ_run defs (onTc (τ := τ) (main (F := Ideal))) ⟨m, fun _ => 0, ρ⟩ fun r => ∀ c : Dev nD,
      r.2.mem ((c.tc : Thread nD τ).loc main_v0_0) = ffRes (act m c) (wGate m c) (wUp m c)
      ∧ r.2.mem ((c.tc : Thread nD τ).loc main_v0_1) = wdRes (wDown m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m c), ((h.1 c).1 5).trans (final5 m c), h.2.1 c⟩) (θ_run_and (run_main m ρ) (frame m ρ))

/-! ## The reference -/

theorem int_zero : (FloatOps.sitofp (F := Ideal) FTy.bf16 (0#32) : EReal) = 0 := by
  show (((0#32 : BitVec 32).toInt : ℝ) : EReal) = 0
  simp

theorem ff_ref (a : Vec Ideal Cert.Reference3Ideal.S8192x4096 .bf16) (g u : Vec Ideal Cert.Reference3Ideal.S4096x11264 .bf16)
    (y : Vec Ideal Cert.Reference3Ideal.S8192x11264 .bf16) (hy : y = truncf (F := Ideal) .bf16 (mulf (mulf (Host.dotGeneral Cert.Reference3Ideal.dot_S8192x4096_S4096x11264_S8192x11264_1_0_0_1_n_n none (extf .f32 a Cert.Reference3Ideal.Facts₀.bitsLt_bf16_f32) (extf .f32 g Cert.Reference3Ideal.Facts₀.bitsLt_bf16_f32)) (Host.divf (broadcastInDim Cert.Reference3Ideal.S8192x11264 ![] Cert.Reference3Ideal.Facts₀.bcast_S_S8192x11264 (constant (F := Ideal) Cert.Reference3Ideal.S_ .f32 0x3F800000#32)) (addf (broadcastInDim Cert.Reference3Ideal.S8192x11264 ![] Cert.Reference3Ideal.Facts₀.bcast_S_S8192x11264 (constant (F := Ideal) Cert.Reference3Ideal.S_ .f32 0x3F800000#32)) (Host.exp (Host.negf (Host.dotGeneral Cert.Reference3Ideal.dot_S8192x4096_S4096x11264_S8192x11264_1_0_0_1_n_n none (extf .f32 a Cert.Reference3Ideal.Facts₀.bitsLt_bf16_f32) (extf .f32 g Cert.Reference3Ideal.Facts₀.bitsLt_bf16_f32))))))) (Host.dotGeneral Cert.Reference3Ideal.dot_S8192x4096_S4096x11264_S8192x11264_1_0_0_1_n_n none (extf .f32 a Cert.Reference3Ideal.Facts₀.bitsLt_bf16_f32) (extf .f32 u Cert.Reference3Ideal.Facts₀.bitsLt_bf16_f32))) Cert.Reference3Ideal.Facts₀.bitsLt_bf16_f32) : y = ffRes a g u := by
  rw [hy]
  funext i
  obtain ⟨r, n, hi⟩ : ∃ (r : Fin 8192) (n : Fin 11264), i = ix2 r n := ⟨i 0, i 1, eq_ix2 i⟩
  subst hi
  show _ = entry a g u r n
  unfold entry proj Ideal.logistic
  pointwise []

theorem wd_ref (w : Vec Ideal Cert.Reference3Ideal.S2x11008x4096 .f32)
    (y : Vec Ideal Cert.Reference3Ideal.S11264x4096 .bf16) (hy : y = pad Cert.Reference3Ideal.S11264x4096 ![0, 0] ![256, 0] ![0, 0] (truncf (F := Ideal) .bf16 (shapeCast _ (extractStridedSlice Cert.Reference3Ideal.S1x11008x4096 ![0, 0, 0] w Cert.Reference3Ideal.Facts₀.slices_S2x11008x4096_S1x11008x4096_0_0_0) Cert.Reference3Ideal.Facts₀.shapeCasts_S1x11008x4096_S11008x4096) Cert.Reference3Ideal.Facts₀.bitsLt_bf16_f32) (sitofp (F := Ideal) .bf16 (constantI Cert.Reference3Ideal.S_ 32 0#32)) Cert.Reference3Ideal.Facts₀.pads_S11008x4096_S11264x4096_02560_000 Cert.Reference3Ideal.Facts₀.h_S_) : y = wdRes w := by
  rw [hy]
  funext i
  obtain ⟨k, l, hi⟩ : ∃ (k : Fin 11264) (l : Fin 4096), i = ix2 k l := ⟨i 0, i 1, eq_ix2 i⟩
  subst hi
  refine Eq.trans ?_ (wdRes_at w _ k.val l rfl rfl).symm
  unfold tall
  pointwise []
  by_cases h : k.val < 11008
  · rw [dif_pos h, dif_pos h]
  · rw [dif_neg h, dif_neg h]
    exact int_zero

/-! ## The claims -/

section Machine

attribute [local instance] Cert.Kernel3.Gen.facts

theorem cc_same : @Cert.Kernel3.cc0_ffn_gate_up Bits _ _ = @Cert.Kernel3Ideal.cc0_ffn_gate_up Bits _ _ := rfl

theorem bodies_same : (Cert.Kernel3.defs₀ (F := Bits)) = Cert.Kernel3Ideal.defs₀ (F := Bits) := by
  unfold Cert.Kernel3.defs₀ Cert.Kernel3Ideal.defs₀
  refine congrArg _ (funext fun l => ?_)
  match l with
  | 0 => funext ts; exact congrFun (congrFun (congrFun (congrFun (congrFun (congrFun (congrFun (congrFun (congrFun (congrFun (congrFun (congrFun (congrFun cc_same _) _) _) _) _) _) _) _) _) _) _) _) _

theorem defs_same : (Cert.Kernel3.defs (F := Bits)) = Cert.Kernel3Ideal.defs (F := Bits) := by
  unfold Cert.Kernel3.defs Cert.Kernel3Ideal.defs
  exact congrArg (Pipeline.defs Cert.Kernel3.pcfgs) bodies_same

theorem main_same : (Cert.Kernel3.main (F := Bits)) = Cert.Kernel3Ideal.main (F := Bits) := rfl

/-- The machine program leaves its arguments and every semaphore at zero. -/
theorem frame_kernel : Cert.quiescent_Kernel3 (hKernel3 := Cert.Kernel3.Gen.facts) := fun m g _ => by
  rw [defs_same, main_same]
  exact frame (F := Bits) m g

end Machine

/-- So do the idealized program and the reference. -/
theorem frame_ideal : Cert.quiescent_Kernel3Ideal (hKernel3Ideal := Cert.Kernel3Ideal.Gen.facts) := fun m g _ => frame m g

theorem frame_ref : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩) (Cert.Reference3Ideal.Value.run m g)

/-- The kernel's results are the reference's. -/
theorem value : Cert.algebraic_Kernel3Ideal_Reference3Ideal (hKernel3Ideal := Cert.Kernel3Ideal.Gen.facts) (hReference3Ideal := Cert.Reference3Ideal.Gen.facts) := fun m g m' g' _ heq =>
  ⟨fun c => ffRes (act m c) (wGate m c) (wUp m c), fun c => wdRes (wDown m c), run m g,
    (θ_run Cert.Reference3Ideal.defs _ _).mono (fun _ h c =>
      ⟨(h c).1.trans (by rw [(heq c).1, (heq c).2.1, (heq c).2.2.1]; exact ff_ref _ _ _ _ rfl),
        (h c).2.1.trans (by rw [(heq c).2.2.2]; exact wd_ref _ _ rfl), (h c).2.2⟩) (Cert.Reference3Ideal.Value.run m' g')⟩

end Cert.FfnUp

end
-- ==== Proof.FfnDown.lean ====
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pointwise
public import Idealize.ShloMosaic.Lib.Pipeline.Value
public import Idealize.ShloMosaic.Adequacy

/-! The down projection of the feed-forward, added to the residual stream: four partial sums, each over 2816 hidden units, added one after the other. -/

@[expose] public section

set_option maxRecDepth 16384

noncomputable section

namespace Cert.FfnDown

open Idealize.ShloMosaic Idealize.ShloMosaic.TcCoe Idealize.ShloMosaic.Tactic Idealize.SL.Sem
open Cert.Kernel4Ideal Cert.Kernel4Ideal.Gen

/-- Entry `(r, n)` of the result. -/
def entry (a : Vec Ideal S8192x11264 .bf16) (w : Vec Ideal S11264x4096 .bf16) (h : Vec Ideal S8192x4096 .f32) (r : Fin 8192) (n : Fin 4096) : EReal :=
  h (ix2 r n) + ∑ k : Fin 11264, (a (ix2 r k) : EReal) * w (ix2 k n)

/-- The result, element by element. -/
def res (a : Vec Ideal S8192x11264 .bf16) (w : Vec Ideal S11264x4096 .bf16) (h : Vec Ideal S8192x4096 .f32) : Vec Ideal S8192x4096 .f32 :=
  fun i => entry a w h (i 0) (i 1)

/-- Hidden unit `k` of part `q`. -/
abbrev unitAt (q : Fin 4) (k : Fin 2816) : Fin 11264 := ⟨2816 * q.val + k.val, by omega⟩

/-- A sum over all hidden units, part by part. -/
theorem sum_parts (f : Fin 11264 → EReal) : ∑ k, f k = (∑ k, f (unitAt 0 k)) + (∑ k, f (unitAt 1 k)) + (∑ k, f (unitAt 2 k)) + ∑ k, f (unitAt 3 k) := by
  rw [← Fin.sum_univ_four (fun q : Fin 4 => ∑ k, f (unitAt q k)), ← Fintype.sum_prod_type']
  refine (Equiv.sum_comp (finProdFinEquiv (m := 4) (n := 2816)) f).symm.trans (Finset.sum_congr rfl fun x _ => congrArg f (Fin.ext ?_))
  show x.2.val + 2816 * x.1.val = 2816 * x.1.val + x.2.val
  omega

/-- One entry of a partial product. -/
def share (x0 : Vec Ideal S1024x2816 .bf16) (x1 : Vec Ideal S2816x1024 .bf16) (r l : Fin 1024) : EReal :=
  ∑ k : Fin 2816, (x0 (ix2 r k) : EReal) * x1 (ix2 k l)

/-- One step of a block: a partial product added to what the block held. -/
theorem step_apply (x : Vec Ideal S1024x1024 .f32) (x0 : Vec Ideal S1024x2816 .bf16) (x1 : Vec Ideal S2816x1024 .bf16) (r l : Fin 1024) :
    (k0_pay1 (F := Ideal) x x0 x1 (ix2 r l) : EReal) = x (ix2 r l) + share x0 x1 r l := by
  unfold share
  pointwise [k0_pay1]

/-! ## The index maps -/

theorem idx0 : ∀ t : Fin grid0.N, win0_0.index t 0 = t.val / 16 ∧ win0_0.index t 1 = t.val % 4 := by decide +kernel

theorem idx1 : ∀ t : Fin grid0.N, win0_1.index t 0 = t.val % 4 ∧ win0_1.index t 1 = t.val / 4 % 4 := by decide +kernel

theorem idx2 : ∀ t : Fin grid0.N, win0_2.index t 0 = t.val / 16 ∧ win0_2.index t 1 = t.val / 4 % 4 := by decide +kernel

variable (m : (ℓ : Loc nD τ sig) → Buf (Elt Ideal) ℓ) (ρ : Dev nD → PrngReg) (c : Dev nD)

/-- The arguments on core `c`. -/
abbrev act : Vec Ideal S8192x11264 .bf16 := m ((c : Thread nD τ).loc main_arg0)
abbrev wgt : Vec Ideal S11264x4096 .bf16 := m ((c : Thread nD τ).loc main_arg1)
abbrev stream : Vec Ideal S8192x4096 .f32 := m ((c : Thread nD τ).loc main_arg2)

/-! ## What the windows hold -/

theorem read0 (t : Fin cfg0.N) (a : Fin 1024) (b : Fin 2816) (A : Fin 8192) (B : Fin 11264) (hA : A.val = 1024 * (t.val / 16) + a.val) (hB : B.val = 2816 * (t.val % 4) + b.val) :
    ((iblk m c 0 t : Vec Ideal S1024x2816 .bf16) (ix2 a b) : EReal) = act m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1024 + 1 * a.val = A.val; rw [hi.1]; omega
  | ⟨1, _⟩ => show win0_0.index t 1 * 2816 + 1 * b.val = B.val; rw [hi.2]; omega

theorem read1 (t : Fin cfg0.N) (a : Fin 2816) (b : Fin 1024) (A : Fin 11264) (B : Fin 4096) (hA : A.val = 2816 * (t.val % 4) + a.val) (hB : B.val = 1024 * (t.val / 4 % 4) + b.val) :
    ((iblk m c 1 t : Vec Ideal S2816x1024 .bf16) (ix2 a b) : EReal) = wgt m c (ix2 A B) := by
  refine Eq.trans ?_ (congrFun (V_main_arg1 m c) _)
  unfold iblk
  rw [View.read_apply]
  show V m c main_arg1 _ = V m c main_arg1 _
  congr 1
  funext x
  apply Fin.ext
  have hi := idx1 t
  match x with
  | ⟨0, _⟩ => show win0_1.index t 0 * 2816 + 1 * a.val = A.val; rw [hi.1]; omega
  | ⟨1, _⟩ => show win0_1.index t 1 * 1024 + 1 * b.val = B.val; rw [hi.2]; omega

theorem read2 (t : Fin cfg0.N) (a : Fin 1024) (b : Fin 1024) (A : Fin 8192) (B : Fin 4096) (hA : A.val = 1024 * (t.val / 16) + a.val) (hB : B.val = 1024 * (t.val / 4 % 4) + b.val) :
    ((iblk m c 2 t : Vec Ideal S1024x1024 .f32) (ix2 a b) : EReal) = stream m c (ix2 A B) := by
  refine Eq.trans ?_ (congrFun (V_main_arg2 m c) _)
  unfold iblk
  rw [View.read_apply]
  show V m c main_arg2 _ = V m c main_arg2 _
  congr 1
  funext x
  apply Fin.ext
  have hi := idx2 t
  match x with
  | ⟨0, _⟩ => show win0_2.index t 0 * 1024 + 1 * a.val = A.val; rw [hi.1]; omega
  | ⟨1, _⟩ => show win0_2.index t 1 * 1024 + 1 * b.val = B.val; rw [hi.2]; omega

/-- The partial product that point `n` adds, at one element of its block. -/
theorem part (n : ℕ) (h : n < cfg0.N) (r l : Fin 1024) (R : Fin 8192) (C : Fin 4096) (q : Fin 4) (hq : n % 4 = q.val)
    (hR : R.val = 1024 * (n / 16) + r.val) (hC : C.val = 1024 * (n / 4 % 4) + l.val) :
    share (iblk m c 0 ⟨n, h⟩) (iblk m c 1 ⟨n, h⟩) r l
      = ∑ k : Fin 2816, (act m c (ix2 R (unitAt q k)) : EReal) * wgt m c (ix2 (unitAt q k) C) := by
  unfold share
  refine Finset.sum_congr rfl fun k _ => ?_
  rw [read0 m c ⟨n, h⟩ r k R (unitAt q k) hR (by dsimp only; omega), read1 m c ⟨n, h⟩ k l (unitAt q k) C (by dsimp only; omega) hC]

/-! ## The result array -/

theorem fold_eq (b : ℕ) (h : b + 3 < cfg0.N) (h4 : b % 4 = 0) (r l : Fin 1024) (R : Fin 8192) (C : Fin 4096)
    (hR : R.val = 1024 * (b / 16) + r.val) (hC : C.val = 1024 * (b / 4 % 4) + l.val) :
    (Pipeline.accAt (Cert.Kernel4Ideal.Value.reset3 m c) (Cert.Kernel4Ideal.Value.step3 m c) b 3 h (ix2 r l) : EReal) = entry (act m c) (wgt m c) (stream m c) R C := by
  show (k0_pay1 (F := Ideal) (k0_pay1 (F := Ideal) (k0_pay1 (F := Ideal) (k0_pay1 (F := Ideal) (iblk m c 2 ⟨b, _⟩) (iblk m c 0 ⟨b, _⟩) (iblk m c 1 ⟨b, _⟩))
    (iblk m c 0 ⟨b + 1, _⟩) (iblk m c 1 ⟨b + 1, _⟩)) (iblk m c 0 ⟨b + 2, _⟩) (iblk m c 1 ⟨b + 2, _⟩)) (iblk m c 0 ⟨b + 3, _⟩) (iblk m c 1 ⟨b + 3, _⟩) (ix2 r l) : EReal) = _
  rw [step_apply, step_apply, step_apply, step_apply]
  rw [part m c b _ r l R C 0 (by show b % 4 = 0; omega) hR hC, part m c (b + 1) _ r l R C 1 (by show (b + 1) % 4 = 1; omega) (by omega) (by omega),
    part m c (b + 2) _ r l R C 2 (by show (b + 2) % 4 = 2; omega) (by omega) (by omega), part m c (b + 3) _ r l R C 3 (by show (b + 3) % 4 = 3; omega) (by omega) (by omega),
    read2 m c ⟨b, _⟩ r l R C hR hC]
  unfold entry
  rw [sum_parts]
  simp only [add_assoc]

theorem final (i : S8192x4096.Idx) : (Cert.Kernel4Ideal.Value.G3 m c i : EReal) = res (act m c) (wgt m c) (stream m c) i := by
  have h0 : (i 0 : Nat) < 8192 := (i 0).isLt
  have h1 : (i 1 : Nat) < 4096 := (i 1).isLt
  have hN : cfg0.N = 128 := Gen.N_0
  have hr : Cert.Kernel4Ideal.Value.run3Of i = 4 * ((i 0 : Nat) / 1024 - 0) + 1 * ((i 1 : Nat) / 1024 - 0) := rfl
  unfold Cert.Kernel4Ideal.Value.G3
  rw [dif_pos (by rw [hr]; omega)]
  have hl : Cert.Kernel4Ideal.Value.loc3Of i = ix2 (⟨(i 0 : Nat) % 1024, by omega⟩ : Fin 1024) (⟨(i 1 : Nat) % 1024, by omega⟩ : Fin 1024) := eq_ix2 _
  rw [hl]
  refine fold_eq m c _ _ (by omega) _ _ (i 0) (i 1) ?_ ?_
  · show (i 0 : Nat) = 1024 * (4 * Cert.Kernel4Ideal.Value.run3Of i / 16) + (i 0 : Nat) % 1024
    rw [hr]; omega
  · show (i 1 : Nat) = 1024 * (4 * Cert.Kernel4Ideal.Value.run3Of i / 4 % 4) + (i 1 : Nat) % 1024
    rw [hr]; omega

/-- The run, read. -/
theorem run : θ_run defs (onTc (τ := τ) (main (F := Ideal))) ⟨m, fun _ => 0, ρ⟩ fun r => ∀ c : Dev nD,
      r.2.mem ((c.tc : Thread nD τ).loc main_v0) = res (act m c) (wgt m c) (stream m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext (final m c)), (h c).2⟩) (Cert.Kernel4Ideal.Value.run m ρ)

/-- The reference's array, entry by entry. -/
theorem ref_eq (a : Vec Ideal Cert.Reference4Ideal.S8192x11264 .bf16) (w : Vec Ideal Cert.Reference4Ideal.S11264x4096 .bf16) (h : Vec Ideal Cert.Reference4Ideal.S8192x4096 .f32)
    (y : Vec Ideal Cert.Reference4Ideal.S8192x4096 .f32) (hy : y = addf (F := Ideal) h (Host.dotGeneral Cert.Reference4Ideal.dot_S8192x11264_S11264x4096_S8192x4096_1_0_0_1_n_n none (extf .f32 a Cert.Reference4Ideal.Facts₀.bitsLt_bf16_f32) (extf .f32 w Cert.Reference4Ideal.Facts₀.bitsLt_bf16_f32))) : y = res a w h := by
  rw [hy]
  funext i
  obtain ⟨r, n, hi⟩ : ∃ (r : Fin 8192) (n : Fin 4096), i = ix2 r n := ⟨i 0, i 1, eq_ix2 i⟩
  subst hi
  show _ = entry a w h r n
  unfold entry
  pointwise []

/-- The frame of the machine program, of the idealized program and of the reference. -/
theorem frame_kernel : Cert.quiescent_Kernel4 (hKernel4 := Cert.Kernel4.Gen.facts) := fun m g _ => Cert.Kernel4.Gen.frame m g

theorem frame_ideal : Cert.quiescent_Kernel4Ideal (hKernel4Ideal := Cert.Kernel4Ideal.Gen.facts) := fun m g _ => Cert.Kernel4Ideal.Gen.frame m g

theorem frame_ref : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩) (Cert.Reference4Ideal.Value.run m g)

/-- The kernel's result is the reference's. -/
theorem value : Cert.algebraic_Kernel4Ideal_Reference4Ideal (hKernel4Ideal := Cert.Kernel4Ideal.Gen.facts) (hReference4Ideal := Cert.Reference4Ideal.Gen.facts) := fun m g m' g' _ heq =>
  ⟨fun c => res (act m c) (wgt m c) (stream m c), run m g,
    (θ_run Cert.Reference4Ideal.defs _ _).mono (fun _ h c => ⟨(h c).1.trans (by rw [(heq c).1, (heq c).2.1, (heq c).2.2]; exact ref_eq _ _ _ _ rfl), (h c).2⟩) (Cert.Reference4Ideal.Value.run m' g')⟩

end Cert.FfnDown

end
-- ==== Proof.Merge.lean ====
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Lib.Pipeline.Value
public import Idealize.ShloMosaic.Adequacy

/-! The three branches, each projected and scaled by its gates, and summed. -/

@[expose] public section

set_option maxRecDepth 16384

noncomputable section

namespace Cert.Merge

open Idealize.ShloMosaic Idealize.ShloMosaic.TcCoe Idealize.ShloMosaic.Tactic Idealize.SL.Sem
open Cert.Kernel5Ideal Cert.Kernel5Ideal.Gen

/-- Entry `(r, n)` of the result. -/
def entry (ya yb yc : Vec Ideal S8192x2048 .bf16) (wa wb wc : Vec Ideal S2048x4096 .bf16) (gate : Vec Ideal S8192x12288 .bf16) (r : Fin 8192) (n : Fin 4096) : EReal :=
  ((gate (ix2 r ⟨n.val, by omega⟩) : EReal) * ∑ k : Fin 2048, (ya (ix2 r k) : EReal) * wa (ix2 k n))
    + ((gate (ix2 r ⟨4096 + n.val, by omega⟩) : EReal) * ∑ k : Fin 2048, (yb (ix2 r k) : EReal) * wb (ix2 k n))
    + ((gate (ix2 r ⟨8192 + n.val, by omega⟩) : EReal) * ∑ k : Fin 2048, (yc (ix2 r k) : EReal) * wc (ix2 k n))

/-- The result, element by element. -/
def res (ya yb yc : Vec Ideal S8192x2048 .bf16) (wa wb wc : Vec Ideal S2048x4096 .bf16) (gate : Vec Ideal S8192x12288 .bf16) : Vec Ideal S8192x4096 .bf16 :=
  fun i => entry ya yb yc wa wb wc gate (i 0) (i 1)

theorem origin : (![0, 0] : Fin 2 → Nat) = fun _ => 0 := funext fun a => by fin_cases a <;> rfl

/-- One element of the block that a grid point leaves. -/
theorem block (x0 x1 x2 : Vec Ideal S1024x2048 .bf16) (x3 x4 x5 : Vec Ideal S2048x512 .bf16) (x6 x7 x8 : Vec Ideal S1024x512 .bf16) (r : Fin 1024) (l : Fin 512) :
    (out0_9 (F := Ideal) x0 x1 x2 x3 x4 x5 x6 x7 x8 (ix2 r l) : EReal) =
      ((x6 (ix2 r l) : EReal) * ∑ k : Fin 2048, (x0 (ix2 r k) : EReal) * x3 (ix2 k l))
      + ((x7 (ix2 r l) : EReal) * ∑ k : Fin 2048, (x1 (ix2 r k) : EReal) * x4 (ix2 k l))
      + ((x8 (ix2 r l) : EReal) * ∑ k : Fin 2048, (x2 (ix2 r k) : EReal) * x5 (ix2 k l)) := by
  unfold out0_9
  rw [View.canon_unit_zero origin]
  simp only [View.ld_unit_zero (S := S1024x2048) origin, View.ld_unit_zero (S := S2048x512) origin, View.ld_unit_zero (S := S1024x512) origin]
  pointwise [k0_pay1]

/-! ## The index maps -/

theorem idx0 : ∀ t : Fin grid0.N, win0_0.index t 0 = t.val / 8 ∧ win0_0.index t 1 = 0 := by decide +kernel

theorem idx1 : ∀ t : Fin grid0.N, win0_1.index t 0 = t.val / 8 ∧ win0_1.index t 1 = 0 := by decide +kernel

theorem idx2 : ∀ t : Fin grid0.N, win0_2.index t 0 = t.val / 8 ∧ win0_2.index t 1 = 0 := by decide +kernel

theorem idx3 : ∀ t : Fin grid0.N, win0_3.index t 0 = 0 ∧ win0_3.index t 1 = t.val % 8 := by decide +kernel

theorem idx4 : ∀ t : Fin grid0.N, win0_4.index t 0 = 0 ∧ win0_4.index t 1 = t.val % 8 := by decide +kernel

theorem idx5 : ∀ t : Fin grid0.N, win0_5.index t 0 = 0 ∧ win0_5.index t 1 = t.val % 8 := by decide +kernel

theorem idx6 : ∀ t : Fin grid0.N, win0_6.index t 0 = t.val / 8 ∧ win0_6.index t 1 = t.val % 8 := by decide +kernel

theorem idx7 : ∀ t : Fin grid0.N, win0_7.index t 0 = t.val / 8 ∧ win0_7.index t 1 = 8 + t.val % 8 := by decide +kernel

theorem idx8 : ∀ t : Fin grid0.N, win0_8.index t 0 = t.val / 8 ∧ win0_8.index t 1 = 16 + t.val % 8 := by decide +kernel

theorem idx9 : ∀ t : Fin grid0.N, win0_9.index t 0 = t.val / 8 ∧ win0_9.index t 1 = t.val % 8 := by decide +kernel

variable (m : (ℓ : Loc nD τ sig) → Buf (Elt Ideal) ℓ) (ρ : Dev nD → PrngReg) (c : Dev nD)

/-- The arguments on core `c`. -/
abbrev ya : Vec Ideal S8192x2048 .bf16 := m ((c : Thread nD τ).loc main_arg0)
abbrev yb : Vec Ideal S8192x2048 .bf16 := m ((c : Thread nD τ).loc main_arg1)
abbrev yc : Vec Ideal S8192x2048 .bf16 := m ((c : Thread nD τ).loc main_arg2)
abbrev wa : Vec Ideal S2048x4096 .bf16 := m ((c : Thread nD τ).loc main_arg3)
abbrev wb : Vec Ideal S2048x4096 .bf16 := m ((c : Thread nD τ).loc main_arg4)
abbrev wc : Vec Ideal S2048x4096 .bf16 := m ((c : Thread nD τ).loc main_arg5)
abbrev gates : Vec Ideal S8192x12288 .bf16 := m ((c : Thread nD τ).loc main_arg6)

/-! ## What the windows hold -/

theorem read0 (t : Fin cfg0.N) (a : Fin 1024) (b : Fin 2048) (A : Fin 8192) (B : Fin 2048) (hA : A.val = 1024 * (t.val / 8) + a.val) (hB : B.val = b.val) :
    ((iblk m c 0 t : Vec Ideal S1024x2048 .bf16) (ix2 a b) : EReal) = ya m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1024 + 1 * a.val = A.val; rw [hi.1]; omega
  | ⟨1, _⟩ => show win0_0.index t 1 * 2048 + 1 * b.val = B.val; rw [hi.2]; omega

theorem read1 (t : Fin cfg0.N) (a : Fin 1024) (b : Fin 2048) (A : Fin 8192) (B : Fin 2048) (hA : A.val = 1024 * (t.val / 8) + a.val) (hB : B.val = b.val) :
    ((iblk m c 1 t : Vec Ideal S1024x2048 .bf16) (ix2 a b) : EReal) = yb m c (ix2 A B) := by
  refine Eq.trans ?_ (congrFun (V_main_arg1 m c) _)
  unfold iblk
  rw [View.read_apply]
  show V m c main_arg1 _ = V m c main_arg1 _
  congr 1
  funext x
  apply Fin.ext
  have hi := idx1 t
  match x with
  | ⟨0, _⟩ => show win0_1.index t 0 * 1024 + 1 * a.val = A.val; rw [hi.1]; omega
  | ⟨1, _⟩ => show win0_1.index t 1 * 2048 + 1 * b.val = B.val; rw [hi.2]; omega

theorem read2 (t : Fin cfg0.N) (a : Fin 1024) (b : Fin 2048) (A : Fin 8192) (B : Fin 2048) (hA : A.val = 1024 * (t.val / 8) + a.val) (hB : B.val = b.val) :
    ((iblk m c 2 t : Vec Ideal S1024x2048 .bf16) (ix2 a b) : EReal) = yc m c (ix2 A B) := by
  refine Eq.trans ?_ (congrFun (V_main_arg2 m c) _)
  unfold iblk
  rw [View.read_apply]
  show V m c main_arg2 _ = V m c main_arg2 _
  congr 1
  funext x
  apply Fin.ext
  have hi := idx2 t
  match x with
  | ⟨0, _⟩ => show win0_2.index t 0 * 1024 + 1 * a.val = A.val; rw [hi.1]; omega
  | ⟨1, _⟩ => show win0_2.index t 1 * 2048 + 1 * b.val = B.val; rw [hi.2]; omega

theorem read3 (t : Fin cfg0.N) (a : Fin 2048) (b : Fin 512) (A : Fin 2048) (B : Fin 4096) (hA : A.val = a.val) (hB : B.val = 512 * (t.val % 8) + b.val) :
    ((iblk m c 3 t : Vec Ideal S2048x512 .bf16) (ix2 a b) : EReal) = wa m c (ix2 A B) := by
  refine Eq.trans ?_ (congrFun (V_main_arg3 m c) _)
  unfold iblk
  rw [View.read_apply]
  show V m c main_arg3 _ = V m c main_arg3 _
  congr 1
  funext x
  apply Fin.ext
  have hi := idx3 t
  match x with
  | ⟨0, _⟩ => show win0_3.index t 0 * 2048 + 1 * a.val = A.val; rw [hi.1]; omega
  | ⟨1, _⟩ => show win0_3.index t 1 * 512 + 1 * b.val = B.val; rw [hi.2]; omega

theorem read4 (t : Fin cfg0.N) (a : Fin 2048) (b : Fin 512) (A : Fin 2048) (B : Fin 4096) (hA : A.val = a.val) (hB : B.val = 512 * (t.val % 8) + b.val) :
    ((iblk m c 4 t : Vec Ideal S2048x512 .bf16) (ix2 a b) : EReal) = wb m c (ix2 A B) := by
  refine Eq.trans ?_ (congrFun (V_main_arg4 m c) _)
  unfold iblk
  rw [View.read_apply]
  show V m c main_arg4 _ = V m c main_arg4 _
  congr 1
  funext x
  apply Fin.ext
  have hi := idx4 t
  match x with
  | ⟨0, _⟩ => show win0_4.index t 0 * 2048 + 1 * a.val = A.val; rw [hi.1]; omega
  | ⟨1, _⟩ => show win0_4.index t 1 * 512 + 1 * b.val = B.val; rw [hi.2]; omega

theorem read5 (t : Fin cfg0.N) (a : Fin 2048) (b : Fin 512) (A : Fin 2048) (B : Fin 4096) (hA : A.val = a.val) (hB : B.val = 512 * (t.val % 8) + b.val) :
    ((iblk m c 5 t : Vec Ideal S2048x512 .bf16) (ix2 a b) : EReal) = wc m c (ix2 A B) := by
  refine Eq.trans ?_ (congrFun (V_main_arg5 m c) _)
  unfold iblk
  rw [View.read_apply]
  show V m c main_arg5 _ = V m c main_arg5 _
  congr 1
  funext x
  apply Fin.ext
  have hi := idx5 t
  match x with
  | ⟨0, _⟩ => show win0_5.index t 0 * 2048 + 1 * a.val = A.val; rw [hi.1]; omega
  | ⟨1, _⟩ => show win0_5.index t 1 * 512 + 1 * b.val = B.val; rw [hi.2]; omega

theorem read6 (t : Fin cfg0.N) (a : Fin 1024) (b : Fin 512) (A : Fin 8192) (B : Fin 12288) (hA : A.val = 1024 * (t.val / 8) + a.val) (hB : B.val = 512 * (t.val % 8) + b.val) :
    ((iblk m c 6 t : Vec Ideal S1024x512 .bf16) (ix2 a b) : EReal) = gates m c (ix2 A B) := by
  refine Eq.trans ?_ (congrFun (V_main_arg6 m c) _)
  unfold iblk
  rw [View.read_apply]
  show V m c main_arg6 _ = V m c main_arg6 _
  congr 1
  funext x
  apply Fin.ext
  have hi := idx6 t
  match x with
  | ⟨0, _⟩ => show win0_6.index t 0 * 1024 + 1 * a.val = A.val; rw [hi.1]; omega
  | ⟨1, _⟩ => show win0_6.index t 1 * 512 + 1 * b.val = B.val; rw [hi.2]; omega

theorem read7 (t : Fin cfg0.N) (a : Fin 1024) (b : Fin 512) (A : Fin 8192) (B : Fin 12288) (hA : A.val = 1024 * (t.val / 8) + a.val) (hB : B.val = 4096 + 512 * (t.val % 8) + b.val) :
    ((iblk m c 7 t : Vec Ideal S1024x512 .bf16) (ix2 a b) : EReal) = gates m c (ix2 A B) := by
  refine Eq.trans ?_ (congrFun (V_main_arg6 m c) _)
  unfold iblk
  rw [View.read_apply]
  show V m c main_arg6 _ = V m c main_arg6 _
  congr 1
  funext x
  apply Fin.ext
  have hi := idx7 t
  match x with
  | ⟨0, _⟩ => show win0_7.index t 0 * 1024 + 1 * a.val = A.val; rw [hi.1]; omega
  | ⟨1, _⟩ => show win0_7.index t 1 * 512 + 1 * b.val = B.val; rw [hi.2]; omega

theorem read8 (t : Fin cfg0.N) (a : Fin 1024) (b : Fin 512) (A : Fin 8192) (B : Fin 12288) (hA : A.val = 1024 * (t.val / 8) + a.val) (hB : B.val = 8192 + 512 * (t.val % 8) + b.val) :
    ((iblk m c 8 t : Vec Ideal S1024x512 .bf16) (ix2 a b) : EReal) = gates m c (ix2 A B) := by
  refine Eq.trans ?_ (congrFun (V_main_arg6 m c) _)
  unfold iblk
  rw [View.read_apply]
  show V m c main_arg6 _ = V m c main_arg6 _
  congr 1
  funext x
  apply Fin.ext
  have hi := idx8 t
  match x with
  | ⟨0, _⟩ => show win0_8.index t 0 * 1024 + 1 * a.val = A.val; rw [hi.1]; omega
  | ⟨1, _⟩ => show win0_8.index t 1 * 512 + 1 * b.val = B.val; rw [hi.2]; omega

/-! ## The result array -/

theorem flushed_eq (t : Fin cfg0.N) (hf : (cfg0.win 9).flush t = true) :
    (dats m 0 c).flushed 9 t = ((cfg0.win 9).blk t).view.read (Elt Ideal) (res (ya m c) (yb m c) (yc m c) (wa m c) (wb m c) (wc m c) (gates m c)) := by
  rw [Cert.Kernel5Ideal.Value.flushed9]
  funext j
  rw [View.read_apply]
  obtain ⟨r, l, hj⟩ : ∃ (r : Fin 1024) (l : Fin 512), j = ix2 r l := ⟨j 0, j 1, eq_ix2 j⟩
  subst hj
  refine (block (iblk m c 0 t) (iblk m c 1 t) (iblk m c 2 t) (iblk m c 3 t) (iblk m c 4 t) (iblk m c 5 t) (iblk m c 6 t) (iblk m c 7 t) (iblk m c 8 t) r l).trans ?_
  have hi := idx9 t
  have h0 : ((((cfg0.win 9).blk t).view.emb (ix2 r l)) 0).val = 1024 * (t.val / 8) + r.val := by show win0_9.index t 0 * 1024 + 1 * r.val = _; rw [hi.1]; omega
  have h1 : ((((cfg0.win 9).blk t).view.emb (ix2 r l)) 1).val = 512 * (t.val % 8) + l.val := by show win0_9.index t 1 * 512 + 1 * l.val = _; rw [hi.2]; omega
  show (_ : EReal) = entry (ya m c) (yb m c) (yc m c) (wa m c) (wb m c) (wc m c) (gates m c) ((((cfg0.win 9).blk t).view.emb (ix2 r l)) 0) ((((cfg0.win 9).blk t).view.emb (ix2 r l)) 1)
  generalize (((cfg0.win 9).blk t).view.emb (ix2 r l)) 0 = R at h0 ⊢
  generalize (((cfg0.win 9).blk t).view.emb (ix2 r l)) 1 = C at h1 ⊢
  change Fin 8192 at R
  change Fin 4096 at C
  unfold entry
  rw [read6 m c t r l R ⟨C.val, by omega⟩ h0 h1, read7 m c t r l R ⟨4096 + C.val, by omega⟩ h0 (by dsimp only; omega), read8 m c t r l R ⟨8192 + C.val, by omega⟩ h0 (by dsimp only; omega)]
  refine congrArg₂ (· + ·) (congrArg₂ (· + ·) ?_ ?_) ?_
  · refine congrArg (_ * ·) (Finset.sum_congr rfl fun k _ => ?_)
    rw [read0 m c t r k R k h0 rfl, read3 m c t k l k C rfl h1]
  · refine congrArg (_ * ·) (Finset.sum_congr rfl fun k _ => ?_)
    rw [read1 m c t r k R k h0 rfl, read4 m c t k l k C rfl h1]
  · refine congrArg (_ * ·) (Finset.sum_congr rfl fun k _ => ?_)
    rw [read2 m c t r k R k h0 rfl, read5 m c t k l k C rfl h1]

theorem final : (dats m 0 c).arrAt 9 cfg0.N = res (ya m c) (yb m c) (yc m c) (wa m c) (wb m c) (wc m c) (gates m c) :=
  (dats m 0 c).arrAt_eq_of_cover 9 (res (ya m c) (yb m c) (yc m c) (wa m c) (wb m c) (wc m c) (gates m c)) (flushed_eq m c) fun i => by
    have h0 : (i 0 : Nat) < 8192 := (i 0).isLt
    have h1 : (i 1 : Nat) < 4096 := (i 1).isLt
    have hN : cfg0.N = 64 := Gen.N_0
    refine ⟨⟨8 * ((i 0 : Nat) / 1024) + (i 1 : Nat) / 512, by omega⟩, flush0_9 _, ?_⟩
    generalize ht : (⟨8 * ((i 0 : Nat) / 1024) + (i 1 : Nat) / 512, by omega⟩ : Fin cfg0.N) = t
    have hv : t.val = 8 * ((i 0 : Nat) / 1024) + (i 1 : Nat) / 512 := by rw [← ht]
    have hi := idx9 t
    show i ∈ ((View.whole main_v0).slice (win0_9.rect t)).set
    rw [View.set_slice_whole, Rect.mem_set_unit]
    intro a
    match a with
    | ⟨0, _⟩ => show win0_9.index t 0 * 1024 ≤ (i 0 : Nat) ∧ (i 0 : Nat) < win0_9.index t 0 * 1024 + 1024; rw [hi.1]; omega
    | ⟨1, _⟩ => show win0_9.index t 1 * 512 ≤ (i 1 : Nat) ∧ (i 1 : Nat) < win0_9.index t 1 * 512 + 512; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (ya m c) (yb m c) (yc m c) (wa m c) (wb m c) (wc m c) (gates m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final m c), (h c).2⟩) (Cert.Kernel5Ideal.Value.run_blocks m ρ)

/-- The reference's array, entry by entry. -/
theorem ref_eq (ya yb yc : Vec Ideal Cert.Reference5Ideal.S8192x2048 .bf16) (wa wb wc : Vec Ideal Cert.Reference5Ideal.S2048x4096 .bf16) (gate : Vec Ideal Cert.Reference5Ideal.S8192x12288 .bf16)
    (y : Vec Ideal Cert.Reference5Ideal.S8192x4096 .bf16) (hy : y = truncf (F := Ideal) .bf16 (addf (addf (mulf (shapeCast _ (extractStridedSlice Cert.Reference5Ideal.S8192x1x4096 ![0, 0, 0] (shapeCast _ (extf .f32 gate Cert.Reference5Ideal.Facts₀.bitsLt_bf16_f32) Cert.Reference5Ideal.Facts₀.shapeCasts_S8192x12288_S8192x3x4096) Cert.Reference5Ideal.Facts₀.slices_S8192x3x4096_S8192x1x4096_0_0_0) Cert.Reference5Ideal.Facts₀.shapeCasts_S8192x1x4096_S8192x4096) (Host.dotGeneral Cert.Reference5Ideal.dot_S8192x2048_S2048x4096_S8192x4096_1_0_0_1_n_n none (extf .f32 ya Cert.Reference5Ideal.Facts₀.bitsLt_bf16_f32) (extf .f32 wa Cert.Reference5Ideal.Facts₀.bitsLt_bf16_f32))) (mulf (shapeCast _ (extractStridedSlice Cert.Reference5Ideal.S8192x1x4096 ![0, 1, 0] (shapeCast _ (extf .f32 gate Cert.Reference5Ideal.Facts₀.bitsLt_bf16_f32) Cert.Reference5Ideal.Facts₀.shapeCasts_S8192x12288_S8192x3x4096) Cert.Reference5Ideal.Facts₀.slices_S8192x3x4096_S8192x1x4096_0_1_0) Cert.Reference5Ideal.Facts₀.shapeCasts_S8192x1x4096_S8192x4096) (Host.dotGeneral Cert.Reference5Ideal.dot_S8192x2048_S2048x4096_S8192x4096_1_0_0_1_n_n none (extf .f32 yb Cert.Reference5Ideal.Facts₀.bitsLt_bf16_f32) (extf .f32 wb Cert.Reference5Ideal.Facts₀.bitsLt_bf16_f32)))) (mulf (shapeCast _ (extractStridedSlice Cert.Reference5Ideal.S8192x1x4096 ![0, 2, 0] (shapeCast _ (extf .f32 gate Cert.Reference5Ideal.Facts₀.bitsLt_bf16_f32) Cert.Reference5Ideal.Facts₀.shapeCasts_S8192x12288_S8192x3x4096) Cert.Reference5Ideal.Facts₀.slices_S8192x3x4096_S8192x1x4096_0_2_0) Cert.Reference5Ideal.Facts₀.shapeCasts_S8192x1x4096_S8192x4096) (Host.dotGeneral Cert.Reference5Ideal.dot_S8192x2048_S2048x4096_S8192x4096_1_0_0_1_n_n none (extf .f32 yc Cert.Reference5Ideal.Facts₀.bitsLt_bf16_f32) (extf .f32 wc Cert.Reference5Ideal.Facts₀.bitsLt_bf16_f32)))) Cert.Reference5Ideal.Facts₀.bitsLt_bf16_f32) : y = res ya yb yc wa wb wc gate := by
  rw [hy]
  funext i
  obtain ⟨r, n, hi⟩ : ∃ (r : Fin 8192) (n : Fin 4096), i = ix2 r n := ⟨i 0, i 1, eq_ix2 i⟩
  subst hi
  show _ = entry ya yb yc wa wb wc gate r n
  unfold entry
  pointwise []

/-- The frame of the machine program, of the idealized program and of the reference. -/
theorem frame_kernel : Cert.quiescent_Kernel5 (hKernel5 := Cert.Kernel5.Gen.facts) := fun m g _ => Cert.Kernel5.Gen.frame m g

theorem frame_ideal : Cert.quiescent_Kernel5Ideal (hKernel5Ideal := Cert.Kernel5Ideal.Gen.facts) := fun m g _ => Cert.Kernel5Ideal.Gen.frame m g

theorem frame_ref : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩) (Cert.Reference5Ideal.Value.run m g)

/-- The kernel's result is the reference's. -/
theorem value : Cert.algebraic_Kernel5Ideal_Reference5Ideal (hKernel5Ideal := Cert.Kernel5Ideal.Gen.facts) (hReference5Ideal := Cert.Reference5Ideal.Gen.facts) := fun m g m' g' _ heq =>
  ⟨fun c => res (ya m c) (yb m c) (yc m c) (wa m c) (wb m c) (wc m c) (gates m c), run m g,
    (θ_run Cert.Reference5Ideal.defs _ _).mono (fun _ h c => ⟨(h c).1.trans (by rw [(heq c).1, (heq c).2.1, (heq c).2.2.1, (heq c).2.2.2.1, (heq c).2.2.2.2.1, (heq c).2.2.2.2.2.1, (heq c).2.2.2.2.2.2]; exact ref_eq _ _ _ _ _ _ _ _ rfl), (h c).2⟩) (Cert.Reference5Ideal.Value.run m' g')⟩

end Cert.Merge

end
-- ==== Proof.OutProj.lean ====
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Pointwise
public import Idealize.ShloMosaic.Lib.Pipeline.Value
public import Idealize.ShloMosaic.Adequacy

/-! The output projection, added to the residual stream. -/

@[expose] public section

set_option maxRecDepth 16384

noncomputable section

namespace Cert.OutProj

open Idealize.ShloMosaic Idealize.ShloMosaic.TcCoe Idealize.ShloMosaic.Tactic Idealize.SL.Sem
open Cert.Kernel6Ideal Cert.Kernel6Ideal.Gen

/-- Entry `(r, n)` of the result. -/
def entry (a : Vec Ideal S8192x4096 .bf16) (w : Vec Ideal S4096x4096 .bf16) (h : Vec Ideal S8192x4096 .f32) (r : Fin 8192) (n : Fin 4096) : EReal :=
  h (ix2 r n) + ∑ k : Fin 4096, (a (ix2 r k) : EReal) * w (ix2 k n)

/-- The result, element by element. -/
def res (a : Vec Ideal S8192x4096 .bf16) (w : Vec Ideal S4096x4096 .bf16) (h : Vec Ideal S8192x4096 .f32) : Vec Ideal S8192x4096 .f32 :=
  fun i => entry a w h (i 0) (i 1)

theorem origin : (![0, 0] : Fin 2 → Nat) = fun _ => 0 := funext fun a => by fin_cases a <;> rfl

/-- One element of the block that a grid point leaves. -/
theorem block (x0 : Vec Ideal S1024x4096 .bf16) (x1 : Vec Ideal S4096x512 .bf16) (x2 : Vec Ideal S1024x512 .f32) (r : Fin 1024) (l : Fin 512) :
    (out0_3 (F := Ideal) x0 x1 x2 (ix2 r l) : EReal) = x2 (ix2 r l) + ∑ k : Fin 4096, (x0 (ix2 r k) : EReal) * x1 (ix2 k l) := by
  unfold out0_3
  rw [View.canon_unit_zero origin]
  simp only [View.ld_unit_zero (S := S1024x4096) origin, View.ld_unit_zero (S := S4096x512) origin, View.ld_unit_zero (S := S1024x512) origin]
  pointwise [k0_pay1]

/-! ## The index maps -/

theorem idx0 : ∀ t : Fin grid0.N, win0_0.index t 0 = t.val / 8 ∧ win0_0.index t 1 = 0 := by decide +kernel

theorem idx1 : ∀ t : Fin grid0.N, win0_1.index t 0 = 0 ∧ win0_1.index t 1 = t.val % 8 := by decide +kernel

theorem idx2 : ∀ t : Fin grid0.N, win0_2.index t 0 = t.val / 8 ∧ win0_2.index t 1 = t.val % 8 := by decide +kernel

theorem idx3 : ∀ t : Fin grid0.N, win0_3.index t 0 = t.val / 8 ∧ win0_3.index t 1 = t.val % 8 := by decide +kernel

variable (m : (ℓ : Loc nD τ sig) → Buf (Elt Ideal) ℓ) (ρ : Dev nD → PrngReg) (c : Dev nD)

/-- The arguments on core `c`. -/
abbrev act : Vec Ideal S8192x4096 .bf16 := m ((c : Thread nD τ).loc main_arg0)
abbrev wgt : Vec Ideal S4096x4096 .bf16 := m ((c : Thread nD τ).loc main_arg1)
abbrev stream : Vec Ideal S8192x4096 .f32 := m ((c : Thread nD τ).loc main_arg2)

/-! ## What the windows hold -/

theorem read0 (t : Fin cfg0.N) (a : Fin 1024) (b : Fin 4096) (A : Fin 8192) (B : Fin 4096) (hA : A.val = 1024 * (t.val / 8) + a.val) (hB : B.val = b.val) :
    ((iblk m c 0 t : Vec Ideal S1024x4096 .bf16) (ix2 a b) : EReal) = act m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1024 + 1 * a.val = A.val; rw [hi.1]; omega
  | ⟨1, _⟩ => show win0_0.index t 1 * 4096 + 1 * b.val = B.val; rw [hi.2]; omega

theorem read1 (t : Fin cfg0.N) (a : Fin 4096) (b : Fin 512) (A : Fin 4096) (B : Fin 4096) (hA : A.val = a.val) (hB : B.val = 512 * (t.val % 8) + b.val) :
    ((iblk m c 1 t : Vec Ideal S4096x512 .bf16) (ix2 a b) : EReal) = wgt m c (ix2 A B) := by
  refine Eq.trans ?_ (congrFun (V_main_arg1 m c) _)
  unfold iblk
  rw [View.read_apply]
  show V m c main_arg1 _ = V m c main_arg1 _
  congr 1
  funext x
  apply Fin.ext
  have hi := idx1 t
  match x with
  | ⟨0, _⟩ => show win0_1.index t 0 * 4096 + 1 * a.val = A.val; rw [hi.1]; omega
  | ⟨1, _⟩ => show win0_1.index t 1 * 512 + 1 * b.val = B.val; rw [hi.2]; omega

theorem read2 (t : Fin cfg0.N) (a : Fin 1024) (b : Fin 512) (A : Fin 8192) (B : Fin 4096) (hA : A.val = 1024 * (t.val / 8) + a.val) (hB : B.val = 512 * (t.val % 8) + b.val) :
    ((iblk m c 2 t : Vec Ideal S1024x512 .f32) (ix2 a b) : EReal) = stream m c (ix2 A B) := by
  refine Eq.trans ?_ (congrFun (V_main_arg2 m c) _)
  unfold iblk
  rw [View.read_apply]
  show V m c main_arg2 _ = V m c main_arg2 _
  congr 1
  funext x
  apply Fin.ext
  have hi := idx2 t
  match x with
  | ⟨0, _⟩ => show win0_2.index t 0 * 1024 + 1 * a.val = A.val; rw [hi.1]; omega
  | ⟨1, _⟩ => show win0_2.index t 1 * 512 + 1 * b.val = B.val; rw [hi.2]; omega

/-! ## The result array -/

theorem flushed_eq (t : Fin cfg0.N) (hf : (cfg0.win 3).flush t = true) :
    (dats m 0 c).flushed 3 t = ((cfg0.win 3).blk t).view.read (Elt Ideal) (res (act m c) (wgt m c) (stream m c)) := by
  rw [Cert.Kernel6Ideal.Value.flushed3]
  funext j
  rw [View.read_apply]
  obtain ⟨r, l, hj⟩ : ∃ (r : Fin 1024) (l : Fin 512), j = ix2 r l := ⟨j 0, j 1, eq_ix2 j⟩
  subst hj
  refine (block (iblk m c 0 t) (iblk m c 1 t) (iblk m c 2 t) r l).trans ?_
  have hi := idx3 t
  have h0 : ((((cfg0.win 3).blk t).view.emb (ix2 r l)) 0).val = 1024 * (t.val / 8) + r.val := by show win0_3.index t 0 * 1024 + 1 * r.val = _; rw [hi.1]; omega
  have h1 : ((((cfg0.win 3).blk t).view.emb (ix2 r l)) 1).val = 512 * (t.val % 8) + l.val := by show win0_3.index t 1 * 512 + 1 * l.val = _; rw [hi.2]; omega
  show (_ : EReal) = entry (act m c) (wgt m c) (stream m c) ((((cfg0.win 3).blk t).view.emb (ix2 r l)) 0) ((((cfg0.win 3).blk t).view.emb (ix2 r l)) 1)
  generalize (((cfg0.win 3).blk t).view.emb (ix2 r l)) 0 = R at h0 ⊢
  generalize (((cfg0.win 3).blk t).view.emb (ix2 r l)) 1 = C at h1 ⊢
  change Fin 8192 at R
  change Fin 4096 at C
  unfold entry
  rw [read2 m c t r l R C h0 h1]
  refine congrArg (_ + ·) (Finset.sum_congr rfl fun k _ => ?_)
  rw [read0 m c t r k R k h0 rfl, read1 m c t k l k C rfl h1]

theorem final : (dats m 0 c).arrAt 3 cfg0.N = res (act m c) (wgt m c) (stream m c) :=
  (dats m 0 c).arrAt_eq_of_cover 3 (res (act m c) (wgt m c) (stream m c)) (flushed_eq m c) fun i => by
    have h0 : (i 0 : Nat) < 8192 := (i 0).isLt
    have h1 : (i 1 : Nat) < 4096 := (i 1).isLt
    have hN : cfg0.N = 64 := Gen.N_0
    refine ⟨⟨8 * ((i 0 : Nat) / 1024) + (i 1 : Nat) / 512, by omega⟩, flush0_3 _, ?_⟩
    generalize ht : (⟨8 * ((i 0 : Nat) / 1024) + (i 1 : Nat) / 512, by omega⟩ : Fin cfg0.N) = t
    have hv : t.val = 8 * ((i 0 : Nat) / 1024) + (i 1 : Nat) / 512 := by rw [← ht]
    have hi := idx3 t
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [hi.1]; omega
    | ⟨1, _⟩ => show win0_3.index t 1 * 512 ≤ (i 1 : Nat) ∧ (i 1 : Nat) < win0_3.index t 1 * 512 + 512; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (act m c) (wgt m c) (stream m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Cert.Kernel6Ideal.Value.run_blocks m ρ)

/-- The reference's array, entry by entry. -/
theorem ref_eq (a : Vec Ideal Cert.Reference6Ideal.S8192x4096 .bf16) (w : Vec Ideal Cert.Reference6Ideal.S4096x4096 .bf16) (h : Vec Ideal Cert.Reference6Ideal.S8192x4096 .f32)
    (y : Vec Ideal Cert.Reference6Ideal.S8192x4096 .f32) (hy : y = addf (F := Ideal) h (Host.dotGeneral Cert.Reference6Ideal.dot_S8192x4096_S4096x4096_S8192x4096_1_0_0_1_n_n none (extf .f32 a Cert.Reference6Ideal.Facts₀.bitsLt_bf16_f32) (extf .f32 w Cert.Reference6Ideal.Facts₀.bitsLt_bf16_f32))) : y = res a w h := by
  rw [hy]
  funext i
  obtain ⟨r, n, hi⟩ : ∃ (r : Fin 8192) (n : Fin 4096), i = ix2 r n := ⟨i 0, i 1, eq_ix2 i⟩
  subst hi
  show _ = entry a w h r n
  unfold entry
  pointwise []

/-- The frame of the machine program, of the idealized program and of the reference. -/
theorem frame_kernel : Cert.quiescent_Kernel6 (hKernel6 := Cert.Kernel6.Gen.facts) := fun m g _ => Cert.Kernel6.Gen.frame m g

theorem frame_ideal : Cert.quiescent_Kernel6Ideal (hKernel6Ideal := Cert.Kernel6Ideal.Gen.facts) := fun m g _ => Cert.Kernel6Ideal.Gen.frame m g

theorem frame_ref : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩) (Cert.Reference6Ideal.Value.run m g)

/-- The kernel's result is the reference's. -/
theorem value : Cert.algebraic_Kernel6Ideal_Reference6Ideal (hKernel6Ideal := Cert.Kernel6Ideal.Gen.facts) (hReference6Ideal := Cert.Reference6Ideal.Gen.facts) := fun m g m' g' _ heq =>
  ⟨fun c => res (act m c) (wgt m c) (stream m c), run m g,
    (θ_run Cert.Reference6Ideal.defs _ _).mono (fun _ h c => ⟨(h c).1.trans (by rw [(heq c).1, (heq c).2.1, (heq c).2.2]; exact ref_eq _ _ _ _ rfl), (h c).2⟩) (Cert.Reference6Ideal.Value.run m' g')⟩

end Cert.OutProj

end
-- ==== Proof.FinalNorm.lean ====
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Pointwise
public import Idealize.ShloMosaic.Lib.Pipeline.Value
public import Idealize.ShloMosaic.Adequacy

/-! The norm that ends the encoder: each row divided by the root of its mean square, then scaled. -/

@[expose] public section

set_option maxRecDepth 16384

noncomputable section

namespace Cert.FinalNorm

open Idealize.ShloMosaic Idealize.ShloMosaic.TcCoe Idealize.ShloMosaic.Tactic Idealize.SL.Sem
open Cert.Kernel7Ideal Cert.Kernel7Ideal.Gen

/-- Entry `(r, n)` of the result. -/
def entry (h : Vec Ideal S8192x4096 .f32) (s : Vec Ideal S4096 .f32) (r : Fin 8192) (n : Fin 4096) : EReal :=
  (h (ix2 r n) : EReal) * Ideal.rsqrt (Ideal.div (∑ k : Fin 4096, (h (ix2 r k) : EReal) * h (ix2 r k)) (FloatOps.ofBits (F := Ideal) .f32 0x45800000#32) + FloatOps.ofBits (F := Ideal) .f32 0x358637BD#32) * s (ix1 n)

/-- The result, element by element. -/
def res (h : Vec Ideal S8192x4096 .f32) (s : Vec Ideal S4096 .f32) : Vec Ideal S8192x4096 .f32 :=
  fun i => entry h s (i 0) (i 1)

theorem origin : (![0, 0] : Fin 2 → Nat) = fun _ => 0 := funext fun a => by fin_cases a <;> rfl

/-- One element of the block that a grid point leaves. -/
theorem block (x0 : Vec Ideal S256x4096 .f32) (x1 : Vec Ideal S1x4096 .f32) (r : Fin 256) (l : Fin 4096) :
    (out0_2 (F := Ideal) x0 x1 (ix2 r l) : EReal) = (x0 (ix2 r l) : EReal) * Ideal.rsqrt (Ideal.div (∑ k : Fin 4096, (x0 (ix2 r k) : EReal) * x0 (ix2 r k)) (FloatOps.ofBits (F := Ideal) .f32 0x45800000#32) + FloatOps.ofBits (F := Ideal) .f32 0x358637BD#32) * x1 (ix2 0 l) := by
  unfold out0_2
  rw [View.canon_unit_zero origin]
  simp only [View.ld_unit_zero (S := S256x4096) origin, View.ld_unit_zero (S := S1x4096) origin]
  pointwise [k0_pay1]

/-! ## The index maps -/

theorem idx0 : ∀ t : Fin grid0.N, win0_0.index t 0 = t.val ∧ win0_0.index t 1 = 0 := by decide +kernel

theorem idx1 : ∀ t : Fin grid0.N, win0_1.index t 0 = 0 ∧ win0_1.index t 1 = 0 := by decide +kernel

theorem idx2 : ∀ t : Fin grid0.N, win0_2.index t 0 = t.val ∧ win0_2.index t 1 = 0 := by decide +kernel

variable (m : (ℓ : Loc nD τ sig) → Buf (Elt Ideal) ℓ) (ρ : Dev nD → PrngReg) (c : Dev nD)

/-- The arguments on core `c`. -/
abbrev stream : Vec Ideal S8192x4096 .f32 := m ((c : Thread nD τ).loc main_arg0)
abbrev scale : Vec Ideal S4096 .f32 := m ((c : Thread nD τ).loc main_arg1)

/-- The scale as the call takes it. -/
theorem V0_read (n : Fin 4096) : ((V m c main_v0 : Vec Ideal S1x4096 .f32) (ix2 0 n) : EReal) = scale m c (ix1 n) := by
  show StableHlo.after hostOps0 _ (Proc.devRef .tc main_v0) (ix2 0 n) = _
  after_results
  pointwise []

/-! ## What the windows hold -/

theorem read0 (t : Fin cfg0.N) (a : Fin 256) (b : Fin 4096) (A : Fin 8192) (B : Fin 4096) (hA : A.val = 256 * t.val + a.val) (hB : B.val = b.val) :
    ((iblk m c 0 t : Vec Ideal S256x4096 .f32) (ix2 a b) : EReal) = stream m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 256 + 1 * a.val = A.val; rw [hi.1]; omega
  | ⟨1, _⟩ => show win0_0.index t 1 * 4096 + 1 * b.val = B.val; rw [hi.2]; omega

theorem read1 (t : Fin cfg0.N) (b : Fin 4096) :
    ((iblk m c 1 t : Vec Ideal S1x4096 .f32) (ix2 0 b) : EReal) = scale m c (ix1 b) := by
  refine Eq.trans ?_ (V0_read m c b)
  unfold iblk
  rw [View.read_apply]
  show V m c main_v0 _ = V m c main_v0 _
  congr 1
  funext x
  apply Fin.ext
  have hi := idx1 t
  match x with
  | ⟨0, _⟩ => show win0_1.index t 0 * 1 + 1 * 0 = 0; rw [hi.1]
  | ⟨1, _⟩ => show win0_1.index t 1 * 4096 + 1 * b.val = b.val; rw [hi.2]; omega

/-! ## The result array -/

theorem flushed_eq (t : Fin cfg0.N) (hf : (cfg0.win 2).flush t = true) :
    (dats m 0 c).flushed 2 t = ((cfg0.win 2).blk t).view.read (Elt Ideal) (res (stream m c) (scale m c)) := by
  rw [Cert.Kernel7Ideal.Value.flushed2]
  funext j
  rw [View.read_apply]
  obtain ⟨r, l, hj⟩ : ∃ (r : Fin 256) (l : Fin 4096), j = ix2 r l := ⟨j 0, j 1, eq_ix2 j⟩
  subst hj
  refine (block (iblk m c 0 t) (iblk m c 1 t) r l).trans ?_
  have hi := idx2 t
  have h0 : ((((cfg0.win 2).blk t).view.emb (ix2 r l)) 0).val = 256 * t.val + r.val := by show win0_2.index t 0 * 256 + 1 * r.val = _; rw [hi.1]; omega
  have h1 : ((((cfg0.win 2).blk t).view.emb (ix2 r l)) 1).val = l.val := by show win0_2.index t 1 * 4096 + 1 * l.val = _; rw [hi.2]; omega
  show (_ : EReal) = entry (stream m c) (scale m c) ((((cfg0.win 2).blk t).view.emb (ix2 r l)) 0) ((((cfg0.win 2).blk t).view.emb (ix2 r l)) 1)
  generalize (((cfg0.win 2).blk t).view.emb (ix2 r l)) 0 = R at h0 ⊢
  generalize (((cfg0.win 2).blk t).view.emb (ix2 r l)) 1 = C at h1 ⊢
  change Fin 8192 at R
  change Fin 4096 at C
  obtain rfl : C = l := Fin.ext h1
  have hk : ∀ k : Fin 4096, ((iblk m c 0 t : Vec Ideal S256x4096 .f32) (ix2 r k) : EReal) = stream m c (ix2 R k) := fun k => read0 m c t r k R k h0 rfl
  unfold entry
  rw [read1 m c t C, hk C]
  simp only [hk]

theorem final : (dats m 0 c).arrAt 2 cfg0.N = res (stream m c) (scale m c) :=
  (dats m 0 c).arrAt_eq_of_cover 2 (res (stream m c) (scale m c)) (flushed_eq m c) fun i => by
    have h0 : (i 0 : Nat) < 8192 := (i 0).isLt
    have h1 : (i 1 : Nat) < 4096 := (i 1).isLt
    have hN : cfg0.N = 32 := Gen.N_0
    refine ⟨⟨(i 0 : Nat) / 256, by omega⟩, flush0_2 _, ?_⟩
    generalize ht : (⟨(i 0 : Nat) / 256, by omega⟩ : Fin cfg0.N) = t
    have hv : t.val = (i 0 : Nat) / 256 := by rw [← ht]
    have hi := idx2 t
    show i ∈ ((View.whole main_v1).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [hi.1]; omega
    | ⟨1, _⟩ => show win0_2.index t 1 * 4096 ≤ (i 1 : Nat) ∧ (i 1 : Nat) < win0_2.index t 1 * 4096 + 4096; rw [hi.2]; omega

/-- The run, read. -/
theorem run : θ_run defs (onTc (τ := τ) (main (F := Ideal))) ⟨m, fun _ => 0, ρ⟩ fun r => ∀ c : Dev nD,
      r.2.mem ((c.tc : Thread nD τ).loc main_v1) = res (stream m c) (scale m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel7Ideal.Value.run_blocks m ρ)

/-- The reference's array, entry by entry. -/
theorem ref_eq (h : Vec Ideal Cert.Reference7Ideal.S8192x4096 .f32) (s : Vec Ideal Cert.Reference7Ideal.S4096 .f32)
    (y : Vec Ideal Cert.Reference7Ideal.S8192x4096 .f32) (hy : y = mulf (F := Ideal) (mulf h (broadcastInDim Cert.Reference7Ideal.S8192x4096 ![0, 1] Cert.Reference7Ideal.Facts₀.bcast_S8192x1_S8192x4096_0_1 (Host.rsqrt (addf (Host.divf (broadcastInDim Cert.Reference7Ideal.S8192x1 ![0] Cert.Reference7Ideal.Facts₀.bcast_S8192_S8192x1_0 (Host.reduceAdd (mulf h h) (constant (F := Ideal) Cert.Reference7Ideal.S_ .f32 0x00000000#32) Cert.Reference7Ideal.Facts₀.reducesTo_S8192x4096_S8192_d1 Cert.Reference7Ideal.Facts₀.h_S_)) (broadcastInDim Cert.Reference7Ideal.S8192x1 ![] Cert.Reference7Ideal.Facts₀.bcast_S_S8192x1 (constant (F := Ideal) Cert.Reference7Ideal.S_ .f32 0x45800000#32))) (broadcastInDim Cert.Reference7Ideal.S8192x1 ![] Cert.Reference7Ideal.Facts₀.bcast_S_S8192x1 (constant (F := Ideal) Cert.Reference7Ideal.S_ .f32 0x358637BD#32)))))) (broadcastInDim Cert.Reference7Ideal.S8192x4096 ![0, 1] Cert.Reference7Ideal.Facts₀.bcast_S1x4096_S8192x4096_0_1 (broadcastInDim Cert.Reference7Ideal.S1x4096 ![1] Cert.Reference7Ideal.Facts₀.bcast_S4096_S1x4096_1 s))) : y = res h s := by
  rw [hy]
  funext i
  obtain ⟨r, n, hi⟩ : ∃ (r : Fin 8192) (n : Fin 4096), i = ix2 r n := ⟨i 0, i 1, eq_ix2 i⟩
  subst hi
  show _ = entry h s r n
  unfold entry
  pointwise []

/-- The frame of the machine program, of the idealized program and of the reference. -/
theorem frame_kernel : Cert.quiescent_Kernel7 (hKernel7 := Cert.Kernel7.Gen.facts) := fun m g _ => Cert.Kernel7.Gen.frame m g

theorem frame_ideal : Cert.quiescent_Kernel7Ideal (hKernel7Ideal := Cert.Kernel7Ideal.Gen.facts) := fun m g _ => Cert.Kernel7Ideal.Gen.frame m g

theorem frame_ref : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩) (Cert.Reference7Ideal.Value.run m g)

/-- The kernel's result is the reference's. -/
theorem value : Cert.algebraic_Kernel7Ideal_Reference7Ideal (hKernel7Ideal := Cert.Kernel7Ideal.Gen.facts) (hReference7Ideal := Cert.Reference7Ideal.Gen.facts) := fun m g m' g' _ heq =>
  ⟨fun c => res (stream m c) (scale m c), run m g,
    (θ_run Cert.Reference7Ideal.defs _ _).mono (fun _ h c => ⟨(h c).1.trans (by rw [(heq c).1, (heq c).2]; exact ref_eq _ _ _ rfl), (h c).2⟩) (Cert.Reference7Ideal.Value.run m' g')⟩

end Cert.FinalNorm

end
-- ==== Proof.ProjHyena.lean ====
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Pointwise
public import Idealize.ShloMosaic.Lib.Pipeline.Value
public import Idealize.ShloMosaic.Adequacy

/-! The columns of the input projection that Hyena reads: one product of the activations with the weight, by tiles of 1024 rows and 1024 columns. -/

@[expose] public section

set_option maxRecDepth 16384

noncomputable section

namespace Cert.ProjHyena

open Idealize.ShloMosaic Idealize.ShloMosaic.TcCoe Idealize.ShloMosaic.Tactic Idealize.SL.Sem
open Cert.Kernel8Ideal Cert.Kernel8Ideal.Gen

/-- Row `r` of the activations times column `n` of the part of the weight that the call reads. -/
def product (a : Vec Ideal S8192x4096 .bf16) (w : Vec Ideal S4096x12288 .bf16) (r : Fin 8192) (n : Fin 6144) : EReal :=
  ∑ k : Fin 4096, (a (ix2 r k) : EReal) * w (ix2 k ⟨n.val, by omega⟩)

/-- The result, element by element. -/
def res (a : Vec Ideal S8192x4096 .bf16) (w : Vec Ideal S4096x12288 .bf16) : Vec Ideal S8192x6144 .f32 := fun i => product a w (i 0) (i 1)

theorem origin : (![0, 0] : Fin 2 → Nat) = fun _ => 0 := funext fun a => by fin_cases a <;> rfl

/-- One element of the block that a grid point leaves. -/
theorem block (x0 : Vec Ideal S1024x4096 .bf16) (x1 : Vec Ideal S4096x1024 .bf16) (r l : Fin 1024) :
    (out0_2 (F := Ideal) x0 x1 (ix2 r l) : EReal) = ∑ k : Fin 4096, (x0 (ix2 r k) : EReal) * x1 (ix2 k l) := by
  unfold out0_2
  rw [View.canon_unit_zero origin]
  simp only [View.ld_unit_zero (S := S1024x4096) origin, View.ld_unit_zero (S := S4096x1024) origin]
  pointwise [k0_pay1]

/-! ## The index maps -/

theorem idx0 : ∀ t : Fin grid0.N, win0_0.index t 0 = t.val / 6 ∧ win0_0.index t 1 = 0 := by decide +kernel

theorem idx1 : ∀ t : Fin grid0.N, win0_1.index t 0 = 0 ∧ win0_1.index t 1 = t.val % 6 + 0 := by decide +kernel

theorem idx2 : ∀ t : Fin grid0.N, win0_2.index t 0 = t.val / 6 ∧ win0_2.index t 1 = t.val % 6 := by decide +kernel

variable (m : (ℓ : Loc nD τ sig) → Buf (Elt Ideal) ℓ) (ρ : Dev nD → PrngReg) (c : Dev nD)

/-- The activations and the weight as launched. -/
abbrev act : Vec Ideal S8192x4096 .bf16 := m ((c : Thread nD τ).loc main_arg0)
abbrev wgt : Vec Ideal S4096x12288 .bf16 := m ((c : Thread nD τ).loc main_arg1)

/-! ## What the windows hold -/

theorem read0 (t : Fin cfg0.N) (r : Fin 1024) (k : Fin 4096) (R : Fin 8192) (hR : R.val = 1024 * (t.val / 6) + r.val) :
    ((iblk m c 0 t : Vec Ideal S1024x4096 .bf16) (ix2 r k) : EReal) = act m c (ix2 R k) := by
  refine Eq.trans ?_ (congrFun (V_main_arg0 m c) _)
  unfold iblk
  rw [View.read_apply]
  show V m c main_arg0 _ = V m c main_arg0 _
  congr 1
  funext a
  apply Fin.ext
  have hi := idx0 t
  match a with
  | ⟨0, _⟩ => show win0_0.index t 0 * 1024 + 1 * r.val = R.val; rw [hi.1]; omega
  | ⟨1, _⟩ => show win0_0.index t 1 * 4096 + 1 * k.val = k.val; rw [hi.2]; omega

theorem read1 (t : Fin cfg0.N) (k : Fin 4096) (l : Fin 1024) (n : Fin 12288) (hn : n.val = 1024 * (t.val % 6) + l.val + 0) :
    ((iblk m c 1 t : Vec Ideal S4096x1024 .bf16) (ix2 k l) : EReal) = wgt m c (ix2 k n) := by
  refine Eq.trans ?_ (congrFun (V_main_arg1 m c) _)
  unfold iblk
  rw [View.read_apply]
  show V m c main_arg1 _ = V m c main_arg1 _
  congr 1
  funext a
  apply Fin.ext
  have hi := idx1 t
  match a with
  | ⟨0, _⟩ => show win0_1.index t 0 * 4096 + 1 * k.val = k.val; rw [hi.1]; omega
  | ⟨1, _⟩ => show win0_1.index t 1 * 1024 + 1 * l.val = n.val; rw [hi.2]; omega

/-! ## The result array -/

theorem flushed_eq (t : Fin cfg0.N) (hf : (cfg0.win 2).flush t = true) :
    (dats m 0 c).flushed 2 t = ((cfg0.win 2).blk t).view.read (Elt Ideal) (res (act m c) (wgt m c)) := by
  rw [Cert.Kernel8Ideal.Value.flushed2]
  funext j
  rw [View.read_apply]
  obtain ⟨r, l, hj⟩ : ∃ (r l : Fin 1024), j = ix2 r l := ⟨j 0, j 1, eq_ix2 j⟩
  subst hj
  refine (block (iblk m c 0 t) (iblk m c 1 t) r l).trans ?_
  have hi := idx2 t
  show (_ : EReal) = product (act m c) (wgt m c) ((((cfg0.win 2).blk t).view.emb (ix2 r l)) 0) ((((cfg0.win 2).blk t).view.emb (ix2 r l)) 1)
  unfold product
  refine Finset.sum_congr rfl fun k _ => ?_
  rw [read0 m c t r k ((((cfg0.win 2).blk t).view.emb (ix2 r l)) 0) (by show win0_2.index t 0 * 1024 + 1 * r.val = _; rw [hi.1]; omega),
    read1 m c t k l ⟨((((cfg0.win 2).blk t).view.emb (ix2 r l)) 1).val, by have := ((((cfg0.win 2).blk t).view.emb (ix2 r l)) 1).isLt; change _ < 6144 at this; omega⟩
      (by show (win0_2.index t 1 * 1024 + 1 * l.val) = _; rw [hi.2]; omega)]

theorem final : (dats m 0 c).arrAt 2 cfg0.N = res (act m c) (wgt m c) :=
  (dats m 0 c).arrAt_eq_of_cover 2 (res (act m c) (wgt m c)) (flushed_eq m c) fun i => by
    have h0 : (i 0 : Nat) < 8192 := (i 0).isLt
    have h1 : (i 1 : Nat) < 6144 := (i 1).isLt
    have hN : cfg0.N = 48 := Gen.N_0
    refine ⟨⟨6 * ((i 0 : Nat) / 1024) + (i 1 : Nat) / 1024, by omega⟩, flush0_2 _, ?_⟩
    generalize ht : (⟨6 * ((i 0 : Nat) / 1024) + (i 1 : Nat) / 1024, by omega⟩ : Fin cfg0.N) = t
    have hv : t.val = 6 * ((i 0 : Nat) / 1024) + (i 1 : Nat) / 1024 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [hi.1]; omega
    | ⟨1, _⟩ => show win0_2.index t 1 * 1024 ≤ (i 1 : Nat) ∧ (i 1 : Nat) < win0_2.index t 1 * 1024 + 1024; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (act m c) (wgt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel8Ideal.Value.run_blocks m ρ)

/-- The reference's product is the same array. -/
theorem ref_eq (a : Vec Ideal Cert.Reference8Ideal.S8192x4096 .bf16) (w : Vec Ideal Cert.Reference8Ideal.S4096x12288 .bf16) :
    Host.dotGeneral (F := Ideal) Cert.Reference8Ideal.dot_S8192x4096_S4096x6144_S8192x6144_1_0_0_1_n_n none
      (extf .f32 a Cert.Reference8Ideal.Facts₀.bitsLt_bf16_f32)
      (extf .f32 (extractStridedSlice Cert.Reference8Ideal.S4096x6144 ![0, 0] w Cert.Reference8Ideal.Facts₀.slices_S4096x12288_S4096x6144_0_0) Cert.Reference8Ideal.Facts₀.bitsLt_bf16_f32)
    = res a w := by
  funext i
  obtain ⟨r, n, hi⟩ : ∃ (r : Fin 8192) (n : Fin 6144), i = ix2 r n := ⟨i 0, i 1, eq_ix2 i⟩
  subst hi
  show _ = product a w r n
  unfold product
  pointwise []

/-- The frame of the machine program, of the idealized program and of the reference. -/
theorem frame_kernel : Cert.quiescent_Kernel8 (hKernel8 := Cert.Kernel8.Gen.facts) := fun m g _ => Cert.Kernel8.Gen.frame m g

theorem frame_ideal : Cert.quiescent_Kernel8Ideal (hKernel8Ideal := Cert.Kernel8Ideal.Gen.facts) := fun m g _ => Cert.Kernel8Ideal.Gen.frame m g

theorem frame_ref : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩) (Cert.Reference8Ideal.Value.run m g)

/-- The kernel's result is the reference's. -/
theorem value : Cert.algebraic_Kernel8Ideal_Reference8Ideal (hKernel8Ideal := Cert.Kernel8Ideal.Gen.facts) (hReference8Ideal := Cert.Reference8Ideal.Gen.facts) := fun m g m' g' _ heq =>
  ⟨fun c => res (act m c) (wgt m c), run m g,
    (θ_run Cert.Reference8Ideal.defs _ _).mono (fun _ h c => ⟨(h c).1.trans ((ref_eq _ _).trans (congrArg₂ res (heq c).1 (heq c).2)), (h c).2⟩) (Cert.Reference8Ideal.Value.run m' g')⟩

end Cert.ProjHyena

end
-- ==== Proof.ProjMlstm.lean ====
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Pointwise
public import Idealize.ShloMosaic.Lib.Pipeline.Value
public import Idealize.ShloMosaic.Adequacy

/-! The columns of the input projection that the mLSTM reads: the same product over the later columns of the weight. -/

@[expose] public section

set_option maxRecDepth 16384

noncomputable section

namespace Cert.ProjMlstm

open Idealize.ShloMosaic Idealize.ShloMosaic.TcCoe Idealize.ShloMosaic.Tactic Idealize.SL.Sem
open Cert.Kernel9Ideal Cert.Kernel9Ideal.Gen

/-- Row `r` of the activations times column `n` of the part of the weight that the call reads. -/
def product (a : Vec Ideal S8192x4096 .bf16) (w : Vec Ideal S4096x12288 .bf16) (r : Fin 8192) (n : Fin 6144) : EReal :=
  ∑ k : Fin 4096, (a (ix2 r k) : EReal) * w (ix2 k ⟨6144 + n.val, by omega⟩)

/-- The result, element by element. -/
def res (a : Vec Ideal S8192x4096 .bf16) (w : Vec Ideal S4096x12288 .bf16) : Vec Ideal S8192x6144 .f32 := fun i => product a w (i 0) (i 1)

theorem origin : (![0, 0] : Fin 2 → Nat) = fun _ => 0 := funext fun a => by fin_cases a <;> rfl

/-- One element of the block that a grid point leaves. -/
theorem block (x0 : Vec Ideal S1024x4096 .bf16) (x1 : Vec Ideal S4096x1024 .bf16) (r l : Fin 1024) :
    (out0_2 (F := Ideal) x0 x1 (ix2 r l) : EReal) = ∑ k : Fin 4096, (x0 (ix2 r k) : EReal) * x1 (ix2 k l) := by
  unfold out0_2
  rw [View.canon_unit_zero origin]
  simp only [View.ld_unit_zero (S := S1024x4096) origin, View.ld_unit_zero (S := S4096x1024) origin]
  pointwise [k0_pay1]

/-! ## The index maps -/

theorem idx0 : ∀ t : Fin grid0.N, win0_0.index t 0 = t.val / 6 ∧ win0_0.index t 1 = 0 := by decide +kernel

theorem idx1 : ∀ t : Fin grid0.N, win0_1.index t 0 = 0 ∧ win0_1.index t 1 = t.val % 6 + 6 := by decide +kernel

theorem idx2 : ∀ t : Fin grid0.N, win0_2.index t 0 = t.val / 6 ∧ win0_2.index t 1 = t.val % 6 := by decide +kernel

variable (m : (ℓ : Loc nD τ sig) → Buf (Elt Ideal) ℓ) (ρ : Dev nD → PrngReg) (c : Dev nD)

/-- The activations and the weight as launched. -/
abbrev act : Vec Ideal S8192x4096 .bf16 := m ((c : Thread nD τ).loc main_arg0)
abbrev wgt : Vec Ideal S4096x12288 .bf16 := m ((c : Thread nD τ).loc main_arg1)

/-! ## What the windows hold -/

theorem read0 (t : Fin cfg0.N) (r : Fin 1024) (k : Fin 4096) (R : Fin 8192) (hR : R.val = 1024 * (t.val / 6) + r.val) :
    ((iblk m c 0 t : Vec Ideal S1024x4096 .bf16) (ix2 r k) : EReal) = act m c (ix2 R k) := by
  refine Eq.trans ?_ (congrFun (V_main_arg0 m c) _)
  unfold iblk
  rw [View.read_apply]
  show V m c main_arg0 _ = V m c main_arg0 _
  congr 1
  funext a
  apply Fin.ext
  have hi := idx0 t
  match a with
  | ⟨0, _⟩ => show win0_0.index t 0 * 1024 + 1 * r.val = R.val; rw [hi.1]; omega
  | ⟨1, _⟩ => show win0_0.index t 1 * 4096 + 1 * k.val = k.val; rw [hi.2]; omega

theorem read1 (t : Fin cfg0.N) (k : Fin 4096) (l : Fin 1024) (n : Fin 12288) (hn : n.val = 1024 * (t.val % 6) + l.val + 6144) :
    ((iblk m c 1 t : Vec Ideal S4096x1024 .bf16) (ix2 k l) : EReal) = wgt m c (ix2 k n) := by
  refine Eq.trans ?_ (congrFun (V_main_arg1 m c) _)
  unfold iblk
  rw [View.read_apply]
  show V m c main_arg1 _ = V m c main_arg1 _
  congr 1
  funext a
  apply Fin.ext
  have hi := idx1 t
  match a with
  | ⟨0, _⟩ => show win0_1.index t 0 * 4096 + 1 * k.val = k.val; rw [hi.1]; omega
  | ⟨1, _⟩ => show win0_1.index t 1 * 1024 + 1 * l.val = n.val; rw [hi.2]; omega

/-! ## The result array -/

theorem flushed_eq (t : Fin cfg0.N) (hf : (cfg0.win 2).flush t = true) :
    (dats m 0 c).flushed 2 t = ((cfg0.win 2).blk t).view.read (Elt Ideal) (res (act m c) (wgt m c)) := by
  rw [Cert.Kernel9Ideal.Value.flushed2]
  funext j
  rw [View.read_apply]
  obtain ⟨r, l, hj⟩ : ∃ (r l : Fin 1024), j = ix2 r l := ⟨j 0, j 1, eq_ix2 j⟩
  subst hj
  refine (block (iblk m c 0 t) (iblk m c 1 t) r l).trans ?_
  have hi := idx2 t
  show (_ : EReal) = product (act m c) (wgt m c) ((((cfg0.win 2).blk t).view.emb (ix2 r l)) 0) ((((cfg0.win 2).blk t).view.emb (ix2 r l)) 1)
  unfold product
  refine Finset.sum_congr rfl fun k _ => ?_
  rw [read0 m c t r k ((((cfg0.win 2).blk t).view.emb (ix2 r l)) 0) (by show win0_2.index t 0 * 1024 + 1 * r.val = _; rw [hi.1]; omega),
    read1 m c t k l ⟨6144 + ((((cfg0.win 2).blk t).view.emb (ix2 r l)) 1).val, by have := ((((cfg0.win 2).blk t).view.emb (ix2 r l)) 1).isLt; change _ < 6144 at this; omega⟩
      (by show 6144 + (win0_2.index t 1 * 1024 + 1 * l.val) = _; rw [hi.2]; omega)]

theorem final : (dats m 0 c).arrAt 2 cfg0.N = res (act m c) (wgt m c) :=
  (dats m 0 c).arrAt_eq_of_cover 2 (res (act m c) (wgt m c)) (flushed_eq m c) fun i => by
    have h0 : (i 0 : Nat) < 8192 := (i 0).isLt
    have h1 : (i 1 : Nat) < 6144 := (i 1).isLt
    have hN : cfg0.N = 48 := Gen.N_0
    refine ⟨⟨6 * ((i 0 : Nat) / 1024) + (i 1 : Nat) / 1024, by omega⟩, flush0_2 _, ?_⟩
    generalize ht : (⟨6 * ((i 0 : Nat) / 1024) + (i 1 : Nat) / 1024, by omega⟩ : Fin cfg0.N) = t
    have hv : t.val = 6 * ((i 0 : Nat) / 1024) + (i 1 : Nat) / 1024 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [hi.1]; omega
    | ⟨1, _⟩ => show win0_2.index t 1 * 1024 ≤ (i 1 : Nat) ∧ (i 1 : Nat) < win0_2.index t 1 * 1024 + 1024; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (act m c) (wgt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel9Ideal.Value.run_blocks m ρ)

/-- The reference's product is the same array. -/
theorem ref_eq (a : Vec Ideal Cert.Reference9Ideal.S8192x4096 .bf16) (w : Vec Ideal Cert.Reference9Ideal.S4096x12288 .bf16) :
    Host.dotGeneral (F := Ideal) Cert.Reference9Ideal.dot_S8192x4096_S4096x6144_S8192x6144_1_0_0_1_n_n none
      (extf .f32 a Cert.Reference9Ideal.Facts₀.bitsLt_bf16_f32)
      (extf .f32 (extractStridedSlice Cert.Reference9Ideal.S4096x6144 ![0, 6144] w Cert.Reference9Ideal.Facts₀.slices_S4096x12288_S4096x6144_0_6144) Cert.Reference9Ideal.Facts₀.bitsLt_bf16_f32)
    = res a w := by
  funext i
  obtain ⟨r, n, hi⟩ : ∃ (r : Fin 8192) (n : Fin 6144), i = ix2 r n := ⟨i 0, i 1, eq_ix2 i⟩
  subst hi
  show _ = product a w r n
  unfold product
  pointwise []

/-- The frame of the machine program, of the idealized program and of the reference. -/
theorem frame_kernel : Cert.quiescent_Kernel9 (hKernel9 := Cert.Kernel9.Gen.facts) := fun m g _ => Cert.Kernel9.Gen.frame m g

theorem frame_ideal : Cert.quiescent_Kernel9Ideal (hKernel9Ideal := Cert.Kernel9Ideal.Gen.facts) := fun m g _ => Cert.Kernel9Ideal.Gen.frame m g

theorem frame_ref : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩) (Cert.Reference9Ideal.Value.run m g)

/-- The kernel's result is the reference's. -/
theorem value : Cert.algebraic_Kernel9Ideal_Reference9Ideal (hKernel9Ideal := Cert.Kernel9Ideal.Gen.facts) (hReference9Ideal := Cert.Reference9Ideal.Gen.facts) := fun m g m' g' _ heq =>
  ⟨fun c => res (act m c) (wgt m c), run m g,
    (θ_run Cert.Reference9Ideal.defs _ _).mono (fun _ h c => ⟨(h c).1.trans ((ref_eq _ _).trans (congrArg₂ res (heq c).1 (heq c).2)), (h c).2⟩) (Cert.Reference9Ideal.Value.run m' g')⟩

end Cert.ProjMlstm

end
-- ==== Proof.ProjRglru.lean ====
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import Idealize.ShloMosaic.Lib.Pointwise
public import Idealize.ShloMosaic.Lib.Pipeline.Value
public import Idealize.ShloMosaic.Adequacy

/-! The columns of the input projection that the RG-LRU reads: one product of the activations with the first columns of the weight's tail. -/

@[expose] public section

set_option maxRecDepth 16384

noncomputable section

namespace Cert.ProjRglru

open Idealize.ShloMosaic Idealize.ShloMosaic.TcCoe Idealize.ShloMosaic.Tactic Idealize.SL.Sem
open Cert.Kernel10Ideal Cert.Kernel10Ideal.Gen

/-- Row `r` of the activations times column `n` of the part of the weight that the call reads. -/
def product (a : Vec Ideal S8192x4096 .bf16) (w : Vec Ideal S4096x16384 .bf16) (r : Fin 8192) (n : Fin 4096) : EReal :=
  ∑ k : Fin 4096, (a (ix2 r k) : EReal) * w (ix2 k ⟨n.val, by omega⟩)

/-- The result, element by element. -/
def res (a : Vec Ideal S8192x4096 .bf16) (w : Vec Ideal S4096x16384 .bf16) : Vec Ideal S8192x4096 .f32 := fun i => product a w (i 0) (i 1)

theorem origin : (![0, 0] : Fin 2 → Nat) = fun _ => 0 := funext fun a => by fin_cases a <;> rfl

/-- One element of the block that a grid point leaves. -/
theorem block (x0 : Vec Ideal S1024x4096 .bf16) (x1 : Vec Ideal S4096x1024 .bf16) (r l : Fin 1024) :
    (out0_2 (F := Ideal) x0 x1 (ix2 r l) : EReal) = ∑ k : Fin 4096, (x0 (ix2 r k) : EReal) * x1 (ix2 k l) := by
  unfold out0_2
  rw [View.canon_unit_zero origin]
  simp only [View.ld_unit_zero (S := S1024x4096) origin, View.ld_unit_zero (S := S4096x1024) origin]
  pointwise [k0_pay1]

/-! ## The index maps -/

theorem idx0 : ∀ t : Fin grid0.N, win0_0.index t 0 = t.val / 4 ∧ win0_0.index t 1 = 0 := by decide +kernel

theorem idx1 : ∀ t : Fin grid0.N, win0_1.index t 0 = 0 ∧ win0_1.index t 1 = t.val % 4 + 0 := by decide +kernel

theorem idx2 : ∀ t : Fin grid0.N, win0_2.index t 0 = t.val / 4 ∧ win0_2.index t 1 = t.val % 4 := by decide +kernel

variable (m : (ℓ : Loc nD τ sig) → Buf (Elt Ideal) ℓ) (ρ : Dev nD → PrngReg) (c : Dev nD)

/-- The activations and the weight as launched. -/
abbrev act : Vec Ideal S8192x4096 .bf16 := m ((c : Thread nD τ).loc main_arg0)
abbrev wgt : Vec Ideal S4096x16384 .bf16 := m ((c : Thread nD τ).loc main_arg1)

/-! ## What the windows hold -/

theorem read0 (t : Fin cfg0.N) (r : Fin 1024) (k : Fin 4096) (R : Fin 8192) (hR : R.val = 1024 * (t.val / 4) + r.val) :
    ((iblk m c 0 t : Vec Ideal S1024x4096 .bf16) (ix2 r k) : EReal) = act m c (ix2 R k) := by
  refine Eq.trans ?_ (congrFun (V_main_arg0 m c) _)
  unfold iblk
  rw [View.read_apply]
  show V m c main_arg0 _ = V m c main_arg0 _
  congr 1
  funext a
  apply Fin.ext
  have hi := idx0 t
  match a with
  | ⟨0, _⟩ => show win0_0.index t 0 * 1024 + 1 * r.val = R.val; rw [hi.1]; omega
  | ⟨1, _⟩ => show win0_0.index t 1 * 4096 + 1 * k.val = k.val; rw [hi.2]; omega

theorem read1 (t : Fin cfg0.N) (k : Fin 4096) (l : Fin 1024) (n : Fin 16384) (hn : n.val = 1024 * (t.val % 4) + l.val + 0) :
    ((iblk m c 1 t : Vec Ideal S4096x1024 .bf16) (ix2 k l) : EReal) = wgt m c (ix2 k n) := by
  refine Eq.trans ?_ (congrFun (V_main_arg1 m c) _)
  unfold iblk
  rw [View.read_apply]
  show V m c main_arg1 _ = V m c main_arg1 _
  congr 1
  funext a
  apply Fin.ext
  have hi := idx1 t
  match a with
  | ⟨0, _⟩ => show win0_1.index t 0 * 4096 + 1 * k.val = k.val; rw [hi.1]; omega
  | ⟨1, _⟩ => show win0_1.index t 1 * 1024 + 1 * l.val = n.val; rw [hi.2]; omega

/-! ## The result array -/

theorem flushed_eq (t : Fin cfg0.N) (hf : (cfg0.win 2).flush t = true) :
    (dats m 0 c).flushed 2 t = ((cfg0.win 2).blk t).view.read (Elt Ideal) (res (act m c) (wgt m c)) := by
  rw [Cert.Kernel10Ideal.Value.flushed2]
  funext j
  rw [View.read_apply]
  obtain ⟨r, l, hj⟩ : ∃ (r l : Fin 1024), j = ix2 r l := ⟨j 0, j 1, eq_ix2 j⟩
  subst hj
  refine (block (iblk m c 0 t) (iblk m c 1 t) r l).trans ?_
  have hi := idx2 t
  show (_ : EReal) = product (act m c) (wgt m c) ((((cfg0.win 2).blk t).view.emb (ix2 r l)) 0) ((((cfg0.win 2).blk t).view.emb (ix2 r l)) 1)
  unfold product
  refine Finset.sum_congr rfl fun k _ => ?_
  rw [read0 m c t r k ((((cfg0.win 2).blk t).view.emb (ix2 r l)) 0) (by show win0_2.index t 0 * 1024 + 1 * r.val = _; rw [hi.1]; omega),
    read1 m c t k l ⟨((((cfg0.win 2).blk t).view.emb (ix2 r l)) 1).val, by have := ((((cfg0.win 2).blk t).view.emb (ix2 r l)) 1).isLt; change _ < 4096 at this; omega⟩
      (by show (win0_2.index t 1 * 1024 + 1 * l.val) = _; rw [hi.2]; omega)]

theorem final : (dats m 0 c).arrAt 2 cfg0.N = res (act m c) (wgt m c) :=
  (dats m 0 c).arrAt_eq_of_cover 2 (res (act m c) (wgt m c)) (flushed_eq m c) fun i => by
    have h0 : (i 0 : Nat) < 8192 := (i 0).isLt
    have h1 : (i 1 : Nat) < 4096 := (i 1).isLt
    have hN : cfg0.N = 32 := Gen.N_0
    refine ⟨⟨4 * ((i 0 : Nat) / 1024) + (i 1 : Nat) / 1024, by omega⟩, flush0_2 _, ?_⟩
    generalize ht : (⟨4 * ((i 0 : Nat) / 1024) + (i 1 : Nat) / 1024, by omega⟩ : Fin cfg0.N) = t
    have hv : t.val = 4 * ((i 0 : Nat) / 1024) + (i 1 : Nat) / 1024 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [hi.1]; omega
    | ⟨1, _⟩ => show win0_2.index t 1 * 1024 ≤ (i 1 : Nat) ∧ (i 1 : Nat) < win0_2.index t 1 * 1024 + 1024; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (act m c) (wgt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel10Ideal.Value.run_blocks m ρ)

/-- The reference's product is the same array. -/
theorem ref_eq (a : Vec Ideal Cert.Reference10Ideal.S8192x4096 .bf16) (w : Vec Ideal Cert.Reference10Ideal.S4096x16384 .bf16) :
    Host.dotGeneral (F := Ideal) Cert.Reference10Ideal.dot_S8192x4096_S4096x4096_S8192x4096_1_0_0_1_n_n none
      (extf .f32 a Cert.Reference10Ideal.Facts₀.bitsLt_bf16_f32)
      (extf .f32 (extractStridedSlice Cert.Reference10Ideal.S4096x4096 ![0, 0] w Cert.Reference10Ideal.Facts₀.slices_S4096x16384_S4096x4096_0_0) Cert.Reference10Ideal.Facts₀.bitsLt_bf16_f32)
    = res a w := by
  funext i
  obtain ⟨r, n, hi⟩ : ∃ (r : Fin 8192) (n : Fin 4096), i = ix2 r n := ⟨i 0, i 1, eq_ix2 i⟩
  subst hi
  show _ = product a w r n
  unfold product
  pointwise []

/-- The frame of the machine program, of the idealized program and of the reference. -/
theorem frame_kernel : Cert.quiescent_Kernel10 (hKernel10 := Cert.Kernel10.Gen.facts) := fun m g _ => Cert.Kernel10.Gen.frame m g

theorem frame_ideal : Cert.quiescent_Kernel10Ideal (hKernel10Ideal := Cert.Kernel10Ideal.Gen.facts) := fun m g _ => Cert.Kernel10Ideal.Gen.frame m g

theorem frame_ref : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩) (Cert.Reference10Ideal.Value.run m g)

/-- The kernel's result is the reference's. -/
theorem value : Cert.algebraic_Kernel10Ideal_Reference10Ideal (hKernel10Ideal := Cert.Kernel10Ideal.Gen.facts) (hReference10Ideal := Cert.Reference10Ideal.Gen.facts) := fun m g m' g' _ heq =>
  ⟨fun c => res (act m c) (wgt m c), run m g,
    (θ_run Cert.Reference10Ideal.defs _ _).mono (fun _ h c => ⟨(h c).1.trans ((ref_eq _ _).trans (congrArg₂ res (heq c).1 (heq c).2)), (h c).2⟩) (Cert.Reference10Ideal.Value.run m' g')⟩

end Cert.ProjRglru

end
-- ==== Proof.MixNorm.lean ====
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Lib.Pointwise
public import Idealize.ShloMosaic.Lib.Pipeline.Value
public import Idealize.ShloMosaic.Adequacy

/-! The norm before the mixers: each row divided by the root of its mean square, scaled by the layer's weights and rounded to bfloat16. -/

@[expose] public section

set_option maxRecDepth 16384

noncomputable section

namespace Cert.MixNorm

open Idealize.ShloMosaic Idealize.ShloMosaic.TcCoe Idealize.ShloMosaic.Tactic Idealize.SL.Sem
open Cert.Kernel11Ideal Cert.Kernel11Ideal.Gen

/-- Entry `(r, n)` of the result. -/
def entry (h : Vec Ideal S8192x4096 .f32) (s : Vec Ideal S2x4096 .f32) (r : Fin 8192) (n : Fin 4096) : EReal :=
  (h (ix2 r n) : EReal) * Ideal.rsqrt (Ideal.div (∑ k : Fin 4096, (h (ix2 r k) : EReal) * h (ix2 r k)) (FloatOps.ofBits (F := Ideal) .f32 0x45800000#32) + FloatOps.ofBits (F := Ideal) .f32 0x358637BD#32) * s (ix2 0 n)

/-- The result, element by element. -/
def res (h : Vec Ideal S8192x4096 .f32) (s : Vec Ideal S2x4096 .f32) : Vec Ideal S8192x4096 .bf16 :=
  fun i => entry h s (i 0) (i 1)

theorem origin : (![0, 0] : Fin 2 → Nat) = fun _ => 0 := funext fun a => by fin_cases a <;> rfl

/-- One element of the block that a grid point leaves. -/
theorem block (x0 : Vec Ideal S256x4096 .f32) (x1 : Vec Ideal S1x4096 .f32) (r : Fin 256) (l : Fin 4096) :
    (out0_2 (F := Ideal) x0 x1 (ix2 r l) : EReal) = (x0 (ix2 r l) : EReal) * Ideal.rsqrt (Ideal.div (∑ k : Fin 4096, (x0 (ix2 r k) : EReal) * x0 (ix2 r k)) (FloatOps.ofBits (F := Ideal) .f32 0x45800000#32) + FloatOps.ofBits (F := Ideal) .f32 0x358637BD#32) * x1 (ix2 0 l) := by
  unfold out0_2
  rw [View.canon_unit_zero origin]
  simp only [View.ld_unit_zero (S := S256x4096) origin, View.ld_unit_zero (S := S1x4096) origin]
  pointwise [k0_pay1]

/-! ## The index maps -/

theorem idx0 : ∀ t : Fin grid0.N, win0_0.index t 0 = t.val ∧ win0_0.index t 1 = 0 := by decide +kernel

theorem idx1 : ∀ t : Fin grid0.N, win0_1.index t 0 = 0 ∧ win0_1.index t 1 = 0 := by decide +kernel

theorem idx2 : ∀ t : Fin grid0.N, win0_2.index t 0 = t.val ∧ win0_2.index t 1 = 0 := by decide +kernel

variable (m : (ℓ : Loc nD τ sig) → Buf (Elt Ideal) ℓ) (ρ : Dev nD → PrngReg) (c : Dev nD)

/-- The arguments on core `c`. -/
abbrev stream : Vec Ideal S8192x4096 .f32 := m ((c : Thread nD τ).loc main_arg0)
abbrev scale : Vec Ideal S2x4096 .f32 := m ((c : Thread nD τ).loc main_arg1)

/-- The scale as the call takes it. -/
theorem V2_read (n : Fin 4096) : ((V m c main_v2 : Vec Ideal S1x4096 .f32) (ix2 0 n) : EReal) = scale m c (ix2 0 n) := by
  show StableHlo.after hostOps0 _ (Proc.devRef .tc main_v2) (ix2 0 n) = _
  after_results
  pointwise []

/-! ## What the windows hold -/

theorem read0 (t : Fin cfg0.N) (a : Fin 256) (b : Fin 4096) (A : Fin 8192) (B : Fin 4096) (hA : A.val = 256 * t.val + a.val) (hB : B.val = b.val) :
    ((iblk m c 0 t : Vec Ideal S256x4096 .f32) (ix2 a b) : EReal) = stream m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 256 + 1 * a.val = A.val; rw [hi.1]; omega
  | ⟨1, _⟩ => show win0_0.index t 1 * 4096 + 1 * b.val = B.val; rw [hi.2]; omega

theorem read1 (t : Fin cfg0.N) (b : Fin 4096) :
    ((iblk m c 1 t : Vec Ideal S1x4096 .f32) (ix2 0 b) : EReal) = scale m c (ix2 0 b) := by
  refine Eq.trans ?_ (V2_read m c b)
  unfold iblk
  rw [View.read_apply]
  show V m c main_v2 _ = V m c main_v2 _
  congr 1
  funext x
  apply Fin.ext
  have hi := idx1 t
  match x with
  | ⟨0, _⟩ => show win0_1.index t 0 * 1 + 1 * 0 = 0; rw [hi.1]
  | ⟨1, _⟩ => show win0_1.index t 1 * 4096 + 1 * b.val = b.val; rw [hi.2]; omega

/-! ## The result array -/

theorem flushed_eq (t : Fin cfg0.N) (hf : (cfg0.win 2).flush t = true) :
    (dats m 0 c).flushed 2 t = ((cfg0.win 2).blk t).view.read (Elt Ideal) (res (stream m c) (scale m c)) := by
  rw [Cert.Kernel11Ideal.Value.flushed2]
  funext j
  rw [View.read_apply]
  obtain ⟨r, l, hj⟩ : ∃ (r : Fin 256) (l : Fin 4096), j = ix2 r l := ⟨j 0, j 1, eq_ix2 j⟩
  subst hj
  refine (block (iblk m c 0 t) (iblk m c 1 t) r l).trans ?_
  have hi := idx2 t
  have h0 : ((((cfg0.win 2).blk t).view.emb (ix2 r l)) 0).val = 256 * t.val + r.val := by show win0_2.index t 0 * 256 + 1 * r.val = _; rw [hi.1]; omega
  have h1 : ((((cfg0.win 2).blk t).view.emb (ix2 r l)) 1).val = l.val := by show win0_2.index t 1 * 4096 + 1 * l.val = _; rw [hi.2]; omega
  show (_ : EReal) = entry (stream m c) (scale m c) ((((cfg0.win 2).blk t).view.emb (ix2 r l)) 0) ((((cfg0.win 2).blk t).view.emb (ix2 r l)) 1)
  generalize (((cfg0.win 2).blk t).view.emb (ix2 r l)) 0 = R at h0 ⊢
  generalize (((cfg0.win 2).blk t).view.emb (ix2 r l)) 1 = C at h1 ⊢
  change Fin 8192 at R
  change Fin 4096 at C
  obtain rfl : C = l := Fin.ext h1
  have hk : ∀ k : Fin 4096, ((iblk m c 0 t : Vec Ideal S256x4096 .f32) (ix2 r k) : EReal) = stream m c (ix2 R k) := fun k => read0 m c t r k R k h0 rfl
  unfold entry
  rw [read1 m c t C, hk C]
  simp only [hk]

theorem final : (dats m 0 c).arrAt 2 cfg0.N = res (stream m c) (scale m c) :=
  (dats m 0 c).arrAt_eq_of_cover 2 (res (stream m c) (scale m c)) (flushed_eq m c) fun i => by
    have h0 : (i 0 : Nat) < 8192 := (i 0).isLt
    have h1 : (i 1 : Nat) < 4096 := (i 1).isLt
    have hN : cfg0.N = 32 := Gen.N_0
    refine ⟨⟨(i 0 : Nat) / 256, by omega⟩, flush0_2 _, ?_⟩
    generalize ht : (⟨(i 0 : Nat) / 256, by omega⟩ : Fin cfg0.N) = t
    have hv : t.val = (i 0 : Nat) / 256 := by rw [← ht]
    have hi := idx2 t
    show i ∈ ((View.whole main_v3).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256; rw [hi.1]; omega
    | ⟨1, _⟩ => show win0_2.index t 1 * 4096 ≤ (i 1 : Nat) ∧ (i 1 : Nat) < win0_2.index t 1 * 4096 + 4096; rw [hi.2]; omega

/-- The run, read. -/
theorem run : θ_run defs (onTc (τ := τ) (main (F := Ideal))) ⟨m, fun _ => 0, ρ⟩ fun r => ∀ c : Dev nD,
      r.2.mem ((c.tc : Thread nD τ).loc main_v3) = res (stream m c) (scale m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel11Ideal.Value.run_blocks m ρ)

/-- The reference's array, entry by entry. -/
theorem ref_eq (h : Vec Ideal Cert.Reference11Ideal.S8192x4096 .f32) (s : Vec Ideal Cert.Reference11Ideal.S2x4096 .f32)
    (y : Vec Ideal Cert.Reference11Ideal.S8192x4096 .bf16) (hy : y = truncf (F := Ideal) .bf16 (mulf (mulf h (broadcastInDim Cert.Reference11Ideal.S8192x4096 ![0, 1] Cert.Reference11Ideal.Facts₀.bcast_S8192x1_S8192x4096_0_1 (Host.rsqrt (addf (Host.divf (broadcastInDim Cert.Reference11Ideal.S8192x1 ![0] Cert.Reference11Ideal.Facts₀.bcast_S8192_S8192x1_0 (Host.reduceAdd (mulf h h) (constant (F := Ideal) Cert.Reference11Ideal.S_ .f32 0x00000000#32) Cert.Reference11Ideal.Facts₀.reducesTo_S8192x4096_S8192_d1 Cert.Reference11Ideal.Facts₀.h_S_)) (broadcastInDim Cert.Reference11Ideal.S8192x1 ![] Cert.Reference11Ideal.Facts₀.bcast_S_S8192x1 (constant (F := Ideal) Cert.Reference11Ideal.S_ .f32 0x45800000#32))) (broadcastInDim Cert.Reference11Ideal.S8192x1 ![] Cert.Reference11Ideal.Facts₀.bcast_S_S8192x1 (constant (F := Ideal) Cert.Reference11Ideal.S_ .f32 0x358637BD#32)))))) (broadcastInDim Cert.Reference11Ideal.S8192x4096 ![0, 1] Cert.Reference11Ideal.Facts₀.bcast_S1x4096_S8192x4096_0_1 (broadcastInDim Cert.Reference11Ideal.S1x4096 ![1] Cert.Reference11Ideal.Facts₀.bcast_S4096_S1x4096_1 (shapeCast _ (extractStridedSlice Cert.Reference11Ideal.S1x4096 ![0, 0] s Cert.Reference11Ideal.Facts₀.slices_S2x4096_S1x4096_0_0) Cert.Reference11Ideal.Facts₀.shapeCasts_S1x4096_S4096)))) Cert.Reference11Ideal.Facts₀.bitsLt_bf16_f32) : y = res h s := by
  rw [hy]
  funext i
  obtain ⟨r, n, hi⟩ : ∃ (r : Fin 8192) (n : Fin 4096), i = ix2 r n := ⟨i 0, i 1, eq_ix2 i⟩
  subst hi
  show _ = entry h s r n
  unfold entry
  pointwise []

/-- The frame of the machine program, of the idealized program and of the reference. -/
theorem frame_kernel : Cert.quiescent_Kernel11 (hKernel11 := Cert.Kernel11.Gen.facts) := fun m g _ => Cert.Kernel11.Gen.frame m g

theorem frame_ideal : Cert.quiescent_Kernel11Ideal (hKernel11Ideal := Cert.Kernel11Ideal.Gen.facts) := fun m g _ => Cert.Kernel11Ideal.Gen.frame m g

theorem frame_ref : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩) (Cert.Reference11Ideal.Value.run m g)

/-- The kernel's result is the reference's. -/
theorem value : Cert.algebraic_Kernel11Ideal_Reference11Ideal (hKernel11Ideal := Cert.Kernel11Ideal.Gen.facts) (hReference11Ideal := Cert.Reference11Ideal.Gen.facts) := fun m g m' g' _ heq =>
  ⟨fun c => res (stream m c) (scale m c), run m g,
    (θ_run Cert.Reference11Ideal.defs _ _).mono (fun _ h c => ⟨(h c).1.trans (by rw [(heq c).1, (heq c).2]; exact ref_eq _ _ _ rfl), (h c).2⟩) (Cert.Reference11Ideal.Value.run m' g')⟩

end Cert.MixNorm

end
-- ==== Proof.ProjGates.lean ====
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import Idealize.ShloMosaic.Lib.Pointwise
public import Idealize.ShloMosaic.Lib.Pipeline.Value
public import Idealize.ShloMosaic.Adequacy

/-! The columns of the input projection that hold the mLSTM's gates: 32 of them, one product by tiles of 1024 rows. -/

@[expose] public section

set_option maxRecDepth 16384

noncomputable section

namespace Cert.ProjGates

open Idealize.ShloMosaic Idealize.ShloMosaic.TcCoe Idealize.ShloMosaic.Tactic Idealize.SL.Sem
open Cert.Kernel12Ideal Cert.Kernel12Ideal.Gen

/-- Row `r` of the activations times column `n` of the weight. -/
def product (a : Vec Ideal S8192x4096 .bf16) (w : Vec Ideal S4096x32 .bf16) (r : Fin 8192) (n : Fin 32) : EReal :=
  ∑ k : Fin 4096, (a (ix2 r k) : EReal) * w (ix2 k n)

/-- The result, element by element. -/
def res (a : Vec Ideal S8192x4096 .bf16) (w : Vec Ideal S4096x32 .bf16) : Vec Ideal S8192x32 .f32 := fun i => product a w (i 0) (i 1)

theorem origin : (![0, 0] : Fin 2 → Nat) = fun _ => 0 := funext fun a => by fin_cases a <;> rfl

/-- One element of the block that a grid point leaves. -/
theorem block (x0 : Vec Ideal S1024x4096 .bf16) (x1 : Vec Ideal S4096x32 .bf16) (r : Fin 1024) (l : Fin 32) :
    (out0_2 (F := Ideal) x0 x1 (ix2 r l) : EReal) = ∑ k : Fin 4096, (x0 (ix2 r k) : EReal) * x1 (ix2 k l) := by
  unfold out0_2
  rw [View.canon_unit_zero origin]
  simp only [View.ld_unit_zero (S := S1024x4096) origin, View.ld_unit_zero (S := S4096x32) origin]
  pointwise [k0_pay1]

/-! ## The index maps -/

theorem idx0 : ∀ t : Fin grid0.N, win0_0.index t 0 = t.val ∧ win0_0.index t 1 = 0 := by decide +kernel

theorem idx1 : ∀ t : Fin grid0.N, win0_1.index t 0 = 0 ∧ win0_1.index t 1 = 0 := by decide +kernel

theorem idx2 : ∀ t : Fin grid0.N, win0_2.index t 0 = t.val ∧ win0_2.index t 1 = 0 := by decide +kernel

variable (m : (ℓ : Loc nD τ sig) → Buf (Elt Ideal) ℓ) (ρ : Dev nD → PrngReg) (c : Dev nD)

/-- The arguments on core `c`. -/
abbrev act : Vec Ideal S8192x4096 .bf16 := m ((c : Thread nD τ).loc main_arg0)
abbrev wgt : Vec Ideal S4096x32 .bf16 := m ((c : Thread nD τ).loc main_arg1)

/-! ## What the windows hold -/

theorem read0 (t : Fin cfg0.N) (a : Fin 1024) (b : Fin 4096) (A : Fin 8192) (B : Fin 4096) (hA : A.val = 1024 * t.val + a.val) (hB : B.val = b.val) :
    ((iblk m c 0 t : Vec Ideal S1024x4096 .bf16) (ix2 a b) : EReal) = act m c (ix2 A B) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1024 + 1 * a.val = A.val; rw [hi.1]; omega
  | ⟨1, _⟩ => show win0_0.index t 1 * 4096 + 1 * b.val = B.val; rw [hi.2]; omega

theorem read1 (t : Fin cfg0.N) (a : Fin 4096) (b : Fin 32) (A : Fin 4096) (B : Fin 32) (hA : A.val = a.val) (hB : B.val = b.val) :
    ((iblk m c 1 t : Vec Ideal S4096x32 .bf16) (ix2 a b) : EReal) = wgt m c (ix2 A B) := by
  refine Eq.trans ?_ (congrFun (V_main_arg1 m c) _)
  unfold iblk
  rw [View.read_apply]
  show V m c main_arg1 _ = V m c main_arg1 _
  congr 1
  funext x
  apply Fin.ext
  have hi := idx1 t
  match x with
  | ⟨0, _⟩ => show win0_1.index t 0 * 4096 + 1 * a.val = A.val; rw [hi.1]; omega
  | ⟨1, _⟩ => show win0_1.index t 1 * 32 + 1 * b.val = B.val; rw [hi.2]; omega

/-! ## The result array -/

theorem flushed_eq (t : Fin cfg0.N) (hf : (cfg0.win 2).flush t = true) :
    (dats m 0 c).flushed 2 t = ((cfg0.win 2).blk t).view.read (Elt Ideal) (res (act m c) (wgt m c)) := by
  rw [Cert.Kernel12Ideal.Value.flushed2]
  funext j
  rw [View.read_apply]
  obtain ⟨r, l, hj⟩ : ∃ (r : Fin 1024) (l : Fin 32), j = ix2 r l := ⟨j 0, j 1, eq_ix2 j⟩
  subst hj
  refine (block (iblk m c 0 t) (iblk m c 1 t) r l).trans ?_
  have hi := idx2 t
  show (_ : EReal) = product (act m c) (wgt m c) ((((cfg0.win 2).blk t).view.emb (ix2 r l)) 0) ((((cfg0.win 2).blk t).view.emb (ix2 r l)) 1)
  unfold product
  refine Finset.sum_congr rfl fun k _ => ?_
  rw [read0 m c t r k ((((cfg0.win 2).blk t).view.emb (ix2 r l)) 0) k (by show win0_2.index t 0 * 1024 + 1 * r.val = _; rw [hi.1]; omega) rfl,
    read1 m c t k l k ((((cfg0.win 2).blk t).view.emb (ix2 r l)) 1) rfl (by show win0_2.index t 1 * 32 + 1 * l.val = _; rw [hi.2]; omega)]

theorem final : (dats m 0 c).arrAt 2 cfg0.N = res (act m c) (wgt m c) :=
  (dats m 0 c).arrAt_eq_of_cover 2 (res (act m c) (wgt m c)) (flushed_eq m c) fun i => by
    have h0 : (i 0 : Nat) < 8192 := (i 0).isLt
    have h1 : (i 1 : Nat) < 32 := (i 1).isLt
    have hN : cfg0.N = 8 := Gen.N_0
    refine ⟨⟨(i 0 : Nat) / 1024, by omega⟩, flush0_2 _, ?_⟩
    generalize ht : (⟨(i 0 : Nat) / 1024, by omega⟩ : Fin cfg0.N) = t
    have hv : t.val = (i 0 : Nat) / 1024 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [hi.1]; omega
    | ⟨1, _⟩ => show win0_2.index t 1 * 32 ≤ (i 1 : Nat) ∧ (i 1 : Nat) < win0_2.index t 1 * 32 + 32; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (act m c) (wgt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Cert.Kernel12Ideal.Value.run_blocks m ρ)

/-- The reference's product is the same array. -/
theorem ref_eq (a : Vec Ideal Cert.Reference12Ideal.S8192x4096 .bf16) (w : Vec Ideal Cert.Reference12Ideal.S4096x32 .bf16) :
    Host.dotGeneral (F := Ideal) Cert.Reference12Ideal.dot_S8192x4096_S4096x32_S8192x32_1_0_0_1_n_n none
      (extf .f32 a Cert.Reference12Ideal.Facts₀.bitsLt_bf16_f32)
      (extf .f32 w Cert.Reference12Ideal.Facts₀.bitsLt_bf16_f32)
    = res a w := by
  funext i
  obtain ⟨r, n, hi⟩ : ∃ (r : Fin 8192) (n : Fin 32), i = ix2 r n := ⟨i 0, i 1, eq_ix2 i⟩
  subst hi
  show _ = product a w r n
  unfold product
  pointwise []

/-- The frame of the machine program, of the idealized program and of the reference. -/
theorem frame_kernel : Cert.quiescent_Kernel12 (hKernel12 := Cert.Kernel12.Gen.facts) := fun m g _ => Cert.Kernel12.Gen.frame m g

theorem frame_ideal : Cert.quiescent_Kernel12Ideal (hKernel12Ideal := Cert.Kernel12Ideal.Gen.facts) := fun m g _ => Cert.Kernel12Ideal.Gen.frame m g

theorem frame_ref : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩) (Cert.Reference12Ideal.Value.run m g)

/-- The kernel's result is the reference's. -/
theorem value : Cert.algebraic_Kernel12Ideal_Reference12Ideal (hKernel12Ideal := Cert.Kernel12Ideal.Gen.facts) (hReference12Ideal := Cert.Reference12Ideal.Gen.facts) := fun m g m' g' _ heq =>
  ⟨fun c => res (act m c) (wgt m c), run m g,
    (θ_run Cert.Reference12Ideal.defs _ _).mono (fun _ h c => ⟨(h c).1.trans (by exact (ref_eq _ _).trans (congrArg₂ res (heq c).1 (heq c).2)), (h c).2⟩) (Cert.Reference12Ideal.Value.run m' g')⟩

end Cert.ProjGates

end
-- ==== Proof.CastInHm.lean ====
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import Idealize.ShloMosaic.Lib.Pointwise
public import Idealize.ShloMosaic.Lib.Pipeline.Value
public import Idealize.ShloMosaic.Lib.WritesUnit
public import Idealize.ShloMosaic.Lib.WholeRead
public import Idealize.ShloMosaic.Adequacy

/-! The columns of the input projection's weight that Hyena and the mLSTM use: blocks of 256 rows of the transposed weight, turned back and cast to bfloat16. -/

@[expose] public section

set_option maxRecDepth 16384

noncomputable section

namespace Cert.CastInHm

open Idealize.ShloMosaic Idealize.ShloMosaic.TcCoe Idealize.ShloMosaic.Tactic Idealize.SL.Sem
open Cert.Kernel13Ideal Cert.Kernel13Ideal.Gen

/-- Entry `(r, n)` of the result. -/
def entry (w : Vec Ideal S2x4096x28704 .f32) (r : Fin 4096) (n : Fin 12288) : EReal := w (ix3 0 r ⟨0 + n.val, by omega⟩)

/-- The result, element by element. -/
def res (w : Vec Ideal S2x4096x28704 .f32) : Vec Ideal S4096x12288 .bf16 := fun i => entry w (i 0) (i 1)

theorem origin : (![0, 0] : Fin 2 → Nat) = fun _ => 0 := funext fun a => by fin_cases a <;> rfl

theorem origin3 : (![0, 0, 0] : Fin 3 → Nat) = fun _ => 0 := funext fun a => by fin_cases a <;> rfl

/-- One element of the block that a grid point leaves. -/
theorem block (c : Dev nD) (t : Fin cfg0.N) (x0 : Vec Ideal S1x256x4096 .f32) (r : Fin 4096) (l : Fin 256) :
    (out0_A_1 (F := Ideal) c (grid0.coords t) (ms0_0 t) (hs0_0 t) (ms0_1 t) (hs0_1 t) x0 (ix2 r l) : EReal) = x0 (ix3 0 l r) := by
  unfold out0_A_1
  refine Eq.trans (View.read_writes_cons_unit_of_mem VO0_1 _ (off' := fun _ => 0) _ _ [] (ix2 r l) (ix2 r l) origin fun a => (Nat.zero_add _).symm) ?_
  have h : ∀ y : Vec Ideal S1x256x4096 .f32, y = x0 → (k0_pay1 (F := Ideal) y (ix2 r l) : EReal) = x0 (ix3 0 l r) := by
    rintro y rfl
    pointwise [k0_pay1]
  refine h _ (funext fun x => ?_)
  refine (Memref.IsWhole.readAt_unread (hs0_0 t) x0 _ x).trans (congrArg x0 (funext fun a => Fin.ext ?_))
  show (![0, 0, 0] : Fin 3 → Nat) a + 1 * (x a).val = (x a).val
  have h0 : (![0, 0, 0] : Fin 3 → Nat) a = 0 := congrFun origin3 a
  omega

/-! ## The index maps -/

theorem idx0 : ∀ t : Fin grid0.N, win0_0.index t 0 = 0 ∧ win0_0.index t 1 = t.val ∧ win0_0.index t 2 = 0 := by decide +kernel

theorem idx1 : ∀ t : Fin grid0.N, win0_1.index t 0 = 0 ∧ win0_1.index t 1 = t.val := by decide +kernel

variable (m : (ℓ : Loc nD τ sig) → Buf (Elt Ideal) ℓ) (ρ : Dev nD → PrngReg) (c : Dev nD)

/-- The arguments on core `c`. -/
abbrev wgt : Vec Ideal S2x4096x28704 .f32 := m ((c : Thread nD τ).loc main_arg0)

/-- The transposed weights as the call takes them. -/
theorem V0_read (n : Fin 28704) (r : Fin 4096) : ((V m c main_v0 : Vec Ideal S2x28704x4096 .f32) (ix3 0 n r) : EReal) = wgt m c (ix3 0 r n) := by
  show StableHlo.after hostOps0 _ (Proc.devRef .tc main_v0) (ix3 0 n r) = _
  after_results
  pointwise []

theorem read0 (t : Fin cfg0.N) (a : Fin 256) (b : Fin 4096) (A : Fin 28704) (hA : A.val = 256 * t.val + a.val) :
    ((X0_0 m c t : Vec Ideal S1x256x4096 .f32) (ix3 0 a b) : EReal) = wgt m c (ix3 0 b A) := by
  refine Eq.trans ?_ (V0_read m c A b)
  unfold X0_0 Pipeline.Window.fill
  rw [dif_pos (moved0_0 t _)]
  unfold iblk
  rw [View.read_apply]
  show V m c main_v0 _ = V m c main_v0 _
  congr 1
  funext x
  apply Fin.ext
  have hi := idx0 t
  match x with
  | ⟨0, _⟩ => show win0_0.index t 0 * 1 + 1 * 0 = 0; rw [hi.1]
  | ⟨1, _⟩ => show win0_0.index t 1 * 256 + 1 * a.val = A.val; rw [hi.2.1]; omega
  | ⟨2, _⟩ => show win0_0.index t 2 * 4096 + 1 * b.val = b.val; rw [hi.2.2]; omega

theorem flushed_eq (t : Fin cfg0.N) (hf : (cfg0.win 1).flush t = true) :
    (dats m 0 c).flushed 1 t = ((cfg0.win 1).blk t).view.read (Elt Ideal) (res (wgt m c)) := by
  rw [Cert.Kernel13Ideal.Value.flushed1_A]
  funext j
  rw [View.read_apply]
  obtain ⟨r, l, hj⟩ : ∃ (r : Fin 4096) (l : Fin 256), j = ix2 r l := ⟨j 0, j 1, eq_ix2 j⟩
  subst hj
  refine (block c t (X0_0 m c t) r l).trans ?_
  have hi := idx1 t
  have h0 : ((((cfg0.win 1).blk t).view.emb (ix2 r l)) 0).val = r.val := by show win0_1.index t 0 * 4096 + 1 * r.val = _; rw [hi.1]; omega
  have h1 : ((((cfg0.win 1).blk t).view.emb (ix2 r l)) 1).val = 256 * t.val + l.val := by show win0_1.index t 1 * 256 + 1 * l.val = _; rw [hi.2]; omega
  show (_ : EReal) = entry (wgt m c) ((((cfg0.win 1).blk t).view.emb (ix2 r l)) 0) ((((cfg0.win 1).blk t).view.emb (ix2 r l)) 1)
  generalize (((cfg0.win 1).blk t).view.emb (ix2 r l)) 0 = R at h0 ⊢
  generalize (((cfg0.win 1).blk t).view.emb (ix2 r l)) 1 = C at h1 ⊢
  change Fin 4096 at R
  change Fin 12288 at C
  have hC : C.val < 12288 := C.isLt
  obtain rfl : R = r := Fin.ext h0
  exact read0 m c t l R ⟨0 + C.val, by omega⟩ (by show 0 + C.val = _; rw [h1]; omega)

theorem final : (dats m 0 c).arrAt 1 cfg0.N = res (wgt m c) :=
  (dats m 0 c).arrAt_eq_of_cover 1 (res (wgt m c)) (flushed_eq m c) fun i => by
    have h0 : (i 0 : Nat) < 4096 := (i 0).isLt
    have h1 : (i 1 : Nat) < 12288 := (i 1).isLt
    have hN : cfg0.N = 48 := Gen.N_0
    refine ⟨⟨(i 1 : Nat) / 256, by omega⟩, flush0_1 _, ?_⟩
    generalize ht : (⟨(i 1 : Nat) / 256, by omega⟩ : Fin cfg0.N) = t
    have hv : t.val = (i 1 : Nat) / 256 := by rw [← ht]
    have hi := idx1 t
    show i ∈ ((View.whole main_v1).slice (win0_1.rect t)).set
    rw [View.set_slice_whole, Rect.mem_set_unit]
    intro a
    match a with
    | ⟨0, _⟩ => show win0_1.index t 0 * 4096 ≤ (i 0 : Nat) ∧ (i 0 : Nat) < win0_1.index t 0 * 4096 + 4096; rw [hi.1]; omega
    | ⟨1, _⟩ => show win0_1.index t 1 * 256 ≤ (i 1 : Nat) ∧ (i 1 : Nat) < win0_1.index t 1 * 256 + 256; rw [hi.2]; omega

/-- The run, read. -/
theorem run : θ_run defs (onTc (τ := τ) (main (F := Ideal))) ⟨m, fun _ => 0, ρ⟩ fun r => ∀ c : Dev nD,
      r.2.mem ((c.tc : Thread nD τ).loc main_v1) = res (wgt m c)
      ∧ r.2.mem ((c.tc : Thread nD τ).loc main_arg0) = m ((c.tc : Thread nD τ).loc main_arg0) :=
  (θ_run defs _ _).mono (fun _ h c => ⟨(h c).1.trans (final m c), (h c).2⟩) (Cert.Kernel13Ideal.Value.run_blocks m ρ)

/-- The reference's array, entry by entry. -/
theorem ref_eq (w : Vec Ideal Cert.Reference13Ideal.S2x4096x28704 .f32) :
    truncf (F := Ideal) .bf16 (shapeCast _ (extractStridedSlice Cert.Reference13Ideal.S1x4096x12288 ![0, 0, 0] w Cert.Reference13Ideal.Facts₀.slices_S2x4096x28704_S1x4096x12288_0_0_0) Cert.Reference13Ideal.Facts₀.shapeCasts_S1x4096x12288_S4096x12288) Cert.Reference13Ideal.Facts₀.bitsLt_bf16_f32 = res w := by
  funext i
  obtain ⟨r, n, hi⟩ : ∃ (r : Fin 4096) (n : Fin 12288), i = ix2 r n := ⟨i 0, i 1, eq_ix2 i⟩
  subst hi
  show (_ : EReal) = entry w r n
  unfold entry
  pointwise []

/-- The frame of the machine program, of the idealized program and of the reference. -/
theorem frame_kernel : Cert.quiescent_Kernel13 (hKernel13 := Cert.Kernel13.Gen.facts) := fun m g _ => Cert.Kernel13.Gen.frame m g

theorem frame_ideal : Cert.quiescent_Kernel13Ideal (hKernel13Ideal := Cert.Kernel13Ideal.Gen.facts) := fun m g _ => Cert.Kernel13Ideal.Gen.frame m g

theorem frame_ref : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩) (Cert.Reference13Ideal.Value.run m g)

/-- The kernel's result is the reference's. -/
theorem value : Cert.algebraic_Kernel13Ideal_Reference13Ideal (hKernel13Ideal := Cert.Kernel13Ideal.Gen.facts) (hReference13Ideal := Cert.Reference13Ideal.Gen.facts) := fun m g m' g' _ heq =>
  ⟨fun c => res (wgt m c), run m g,
    (θ_run Cert.Reference13Ideal.defs _ _).mono (fun _ h c => ⟨(h c).1.trans (by exact (ref_eq _).trans (congrArg res (heq c))), (h c).2⟩) (Cert.Reference13Ideal.Value.run m' g')⟩

end Cert.CastInHm

end
-- ==== Proof.CastInGates.lean ====
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import Idealize.ShloMosaic.Lib.Pointwise
public import Idealize.ShloMosaic.Lib.Pipeline.Value
public import Idealize.ShloMosaic.Lib.WritesUnit
public import Idealize.ShloMosaic.Lib.WholeRead
public import Idealize.ShloMosaic.Adequacy

/-! The columns of the input projection's weight that hold the mLSTM's gates: one block of the transposed weight, turned back and cast to bfloat16. -/

@[expose] public section

set_option maxRecDepth 16384

noncomputable section

namespace Cert.CastInGates

open Idealize.ShloMosaic Idealize.ShloMosaic.TcCoe Idealize.ShloMosaic.Tactic Idealize.SL.Sem
open Cert.Kernel14Ideal Cert.Kernel14Ideal.Gen

/-- Entry `(r, n)` of the result. -/
def entry (w : Vec Ideal S2x4096x28704 .f32) (r : Fin 4096) (n : Fin 32) : EReal := w (ix3 0 r ⟨12288 + n.val, by omega⟩)

/-- The result, element by element. -/
def res (w : Vec Ideal S2x4096x28704 .f32) : Vec Ideal S4096x32 .bf16 := fun i => entry w (i 0) (i 1)

theorem origin : (![0, 0] : Fin 2 → Nat) = fun _ => 0 := funext fun a => by fin_cases a <;> rfl

theorem origin3 : (![0, 0, 0] : Fin 3 → Nat) = fun _ => 0 := funext fun a => by fin_cases a <;> rfl

/-- One element of the block that a grid point leaves. -/
theorem block (x0 : Vec Ideal S1x32x4096 .f32) (r : Fin 4096) (l : Fin 32) :
    (out0_1 (F := Ideal) x0 (ix2 r l) : EReal) = x0 (ix3 0 l r) := by
  unfold out0_1
  rw [View.canon_unit_zero origin]
  simp only [View.ld_unit_zero (S := S1x32x4096) origin3]
  pointwise [k0_pay1]

/-! ## The index maps -/

theorem idx0 : ∀ t : Fin grid0.N, win0_0.index t 0 = 0 ∧ win0_0.index t 1 = t.val + 384 ∧ win0_0.index t 2 = 0 := by decide +kernel

theorem idx1 : ∀ t : Fin grid0.N, win0_1.index t 0 = 0 ∧ win0_1.index t 1 = t.val := by decide +kernel

variable (m : (ℓ : Loc nD τ sig) → Buf (Elt Ideal) ℓ) (ρ : Dev nD → PrngReg) (c : Dev nD)

/-- The arguments on core `c`. -/
abbrev wgt : Vec Ideal S2x4096x28704 .f32 := m ((c : Thread nD τ).loc main_arg0)

/-- The transposed weights as the call takes them. -/
theorem V0_read (n : Fin 28704) (r : Fin 4096) : ((V m c main_v0 : Vec Ideal S2x28704x4096 .f32) (ix3 0 n r) : EReal) = wgt m c (ix3 0 r n) := by
  show StableHlo.after hostOps0 _ (Proc.devRef .tc main_v0) (ix3 0 n r) = _
  after_results
  pointwise []

theorem read0 (t : Fin cfg0.N) (a : Fin 32) (b : Fin 4096) (A : Fin 28704) (hA : A.val = 12288 + 32 * t.val + a.val) :
    ((iblk m c 0 t : Vec Ideal S1x32x4096 .f32) (ix3 0 a b) : EReal) = wgt m c (ix3 0 b A) := by
  refine Eq.trans ?_ (V0_read m c A b)
  unfold iblk
  rw [View.read_apply]
  show V m c main_v0 _ = V m c main_v0 _
  congr 1
  funext x
  apply Fin.ext
  have hi := idx0 t
  match x with
  | ⟨0, _⟩ => show win0_0.index t 0 * 1 + 1 * 0 = 0; rw [hi.1]
  | ⟨1, _⟩ => show win0_0.index t 1 * 32 + 1 * a.val = A.val; rw [hi.2.1]; omega
  | ⟨2, _⟩ => show win0_0.index t 2 * 4096 + 1 * b.val = b.val; rw [hi.2.2]; omega

theorem flushed_eq (t : Fin cfg0.N) (hf : (cfg0.win 1).flush t = true) :
    (dats m 0 c).flushed 1 t = ((cfg0.win 1).blk t).view.read (Elt Ideal) (res (wgt m c)) := by
  rw [Cert.Kernel14Ideal.Value.flushed1]
  funext j
  rw [View.read_apply]
  obtain ⟨r, l, hj⟩ : ∃ (r : Fin 4096) (l : Fin 32), j = ix2 r l := ⟨j 0, j 1, eq_ix2 j⟩
  subst hj
  refine (block (iblk m c 0 t) r l).trans ?_
  have hi := idx1 t
  have h0 : ((((cfg0.win 1).blk t).view.emb (ix2 r l)) 0).val = r.val := by show win0_1.index t 0 * 4096 + 1 * r.val = _; rw [hi.1]; omega
  have h1 : ((((cfg0.win 1).blk t).view.emb (ix2 r l)) 1).val = 32 * t.val + l.val := by show win0_1.index t 1 * 32 + 1 * l.val = _; rw [hi.2]; omega
  show (_ : EReal) = entry (wgt m c) ((((cfg0.win 1).blk t).view.emb (ix2 r l)) 0) ((((cfg0.win 1).blk t).view.emb (ix2 r l)) 1)
  generalize (((cfg0.win 1).blk t).view.emb (ix2 r l)) 0 = R at h0 ⊢
  generalize (((cfg0.win 1).blk t).view.emb (ix2 r l)) 1 = C at h1 ⊢
  change Fin 4096 at R
  change Fin 32 at C
  have hC : C.val < 32 := C.isLt
  obtain rfl : R = r := Fin.ext h0
  exact read0 m c t l R ⟨12288 + C.val, by omega⟩ (by show 12288 + C.val = _; rw [h1]; omega)

theorem final : (dats m 0 c).arrAt 1 cfg0.N = res (wgt m c) :=
  (dats m 0 c).arrAt_eq_of_cover 1 (res (wgt m c)) (flushed_eq m c) fun i => by
    have h0 : (i 0 : Nat) < 4096 := (i 0).isLt
    have h1 : (i 1 : Nat) < 32 := (i 1).isLt
    have hN : cfg0.N = 1 := Gen.N_0
    refine ⟨⟨(i 1 : Nat) / 32, by omega⟩, flush0_1 _, ?_⟩
    generalize ht : (⟨(i 1 : Nat) / 32, by omega⟩ : Fin cfg0.N) = t
    have hv : t.val = (i 1 : Nat) / 32 := by rw [← ht]
    have hi := idx1 t
    show i ∈ ((View.whole main_v1).slice (win0_1.rect t)).set
    rw [View.set_slice_whole, Rect.mem_set_unit]
    intro a
    match a with
    | ⟨0, _⟩ => show win0_1.index t 0 * 4096 ≤ (i 0 : Nat) ∧ (i 0 : Nat) < win0_1.index t 0 * 4096 + 4096; rw [hi.1]; omega
    | ⟨1, _⟩ => show win0_1.index t 1 * 32 ≤ (i 1 : Nat) ∧ (i 1 : Nat) < win0_1.index t 1 * 32 + 32; rw [hi.2]; omega

/-- The run, read. -/
theorem run : θ_run defs (onTc (τ := τ) (main (F := Ideal))) ⟨m, fun _ => 0, ρ⟩ fun r => ∀ c : Dev nD,
      r.2.mem ((c.tc : Thread nD τ).loc main_v1) = res (wgt m c)
      ∧ r.2.mem ((c.tc : Thread nD τ).loc main_arg0) = m ((c.tc : Thread nD τ).loc main_arg0) :=
  (θ_run defs _ _).mono (fun _ h c => ⟨(h c).1.trans (final m c), (h c).2⟩) (Cert.Kernel14Ideal.Value.run_blocks m ρ)

/-- The reference's array, entry by entry. -/
theorem ref_eq (w : Vec Ideal Cert.Reference14Ideal.S2x4096x28704 .f32) :
    truncf (F := Ideal) .bf16 (shapeCast _ (extractStridedSlice Cert.Reference14Ideal.S1x4096x32 ![0, 0, 12288] w Cert.Reference14Ideal.Facts₀.slices_S2x4096x28704_S1x4096x32_0_0_12288) Cert.Reference14Ideal.Facts₀.shapeCasts_S1x4096x32_S4096x32) Cert.Reference14Ideal.Facts₀.bitsLt_bf16_f32 = res w := by
  funext i
  obtain ⟨r, n, hi⟩ : ∃ (r : Fin 4096) (n : Fin 32), i = ix2 r n := ⟨i 0, i 1, eq_ix2 i⟩
  subst hi
  show (_ : EReal) = entry w r n
  unfold entry
  pointwise []

/-- The frame of the machine program, of the idealized program and of the reference. -/
theorem frame_kernel : Cert.quiescent_Kernel14 (hKernel14 := Cert.Kernel14.Gen.facts) := fun m g _ => Cert.Kernel14.Gen.frame m g

theorem frame_ideal : Cert.quiescent_Kernel14Ideal (hKernel14Ideal := Cert.Kernel14Ideal.Gen.facts) := fun m g _ => Cert.Kernel14Ideal.Gen.frame m g

theorem frame_ref : Cert.quiescent_Reference14Ideal (hReference14Ideal := Cert.Reference14Ideal.Gen.facts) := fun m g _ =>
  (θ_run Cert.Reference14Ideal.defs _ _).mono (fun r h => ⟨fun c => (h c).2, sem_eq_zero_of_no_sems (by decide) r.2⟩) (Cert.Reference14Ideal.Value.run m g)

/-- The kernel's result is the reference's. -/
theorem value : Cert.algebraic_Kernel14Ideal_Reference14Ideal (hKernel14Ideal := Cert.Kernel14Ideal.Gen.facts) (hReference14Ideal := Cert.Reference14Ideal.Gen.facts) := fun m g m' g' _ heq =>
  ⟨fun c => res (wgt m c), run m g,
    (θ_run Cert.Reference14Ideal.defs _ _).mono (fun _ h c => ⟨(h c).1.trans (by exact (ref_eq _).trans (congrArg res (heq c))), (h c).2⟩) (Cert.Reference14Ideal.Value.run m' g')⟩

end Cert.CastInGates

end
-- ==== Proof.CastInTail.lean ====
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import Idealize.ShloMosaic.Lib.Pointwise
public import Idealize.ShloMosaic.Lib.Pipeline.Value
public import Idealize.ShloMosaic.Lib.WritesUnit
public import Idealize.ShloMosaic.Lib.WholeRead
public import Idealize.ShloMosaic.Adequacy

/-! The columns of the input projection's weight that the RG-LRU and the merge gates use. They begin 32 rows into a block of the transposed weight, so each grid point joins the rest of one block with the 32 rows after it, turns the rows back and casts them to bfloat16. -/

@[expose] public section

set_option maxRecDepth 16384

noncomputable section

namespace Cert.CastInTail

open Idealize.ShloMosaic Idealize.ShloMosaic.TcCoe Idealize.ShloMosaic.Tactic Idealize.SL.Sem
open Cert.Kernel15Ideal Cert.Kernel15Ideal.Gen

/-- Entry `(r, n)` of the result. -/
def entry (w : Vec Ideal S2x4096x28704 .f32) (r : Fin 4096) (n : Fin 16384) : EReal := w (ix3 0 r ⟨12320 + n.val, by omega⟩)

/-- The result, element by element. -/
def res (w : Vec Ideal S2x4096x28704 .f32) : Vec Ideal S4096x16384 .bf16 := fun i => entry w (i 0) (i 1)

theorem origin : (![0, 0] : Fin 2 → Nat) = fun _ => 0 := funext fun a => by fin_cases a <;> rfl

theorem origin3 : (![0, 0, 0] : Fin 3 → Nat) = fun _ => 0 := funext fun a => by fin_cases a <;> rfl

/-- The joined rows, one element: from the first block before row 224, from the second after it. -/
theorem joined (y0 : Vec Ideal S1x224x4096 .f32) (y1 : Vec Ideal S1x32x4096 .f32) (r : Fin 4096) (l : Fin 256) :
    (k0_pay1 (F := Ideal) y0 y1 (ix2 r l) : EReal) = if h : l.val < 224 then y0 (ix3 0 ⟨l.val, h⟩ r) else y1 (ix3 0 ⟨l.val - 224, by omega⟩ r) := by
  pointwise [k0_pay1]

/-- One element of the block that a grid point leaves. -/
theorem block (c : Dev nD) (t : Fin cfg0.N) (x0 : Vec Ideal S1x256x4096 .f32) (x1 : Vec Ideal S1x32x4096 .f32) (r : Fin 4096) (l : Fin 256) :
    (out0_A_2 (F := Ideal) c (grid0.coords t) (ms0_0 t) (hs0_0 t) (ms0_1 t) (hs0_1 t) (ms0_2 t) (hs0_2 t) x0 x1 (ix2 r l) : EReal)
      = if h : l.val < 224 then x0 (ix3 0 ⟨32 + l.val, by omega⟩ r) else x1 (ix3 0 ⟨l.val - 224, by omega⟩ r) := by
  unfold out0_A_2
  refine Eq.trans (View.read_writes_cons_unit_of_mem VO0_2 _ (off' := fun _ => 0) _ _ [] (ix2 r l) (ix2 r l) origin fun a => (Nat.zero_add _).symm) ?_
  refine (joined _ _ r l).trans ?_
  split
  · refine (Memref.IsWhole.readAt_unread (hs0_0 t) x0 _ _).trans (congrArg x0 (funext fun a => Fin.ext ?_))
    match a with
    | ⟨0, _⟩ => rfl
    | ⟨1, _⟩ => show 32 + 1 * l.val = 32 + l.val; omega
    | ⟨2, _⟩ => show 0 + 1 * r.val = r.val; omega
  · refine (Memref.IsWhole.readAt_unread (hs0_1 t) x1 _ _).trans (congrArg x1 (funext fun a => Fin.ext ?_))
    match a with
    | ⟨0, _⟩ => rfl
    | ⟨1, _⟩ => show 0 + 1 * (l.val - 224) = l.val - 224; omega
    | ⟨2, _⟩ => show 0 + 1 * r.val = r.val; omega

/-! ## The index maps -/

theorem idx0 : ∀ t : Fin grid0.N, win0_0.index t 0 = 0 ∧ win0_0.index t 1 = t.val + 48 ∧ win0_0.index t 2 = 0 := by decide +kernel

theorem idx1 : ∀ t : Fin grid0.N, win0_1.index t 0 = 0 ∧ win0_1.index t 1 = 8 * t.val + 392 ∧ win0_1.index t 2 = 0 := by decide +kernel

theorem idx2 : ∀ t : Fin grid0.N, win0_2.index t 0 = 0 ∧ win0_2.index t 1 = t.val := by decide +kernel

variable (m : (ℓ : Loc nD τ sig) → Buf (Elt Ideal) ℓ) (ρ : Dev nD → PrngReg) (c : Dev nD)

/-- The arguments on core `c`. -/
abbrev wgt : Vec Ideal S2x4096x28704 .f32 := m ((c : Thread nD τ).loc main_arg0)

/-- The transposed weights as the call takes them. -/
theorem V0_read (n : Fin 28704) (r : Fin 4096) : ((V m c main_v0 : Vec Ideal S2x28704x4096 .f32) (ix3 0 n r) : EReal) = wgt m c (ix3 0 r n) := by
  show StableHlo.after hostOps0 _ (Proc.devRef .tc main_v0) (ix3 0 n r) = _
  after_results
  pointwise []

theorem read0 (t : Fin cfg0.N) (a : Fin 256) (b : Fin 4096) (A : Fin 28704) (hA : A.val = 12288 + 256 * t.val + a.val) :
    ((X0_0 m c t : Vec Ideal S1x256x4096 .f32) (ix3 0 a b) : EReal) = wgt m c (ix3 0 b A) := by
  refine Eq.trans ?_ (V0_read m c A b)
  unfold X0_0 Pipeline.Window.fill
  rw [dif_pos (moved0_0 t _)]
  unfold iblk
  rw [View.read_apply]
  show V m c main_v0 _ = V m c main_v0 _
  congr 1
  funext x
  apply Fin.ext
  have hi := idx0 t
  match x with
  | ⟨0, _⟩ => show win0_0.index t 0 * 1 + 1 * 0 = 0; rw [hi.1]
  | ⟨1, _⟩ => show win0_0.index t 1 * 256 + 1 * a.val = A.val; rw [hi.2.1]; omega
  | ⟨2, _⟩ => show win0_0.index t 2 * 4096 + 1 * b.val = b.val; rw [hi.2.2]; omega

theorem read1 (t : Fin cfg0.N) (a : Fin 32) (b : Fin 4096) (A : Fin 28704) (hA : A.val = 12544 + 256 * t.val + a.val) :
    ((iblk m c 1 t : Vec Ideal S1x32x4096 .f32) (ix3 0 a b) : EReal) = wgt m c (ix3 0 b A) := by
  refine Eq.trans ?_ (V0_read m c A b)
  unfold iblk
  rw [View.read_apply]
  show V m c main_v0 _ = V m c main_v0 _
  congr 1
  funext x
  apply Fin.ext
  have hi := idx1 t
  match x with
  | ⟨0, _⟩ => show win0_1.index t 0 * 1 + 1 * 0 = 0; rw [hi.1]
  | ⟨1, _⟩ => show win0_1.index t 1 * 32 + 1 * a.val = A.val; rw [hi.2.1]; omega
  | ⟨2, _⟩ => show win0_1.index t 2 * 4096 + 1 * b.val = b.val; rw [hi.2.2]; omega

theorem flushed_eq (t : Fin cfg0.N) (hf : (cfg0.win 2).flush t = true) :
    (dats m 0 c).flushed 2 t = ((cfg0.win 2).blk t).view.read (Elt Ideal) (res (wgt m c)) := by
  rw [Cert.Kernel15Ideal.Value.flushed2_A]
  funext j
  rw [View.read_apply]
  obtain ⟨r, l, hj⟩ : ∃ (r : Fin 4096) (l : Fin 256), j = ix2 r l := ⟨j 0, j 1, eq_ix2 j⟩
  subst hj
  refine (block c t (X0_0 m c t) (iblk m c 1 t) r l).trans ?_
  have hi := idx2 t
  have h0 : ((((cfg0.win 2).blk t).view.emb (ix2 r l)) 0).val = r.val := by show win0_2.index t 0 * 4096 + 1 * r.val = _; rw [hi.1]; omega
  have h1 : ((((cfg0.win 2).blk t).view.emb (ix2 r l)) 1).val = 256 * t.val + l.val := by show win0_2.index t 1 * 256 + 1 * l.val = _; rw [hi.2]; omega
  show (_ : EReal) = entry (wgt m c) ((((cfg0.win 2).blk t).view.emb (ix2 r l)) 0) ((((cfg0.win 2).blk t).view.emb (ix2 r l)) 1)
  generalize (((cfg0.win 2).blk t).view.emb (ix2 r l)) 0 = R at h0 ⊢
  generalize (((cfg0.win 2).blk t).view.emb (ix2 r l)) 1 = C at h1 ⊢
  change Fin 4096 at R
  change Fin 16384 at C
  have hC : C.val < 16384 := C.isLt
  obtain rfl : R = r := Fin.ext h0
  split
  · exact read0 m c t _ R ⟨12320 + C.val, by omega⟩ (by show 12320 + C.val = 12288 + 256 * t.val + (32 + l.val); rw [h1]; omega)
  · exact read1 m c t _ R ⟨12320 + C.val, by omega⟩ (by show 12320 + C.val = 12544 + 256 * t.val + (l.val - 224); rw [h1]; omega)

theorem final : (dats m 0 c).arrAt 2 cfg0.N = res (wgt m c) :=
  (dats m 0 c).arrAt_eq_of_cover 2 (res (wgt m c)) (flushed_eq m c) fun i => by
    have h0 : (i 0 : Nat) < 4096 := (i 0).isLt
    have h1 : (i 1 : Nat) < 16384 := (i 1).isLt
    have hN : cfg0.N = 64 := Gen.N_0
    refine ⟨⟨(i 1 : Nat) / 256, by omega⟩, flush0_2 _, ?_⟩
    generalize ht : (⟨(i 1 : Nat) / 256, by omega⟩ : Fin cfg0.N) = t
    have hv : t.val = (i 1 : Nat) / 256 := by rw [← ht]
    have hi := idx2 t
    show i ∈ ((View.whole main_v1).slice (win0_2.rect t)).set
    rw [View.set_slice_whole, Rect.mem_set_unit]
    intro a
    match a with
    | ⟨0, _⟩ => show win0_2.index t 0 * 4096 ≤ (i 0 : Nat) ∧ (i 0 : Nat) < win0_2.index t 0 * 4096 + 4096; rw [hi.1]; omega
    | ⟨1, _⟩ => show win0_2.index t 1 * 256 ≤ (i 1 : Nat) ∧ (i 1 : Nat) < win0_2.index t 1 * 256 + 256; rw [hi.2]; omega

/-- The run, read. -/
theorem run : θ_run defs (onTc (τ := τ) (main (F := Ideal))) ⟨m, fun _ => 0, ρ⟩ fun r => ∀ c : Dev nD,
      r.2.mem ((c.tc : Thread nD τ).loc main_v1) = res (wgt m c)
      ∧ r.2.mem ((c.tc : Thread nD τ).loc main_arg0) = m ((c.tc : Thread nD τ).loc main_arg0) :=
  (θ_run defs _ _).mono (fun _ h c => ⟨(h c).1.trans (final m c), (h c).2⟩) (Cert.Kernel15Ideal.Value.run_blocks m ρ)

/-- The reference's array, entry by entry. -/
theorem ref_eq (w : Vec Ideal Cert.Reference15Ideal.S2x4096x28704 .f32) :
    truncf (F := Ideal) .bf16 (shapeCast _ (extractStridedSlice Cert.Reference15Ideal.S1x4096x16384 ![0, 0, 12320] w Cert.Reference15Ideal.Facts₀.slices_S2x4096x28704_S1x4096x16384_0_0_12320) Cert.Reference15Ideal.Facts₀.shapeCasts_S1x4096x16384_S4096x16384) Cert.Reference15Ideal.Facts₀.bitsLt_bf16_f32 = res w := by
  funext i
  obtain ⟨r, n, hi⟩ : ∃ (r : Fin 4096) (n : Fin 16384), i = ix2 r n := ⟨i 0, i 1, eq_ix2 i⟩
  subst hi
  show (_ : EReal) = entry w r n
  unfold entry
  pointwise []

/-- The frame of the machine program, of the idealized program and of the reference. -/
theorem frame_kernel : Cert.quiescent_Kernel15 (hKernel15 := Cert.Kernel15.Gen.facts) := fun m g _ => Cert.Kernel15.Gen.frame m g

theorem frame_ideal : Cert.quiescent_Kernel15Ideal (hKernel15Ideal := Cert.Kernel15Ideal.Gen.facts) := fun m g _ => Cert.Kernel15Ideal.Gen.frame m g

theorem frame_ref : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩) (Cert.Reference15Ideal.Value.run m g)

/-- The kernel's result is the reference's. -/
theorem value : Cert.algebraic_Kernel15Ideal_Reference15Ideal (hKernel15Ideal := Cert.Kernel15Ideal.Gen.facts) (hReference15Ideal := Cert.Reference15Ideal.Gen.facts) := fun m g m' g' _ heq =>
  ⟨fun c => res (wgt m c), run m g,
    (θ_run Cert.Reference15Ideal.defs _ _).mono (fun _ h c => ⟨(h c).1.trans (by exact (ref_eq _).trans (congrArg res (heq c))), (h c).2⟩) (Cert.Reference15Ideal.Value.run m' g')⟩

end Cert.CastInTail

end
-- ==== Proof.CastBranch.lean ====
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import Idealize.ShloMosaic.Lib.Pointwise
public import Idealize.ShloMosaic.Lib.Pipeline.Value
public import Idealize.ShloMosaic.Adequacy

/-! The weight that takes one mixer's result to the model's width, cast to bfloat16 by blocks of 256 rows. -/

@[expose] public section

set_option maxRecDepth 16384

noncomputable section

namespace Cert.CastBranch

open Idealize.ShloMosaic Idealize.ShloMosaic.TcCoe Idealize.ShloMosaic.Tactic Idealize.SL.Sem
open Cert.Kernel16Ideal Cert.Kernel16Ideal.Gen

/-- Entry `(r, n)` of the result. -/
def entry (w : Vec Ideal S2x2048x4096 .f32) (r : Fin 2048) (n : Fin 4096) : EReal := w (ix3 0 r n)

/-- The result, element by element. -/
def res (w : Vec Ideal S2x2048x4096 .f32) : Vec Ideal S2048x4096 .bf16 := fun i => entry w (i 0) (i 1)

theorem origin : (![0, 0] : Fin 2 → Nat) = fun _ => 0 := funext fun a => by fin_cases a <;> rfl

theorem origin3 : (![0, 0, 0] : Fin 3 → Nat) = fun _ => 0 := funext fun a => by fin_cases a <;> rfl

/-- Every grid point is inside the weight. -/
theorem inside : ∀ t : Fin grid0.N, Scalar.andi (Scalar.cmpi .slt (BitVec.ofNat 32 (grid0.coords t 0).val) 8#32) (Scalar.cmpi .slt (BitVec.ofNat 32 (grid0.coords t 1).val) 1#32) = 1#1 := by decide +kernel

theorem pay (t : Fin grid0.N) (x : Vec Ideal S1x256x4096 .f32) :
    k0_pay1 (F := Ideal) (grid0.coords t) x = truncf .bf16 (shapeCast S256x4096 x Facts₀.shapeCasts_S1x256x4096_S256x4096) Facts₀.bitsLt_bf16_f32 := by
  show truncf .bf16 (Scalar.select (Scalar.andi (Scalar.cmpi .slt (BitVec.ofNat 32 (grid0.coords t 0).val) 8#32) (Scalar.cmpi .slt (BitVec.ofNat 32 (grid0.coords t 1).val) 1#32)) _ _) _ = _
  rw [inside t]
  rfl

/-- One element of the block that a grid point leaves. -/
theorem block (t : Fin grid0.N) (x0 : Vec Ideal S1x256x4096 .f32) (r : Fin 256) (l : Fin 4096) :
    (out0_1 (F := Ideal) (grid0.coords t) x0 (ix2 r l) : EReal) = x0 (ix3 0 r l) := by
  unfold out0_1
  rw [View.canon_unit_zero origin]
  simp only [View.ld_unit_zero (S := S1x256x4096) origin3, pay]
  pointwise []

/-! ## The index maps -/

theorem idx0 : ∀ t : Fin grid0.N, win0_0.index t 0 = 0 ∧ win0_0.index t 1 = t.val ∧ win0_0.index t 2 = 0 := by decide +kernel

theorem idx1 : ∀ t : Fin grid0.N, win0_1.index t 0 = t.val ∧ win0_1.index t 1 = 0 := by decide +kernel

variable (m : (ℓ : Loc nD τ sig) → Buf (Elt Ideal) ℓ) (ρ : Dev nD → PrngReg) (c : Dev nD)

/-- The arguments on core `c`. -/
abbrev wgt : Vec Ideal S2x2048x4096 .f32 := m ((c : Thread nD τ).loc main_arg0)

theorem read0 (t : Fin cfg0.N) (a : Fin 256) (b : Fin 4096) (A : Fin 2048) (hA : A.val = 256 * t.val + a.val) :
    ((iblk m c 0 t : Vec Ideal S1x256x4096 .f32) (ix3 0 a b) : EReal) = wgt m c (ix3 0 A b) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1 + 1 * 0 = 0; rw [hi.1]
  | ⟨1, _⟩ => show win0_0.index t 1 * 256 + 1 * a.val = A.val; rw [hi.2.1]; omega
  | ⟨2, _⟩ => show win0_0.index t 2 * 4096 + 1 * b.val = b.val; rw [hi.2.2]; omega

theorem flushed_eq (t : Fin cfg0.N) (hf : (cfg0.win 1).flush t = true) :
    (dats m 0 c).flushed 1 t = ((cfg0.win 1).blk t).view.read (Elt Ideal) (res (wgt m c)) := by
  rw [Cert.Kernel16Ideal.Value.flushed1]
  funext j
  rw [View.read_apply]
  obtain ⟨r, l, hj⟩ : ∃ (r : Fin 256) (l : Fin 4096), j = ix2 r l := ⟨j 0, j 1, eq_ix2 j⟩
  subst hj
  refine (block t (iblk m c 0 t) r l).trans ?_
  have hi := idx1 t
  have h0 : ((((cfg0.win 1).blk t).view.emb (ix2 r l)) 0).val = 256 * t.val + r.val := by show win0_1.index t 0 * 256 + 1 * r.val = _; rw [hi.1]; omega
  have h1 : ((((cfg0.win 1).blk t).view.emb (ix2 r l)) 1).val = l.val := by show win0_1.index t 1 * 4096 + 1 * l.val = _; rw [hi.2]; omega
  show (_ : EReal) = entry (wgt m c) ((((cfg0.win 1).blk t).view.emb (ix2 r l)) 0) ((((cfg0.win 1).blk t).view.emb (ix2 r l)) 1)
  generalize (((cfg0.win 1).blk t).view.emb (ix2 r l)) 0 = R at h0 ⊢
  generalize (((cfg0.win 1).blk t).view.emb (ix2 r l)) 1 = C at h1 ⊢
  change Fin 2048 at R
  change Fin 4096 at C
  obtain rfl : C = l := Fin.ext h1
  exact read0 m c t r C R h0

theorem final : (dats m 0 c).arrAt 1 cfg0.N = res (wgt m c) :=
  (dats m 0 c).arrAt_eq_of_cover 1 (res (wgt m c)) (flushed_eq m c) fun i => by
    have h0 : (i 0 : Nat) < 2048 := (i 0).isLt
    have h1 : (i 1 : Nat) < 4096 := (i 1).isLt
    have hN : cfg0.N = 8 := Gen.N_0
    refine ⟨⟨(i 0 : Nat) / 256, by omega⟩, flush0_1 _, ?_⟩
    generalize ht : (⟨(i 0 : Nat) / 256, by omega⟩ : Fin cfg0.N) = t
    have hv : t.val = (i 0 : Nat) / 256 := by rw [← ht]
    have hi := idx1 t
    show i ∈ ((View.whole main_v0).slice (win0_1.rect t)).set
    rw [View.set_slice_whole, Rect.mem_set_unit]
    intro a
    match a with
    | ⟨0, _⟩ => show win0_1.index t 0 * 256 ≤ (i 0 : Nat) ∧ (i 0 : Nat) < win0_1.index t 0 * 256 + 256; rw [hi.1]; omega
    | ⟨1, _⟩ => show win0_1.index t 1 * 4096 ≤ (i 1 : Nat) ∧ (i 1 : Nat) < win0_1.index t 1 * 4096 + 4096; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (wgt m c)
      ∧ r.2.mem ((c.tc : Thread nD τ).loc main_arg0) = m ((c.tc : Thread nD τ).loc main_arg0) :=
  (θ_run defs _ _).mono (fun _ h c => ⟨(h c).1.trans (final m c), (h c).2⟩) (Cert.Kernel16Ideal.Value.run_blocks m ρ)

/-- The reference's array, entry by entry. -/
theorem ref_eq (w : Vec Ideal Cert.Reference16Ideal.S2x2048x4096 .f32) :
    truncf (F := Ideal) .bf16 (shapeCast _ (extractStridedSlice Cert.Reference16Ideal.S1x2048x4096 ![0, 0, 0] w Cert.Reference16Ideal.Facts₀.slices_S2x2048x4096_S1x2048x4096_0_0_0) Cert.Reference16Ideal.Facts₀.shapeCasts_S1x2048x4096_S2048x4096) Cert.Reference16Ideal.Facts₀.bitsLt_bf16_f32 = res w := by
  funext i
  obtain ⟨r, n, hi⟩ : ∃ (r : Fin 2048) (n : Fin 4096), i = ix2 r n := ⟨i 0, i 1, eq_ix2 i⟩
  subst hi
  show (_ : EReal) = entry w r n
  unfold entry
  pointwise []

/-- The frame of the machine program, of the idealized program and of the reference. -/
theorem frame_kernel : Cert.quiescent_Kernel16 (hKernel16 := Cert.Kernel16.Gen.facts) := fun m g _ => Cert.Kernel16.Gen.frame m g

theorem frame_ideal : Cert.quiescent_Kernel16Ideal (hKernel16Ideal := Cert.Kernel16Ideal.Gen.facts) := fun m g _ => Cert.Kernel16Ideal.Gen.frame m g

theorem frame_ref : Cert.quiescent_Reference16Ideal (hReference16Ideal := Cert.Reference16Ideal.Gen.facts) := fun m g _ =>
  (θ_run Cert.Reference16Ideal.defs _ _).mono (fun r h => ⟨fun c => (h c).2, sem_eq_zero_of_no_sems (by decide) r.2⟩) (Cert.Reference16Ideal.Value.run m g)

/-- The kernel's result is the reference's. -/
theorem value : Cert.algebraic_Kernel16Ideal_Reference16Ideal (hKernel16Ideal := Cert.Kernel16Ideal.Gen.facts) (hReference16Ideal := Cert.Reference16Ideal.Gen.facts) := fun m g m' g' _ heq =>
  ⟨fun c => res (wgt m c), run m g,
    (θ_run Cert.Reference16Ideal.defs _ _).mono (fun _ h c => ⟨(h c).1.trans (by exact (ref_eq _).trans (congrArg res (heq c))), (h c).2⟩) (Cert.Reference16Ideal.Value.run m' g')⟩

end Cert.CastBranch

end
-- ==== Proof.CastOut.lean ====
module

public import proofs.«01_k».proof.Defs
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import Idealize.ShloMosaic.Lib.Pointwise
public import Idealize.ShloMosaic.Lib.Pipeline.Value
public import Idealize.ShloMosaic.Adequacy

/-! The output projection's weight, cast to bfloat16 by blocks of 256 rows. -/

@[expose] public section

set_option maxRecDepth 16384

noncomputable section

namespace Cert.CastOut

open Idealize.ShloMosaic Idealize.ShloMosaic.TcCoe Idealize.ShloMosaic.Tactic Idealize.SL.Sem
open Cert.Kernel17Ideal Cert.Kernel17Ideal.Gen

/-- Entry `(r, n)` of the result. -/
def entry (w : Vec Ideal S2x4096x4096 .f32) (r : Fin 4096) (n : Fin 4096) : EReal := w (ix3 0 r n)

/-- The result, element by element. -/
def res (w : Vec Ideal S2x4096x4096 .f32) : Vec Ideal S4096x4096 .bf16 := fun i => entry w (i 0) (i 1)

theorem origin : (![0, 0] : Fin 2 → Nat) = fun _ => 0 := funext fun a => by fin_cases a <;> rfl

theorem origin3 : (![0, 0, 0] : Fin 3 → Nat) = fun _ => 0 := funext fun a => by fin_cases a <;> rfl

/-- Every grid point is inside the weight. -/
theorem inside : ∀ t : Fin grid0.N, Scalar.andi (Scalar.cmpi .slt (BitVec.ofNat 32 (grid0.coords t 0).val) 16#32) (Scalar.cmpi .slt (BitVec.ofNat 32 (grid0.coords t 1).val) 1#32) = 1#1 := by decide +kernel

theorem pay (t : Fin grid0.N) (x : Vec Ideal S1x256x4096 .f32) :
    k0_pay1 (F := Ideal) (grid0.coords t) x = truncf .bf16 (shapeCast S256x4096 x Facts₀.shapeCasts_S1x256x4096_S256x4096) Facts₀.bitsLt_bf16_f32 := by
  show truncf .bf16 (Scalar.select (Scalar.andi (Scalar.cmpi .slt (BitVec.ofNat 32 (grid0.coords t 0).val) 16#32) (Scalar.cmpi .slt (BitVec.ofNat 32 (grid0.coords t 1).val) 1#32)) _ _) _ = _
  rw [inside t]
  rfl

/-- One element of the block that a grid point leaves. -/
theorem block (t : Fin grid0.N) (x0 : Vec Ideal S1x256x4096 .f32) (r : Fin 256) (l : Fin 4096) :
    (out0_1 (F := Ideal) (grid0.coords t) x0 (ix2 r l) : EReal) = x0 (ix3 0 r l) := by
  unfold out0_1
  rw [View.canon_unit_zero origin]
  simp only [View.ld_unit_zero (S := S1x256x4096) origin3, pay]
  pointwise []

/-! ## The index maps -/

theorem idx0 : ∀ t : Fin grid0.N, win0_0.index t 0 = 0 ∧ win0_0.index t 1 = t.val ∧ win0_0.index t 2 = 0 := by decide +kernel

theorem idx1 : ∀ t : Fin grid0.N, win0_1.index t 0 = t.val ∧ win0_1.index t 1 = 0 := by decide +kernel

variable (m : (ℓ : Loc nD τ sig) → Buf (Elt Ideal) ℓ) (ρ : Dev nD → PrngReg) (c : Dev nD)

/-- The arguments on core `c`. -/
abbrev wgt : Vec Ideal S2x4096x4096 .f32 := m ((c : Thread nD τ).loc main_arg0)

theorem read0 (t : Fin cfg0.N) (a : Fin 256) (b : Fin 4096) (A : Fin 4096) (hA : A.val = 256 * t.val + a.val) :
    ((iblk m c 0 t : Vec Ideal S1x256x4096 .f32) (ix3 0 a b) : EReal) = wgt m c (ix3 0 A b) := by
  refine Eq.trans ?_ (congrFun (V_main_arg0 m c) _)
  unfold iblk
  rw [View.read_apply]
  show V m c main_arg0 _ = V m c main_arg0 _
  congr 1
  funext x
  apply Fin.ext
  have hi := idx0 t
  match x with
  | ⟨0, _⟩ => show win0_0.index t 0 * 1 + 1 * 0 = 0; rw [hi.1]
  | ⟨1, _⟩ => show win0_0.index t 1 * 256 + 1 * a.val = A.val; rw [hi.2.1]; omega
  | ⟨2, _⟩ => show win0_0.index t 2 * 4096 + 1 * b.val = b.val; rw [hi.2.2]; omega

theorem flushed_eq (t : Fin cfg0.N) (hf : (cfg0.win 1).flush t = true) :
    (dats m 0 c).flushed 1 t = ((cfg0.win 1).blk t).view.read (Elt Ideal) (res (wgt m c)) := by
  rw [Cert.Kernel17Ideal.Value.flushed1]
  funext j
  rw [View.read_apply]
  obtain ⟨r, l, hj⟩ : ∃ (r : Fin 256) (l : Fin 4096), j = ix2 r l := ⟨j 0, j 1, eq_ix2 j⟩
  subst hj
  refine (block t (iblk m c 0 t) r l).trans ?_
  have hi := idx1 t
  have h0 : ((((cfg0.win 1).blk t).view.emb (ix2 r l)) 0).val = 256 * t.val + r.val := by show win0_1.index t 0 * 256 + 1 * r.val = _; rw [hi.1]; omega
  have h1 : ((((cfg0.win 1).blk t).view.emb (ix2 r l)) 1).val = l.val := by show win0_1.index t 1 * 4096 + 1 * l.val = _; rw [hi.2]; omega
  show (_ : EReal) = entry (wgt m c) ((((cfg0.win 1).blk t).view.emb (ix2 r l)) 0) ((((cfg0.win 1).blk t).view.emb (ix2 r l)) 1)
  generalize (((cfg0.win 1).blk t).view.emb (ix2 r l)) 0 = R at h0 ⊢
  generalize (((cfg0.win 1).blk t).view.emb (ix2 r l)) 1 = C at h1 ⊢
  change Fin 4096 at R
  change Fin 4096 at C
  obtain rfl : C = l := Fin.ext h1
  exact read0 m c t r C R h0

theorem final : (dats m 0 c).arrAt 1 cfg0.N = res (wgt m c) :=
  (dats m 0 c).arrAt_eq_of_cover 1 (res (wgt m c)) (flushed_eq m c) fun i => by
    have h0 : (i 0 : Nat) < 4096 := (i 0).isLt
    have h1 : (i 1 : Nat) < 4096 := (i 1).isLt
    have hN : cfg0.N = 16 := Gen.N_0
    refine ⟨⟨(i 0 : Nat) / 256, by omega⟩, flush0_1 _, ?_⟩
    generalize ht : (⟨(i 0 : Nat) / 256, by omega⟩ : Fin cfg0.N) = t
    have hv : t.val = (i 0 : Nat) / 256 := by rw [← ht]
    have hi := idx1 t
    show i ∈ ((View.whole main_v0).slice (win0_1.rect t)).set
    rw [View.set_slice_whole, Rect.mem_set_unit]
    intro a
    match a with
    | ⟨0, _⟩ => show win0_1.index t 0 * 256 ≤ (i 0 : Nat) ∧ (i 0 : Nat) < win0_1.index t 0 * 256 + 256; rw [hi.1]; omega
    | ⟨1, _⟩ => show win0_1.index t 1 * 4096 ≤ (i 1 : Nat) ∧ (i 1 : Nat) < win0_1.index t 1 * 4096 + 4096; rw [hi.2]; omega

/-- The run, read. -/
theorem run : θ_run defs (onTc (τ := τ) (main (F := Ideal))) ⟨m, fun _ => 0, ρ⟩ fun r => ∀ c : Dev nD,
      r.2.mem ((c.tc : Thread nD τ).loc main_v0) = res (wgt m c)
      ∧ r.2.mem ((c.tc : Thread nD τ).loc main_arg0) = m ((c.tc : Thread nD τ).loc main_arg0) :=
  (θ_run defs _ _).mono (fun _ h c => ⟨(h c).1.trans (final m c), (h c).2⟩) (Cert.Kernel17Ideal.Value.run_blocks m ρ)

/-- The reference's array, entry by entry. -/
theorem ref_eq (w : Vec Ideal Cert.Reference17Ideal.S2x4096x4096 .f32) :
    truncf (F := Ideal) .bf16 (shapeCast _ (extractStridedSlice Cert.Reference17Ideal.S1x4096x4096 ![0, 0, 0] w Cert.Reference17Ideal.Facts₀.slices_S2x4096x4096_S1x4096x4096_0_0_0) Cert.Reference17Ideal.Facts₀.shapeCasts_S1x4096x4096_S4096x4096) Cert.Reference17Ideal.Facts₀.bitsLt_bf16_f32 = res w := by
  funext i
  obtain ⟨r, n, hi⟩ : ∃ (r : Fin 4096) (n : Fin 4096), i = ix2 r n := ⟨i 0, i 1, eq_ix2 i⟩
  subst hi
  show (_ : EReal) = entry w r n
  unfold entry
  pointwise []

/-- The frame of the machine program, of the idealized program and of the reference. -/
theorem frame_kernel : Cert.quiescent_Kernel17 (hKernel17 := Cert.Kernel17.Gen.facts) := fun m g _ => Cert.Kernel17.Gen.frame m g

theorem frame_ideal : Cert.quiescent_Kernel17Ideal (hKernel17Ideal := Cert.Kernel17Ideal.Gen.facts) := fun m g _ => Cert.Kernel17Ideal.Gen.frame m g

theorem frame_ref : Cert.quiescent_Reference17Ideal (hReference17Ideal := Cert.Reference17Ideal.Gen.facts) := fun m g _ =>
  (θ_run Cert.Reference17Ideal.defs _ _).mono (fun r h => ⟨fun c => (h c).2, sem_eq_zero_of_no_sems (by decide) r.2⟩) (Cert.Reference17Ideal.Value.run m g)

/-- The kernel's result is the reference's. -/
theorem value : Cert.algebraic_Kernel17Ideal_Reference17Ideal (hKernel17Ideal := Cert.Kernel17Ideal.Gen.facts) (hReference17Ideal := Cert.Reference17Ideal.Gen.facts) := fun m g m' g' _ heq =>
  ⟨fun c => res (wgt m c), run m g,
    (θ_run Cert.Reference17Ideal.defs _ _).mono (fun _ h c => ⟨(h c).1.trans (by exact (ref_eq _).trans (congrArg res (heq c))), (h c).2⟩) (Cert.Reference17Ideal.Value.run m' g')⟩

end Cert.CastOut

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic
public import proofs.«01_k».proof.Proof.Same
public import proofs.«01_k».proof.Proof.RefRun
public import proofs.«01_k».proof.Proof.Gates
public import proofs.«01_k».proof.Proof.FfnUp
public import proofs.«01_k».proof.Proof.FfnDown
public import proofs.«01_k».proof.Proof.Merge
public import proofs.«01_k».proof.Proof.OutProj
public import proofs.«01_k».proof.Proof.FinalNorm
public import proofs.«01_k».proof.Proof.ProjHyena
public import proofs.«01_k».proof.Proof.ProjMlstm
public import proofs.«01_k».proof.Proof.ProjRglru
public import proofs.«01_k».proof.Proof.MixNorm
public import proofs.«01_k».proof.Proof.ProjGates
public import proofs.«01_k».proof.Proof.CastInHm
public import proofs.«01_k».proof.Proof.CastInGates
public import proofs.«01_k».proof.Proof.CastInTail
public import proofs.«01_k».proof.Proof.CastBranch
public import proofs.«01_k».proof.Proof.CastOut
public import Idealize.ShloMosaic.Adequacy
public import Idealize.ShloMosaic.Init

@[expose] public section

noncomputable section

namespace Cert.Proof

open Idealize.ShloMosaic Idealize.SL.Sem

/-- The reference leaves its arguments and every semaphore at zero. -/
theorem ref_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩) (Cert.RglruRef.run_iter m g (fun c => Cert.RglruRef.states (Cert.RglruRef.initState m c)) (fun _ => rfl) fun _ _ => rfl)

/-- The kernel's results are the reference's. -/
theorem algebraic : Cert.algebraic_KernelIdeal_ReferenceIdeal (hKernelIdeal := Cert.KernelIdeal.Gen.facts) (hReferenceIdeal := Cert.ReferenceIdeal.Gen.facts) :=
  fun m g m' g' _ hargs => by
    refine ⟨Cert.RglruProof.mixRes m, Cert.RglruProof.castRes m, ?_, ?_⟩
    · exact (θ_run Cert.KernelIdeal.defs _ _).mono (fun r h c => ⟨(h.1 c).1, (h.1 c).2, h.2.1 c⟩)
        (θ_run_and (Cert.RglruProof.run m g) (Cert.RglruProof.frame m g))
    · refine (θ_run Cert.ReferenceIdeal.defs _ _).mono (fun r h c => ?_) (Cert.RglruRef.run_iter m' g' (fun c => Cert.RglruRef.states (Cert.RglruRef.initState m' c)) (fun _ => rfl) fun _ _ => rfl)
      obtain ⟨e0, e1, e2, e3, e4, e5, e6, e7, e8⟩ := hargs c
      refine ⟨(h c).1.trans ?_, (h c).2.1.trans ?_, (h c).2.2⟩
      · rw [Cert.RglruProof.mixRes_eq]
        unfold Cert.RglruRef.initState
        rw [e0, e1, e2, e3, e4, e5, e6, e7]
      · rw [Cert.RglruProof.castRes_eq m c (Cert.RglruRef.states (Cert.RglruRef.initState m' c) 2048), e8]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.RglruProof.frame_kernel, fun m g _ => Cert.RglruProof.frame m g, ref_frame,
  Cert.Gates.frame_kernel, Cert.Gates.frame_ideal, Cert.Gates.frame_ref,
  Cert.FfnUp.frame_kernel, Cert.FfnUp.frame_ideal, Cert.FfnUp.frame_ref,
  Cert.FfnDown.frame_kernel, Cert.FfnDown.frame_ideal, Cert.FfnDown.frame_ref,
  Cert.Merge.frame_kernel, Cert.Merge.frame_ideal, Cert.Merge.frame_ref,
  Cert.OutProj.frame_kernel, Cert.OutProj.frame_ideal, Cert.OutProj.frame_ref,
  Cert.FinalNorm.frame_kernel, Cert.FinalNorm.frame_ideal, Cert.FinalNorm.frame_ref,
  Cert.ProjHyena.frame_kernel, Cert.ProjHyena.frame_ideal, Cert.ProjHyena.frame_ref,
  Cert.ProjMlstm.frame_kernel, Cert.ProjMlstm.frame_ideal, Cert.ProjMlstm.frame_ref,
  Cert.ProjRglru.frame_kernel, Cert.ProjRglru.frame_ideal, Cert.ProjRglru.frame_ref,
  Cert.MixNorm.frame_kernel, Cert.MixNorm.frame_ideal, Cert.MixNorm.frame_ref,
  Cert.ProjGates.frame_kernel, Cert.ProjGates.frame_ideal, Cert.ProjGates.frame_ref,
  Cert.CastInHm.frame_kernel, Cert.CastInHm.frame_ideal, Cert.CastInHm.frame_ref,
  Cert.CastInGates.frame_kernel, Cert.CastInGates.frame_ideal, Cert.CastInGates.frame_ref,
  Cert.CastInTail.frame_kernel, Cert.CastInTail.frame_ideal, Cert.CastInTail.frame_ref,
  Cert.CastBranch.frame_kernel, Cert.CastBranch.frame_ideal, Cert.CastBranch.frame_ref,
  Cert.CastOut.frame_kernel, Cert.CastOut.frame_ideal, Cert.CastOut.frame_ref,
  trivial, algebraic,
  trivial, Cert.Gates.value,
  trivial, Cert.FfnUp.value,
  trivial, Cert.FfnDown.value,
  trivial, Cert.Merge.value,
  trivial, Cert.OutProj.value,
  trivial, Cert.FinalNorm.value,
  trivial, Cert.ProjHyena.value,
  trivial, Cert.ProjMlstm.value,
  trivial, Cert.ProjRglru.value,
  trivial, Cert.MixNorm.value,
  trivial, Cert.ProjGates.value,
  trivial, Cert.CastInHm.value,
  trivial, Cert.CastInGates.value,
  trivial, Cert.CastInTail.value,
  trivial, Cert.CastBranch.value,
  trivial, Cert.CastOut.value⟩

end Cert.Proof

end
